-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "qscale" .f32 0x3E38AA3B#32 (((8 * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_v66) = v2 c
          ∧ r.2.mem ((c.tc : Thread Cert.Reference2Ideal.nD Cert.Reference2Ideal.τ).loc Cert.Reference2Ideal.main_v43) = v3 c
          ∧ r.2.mem ((c.tc : Thread Cert.Reference2Ideal.nD Cert.Reference2Ideal.τ).loc Cert.Reference2Ideal.main_v67) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4x8192x1536 : Shape := ⟨3, ![4, 8192, 1536]⟩
abbrev S4x8192x128 : Shape := ⟨3, ![4, 8192, 128]⟩
abbrev S_ : Shape := ⟨0, ![]⟩

class Facts : Prop where
  bitsLt_bf16_f32 : FTy.bits .bf16 < FTy.bits .f32
  bcast_S_S4x8192x1536 : S_.BroadcastsInDim S4x8192x1536 (![] : Fin 0 → Fin S4x8192x1536.rank)
  reducesTo_S4x8192x1536_S_d0_1_2 : S4x8192x1536.ReducesTo [0, 1, 2] S_
  h_S_ : 0 < S_.numel
  bcast_S_S4x8192x128 : S_.BroadcastsInDim S4x8192x128 (![] : Fin 0 → Fin S4x8192x128.rank)
  reducesTo_S4x8192x128_S_d0_1_2 : S4x8192x128.ReducesTo [0, 1, 2] S_

variable [Facts]

def fn {F : FTy → Type} [FloatOps F] (main_arg0 : FVec F S4x8192x1536 .bf16) (main_arg1 : FVec F S4x8192x128 .f32) : IVec S_ 1 :=
  let main_v0 : FVec F S4x8192x1536 .f32 := (extf .f32 · bitsLt_bf16_f32) main_arg0
  let main_v1 : FVec F S4x8192x1536 .f32 := Host.absf main_v0
  let main_cst : FVec F S_ .f32 := constant S_ .f32 0x7F800000#32
  let main_v2 : FVec F S4x8192x1536 .f32 := broadcastInDim S4x8192x1536 ![] bcast_S_S4x8192x1536 main_cst
  let main_v3 : IVec S4x8192x1536 1 := cmpf .olt main_v1 main_v2
  let main_c : IVec S_ 1 := constantI S_ 1 1#1
  let main_v4 : IVec S_ 1 := (fun x v => Host.reduce IntOp.andi x v reducesTo_S4x8192x1536_S_d0_1_2 h_S_) main_v3 main_c
  let main_v5 : FVec F S4x8192x128 .f32 := Host.absf main_arg1
  let main_cst_0 : FVec F S_ .f32 := constant S_ .f32 0x7F800000#32
  let main_v6 : FVec F S4x8192x128 .f32 := broadcastInDim S4x8192x128 ![] bcast_S_S4x8192x128 main_cst_0
  let main_v7 : IVec S4x8192x128 1 := cmpf .olt main_v5 main_v6
  let main_c_1 : IVec S_ 1 := constantI S_ 1 1#1
  let main_v8 : IVec S_ 1 := (fun x v => Host.reduce IntOp.andi x v reducesTo_S4x8192x128_S_d0_1_2 h_S_) main_v7 main_c_1
  let main_v9 : IVec S_ 1 := andi main_v4 main_v8
  main_v9
-- ==== Kernel.lean ====
abbrev S4x8192x1536 : Shape := ⟨3, ![4, 8192, 1536]⟩
abbrev S4x8192x128 : Shape := ⟨3, ![4, 8192, 128]⟩
abbrev S4x8192x512 : Shape := ⟨3, ![4, 8192, 512]⟩
abbrev S1x512x128 : Shape := ⟨3, ![1, 512, 128]⟩
abbrev S1x8192x128 : Shape := ⟨3, ![1, 8192, 128]⟩
abbrev S2x8192x128 : Shape := ⟨3, ![2, 8192, 128]⟩
abbrev S2x512x128 : Shape := ⟨3, ![2, 512, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 3
  | .vmem => 14
  | .smem => 0
  | _ => 0

abbrev bufTy : (tb : Table) → Fin (tcTables nBuf tb) → BufTy
  | .hbm, ⟨0, _⟩ => ⟨S4x8192x1536, .bf16⟩
  | .hbm, ⟨1, _⟩ => ⟨S4x8192x128, .f32⟩
  | .hbm, ⟨2, _⟩ => ⟨S4x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .f32⟩
  | .local _ .vmem, ⟨7, _⟩ => ⟨S1x8192x128, .f32⟩
  | .local _ .vmem, ⟨8, _⟩ => ⟨S1x512x128, .bf16⟩
  | .local _ .vmem, ⟨9, _⟩ => ⟨S1x512x128, .bf16⟩
  | .local _ .vmem, ⟨10, _⟩ => ⟨S2x8192x128, .bf16⟩
  | .local _ .vmem, ⟨11, _⟩ => ⟨S2x8192x128, .bf16⟩
  | .local _ .vmem, ⟨12, _⟩ => ⟨S2x512x128, .f32⟩
  | .local _ .vmem, ⟨13, _⟩ => ⟨S2x512x128, .f32⟩
  | _, _ => ⟨S4x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

def k0_cond1 (i : grid0.Coords) : BitVec 1 :=
  let arg2 : BitVec 32 := BitVec.ofNat 32 (i 2).val
  let c0_i32 : BitVec 32 := 0#32
  let v1 : BitVec 1 := Scalar.cmpi .eq arg2 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_107 : BitVec 32 := 0#32
  let c16_i32 : BitVec 32 := 16#32
  let v289 : BitVec 32 := Scalar.addi c0_i32_107 c16_i32
  let c1_i32_108 : BitVec 32 := 1#32
  ⟨c0_i32_107, v289, c1_i32_108⟩
def k0_mult1 (k0_t1 : Fin k0_t1_loop.trips) : BitVec 32 :=
  let c0_i32_107 : BitVec 32 := 0#32
  let c1_i32_108 : BitVec 32 := 1#32
  let arg12 : BitVec 32 := Scf.iv c0_i32_107 c1_i32_108 k0_t1
  let c512_i32_110 : BitVec 32 := 512#32
  let v290 : BitVec 32 := Scalar.muli arg12 c512_i32_110
  v290
def k0_off1 (k0_t1 : Fin k0_t1_loop.trips) : Fin 3 → Nat :=
  let c0_111 : Index := 0#32
  let c0_i32_107 : BitVec 32 := 0#32
  let c1_i32_108 : BitVec 32 := 1#32
  let arg12 : BitVec 32 := Scf.iv c0_i32_107 c1_i32_108 k0_t1
  let c512_i32_110 : BitVec 32 := 512#32
  let v290 : BitVec 32 := Scalar.muli arg12 c512_i32_110
  let v291 : BitVec 32 := v290
  let v292 : Index := Scalar.indexCast v291
  let c0_112 : Index := 0#32
  ![0, v292.toNat, 0]
def k0_off2 (k0_t1 : Fin k0_t1_loop.trips) : Fin 3 → Nat :=
  let c0_135 : Index := 0#32
  let c0_i32_107 : BitVec 32 := 0#32
  let c1_i32_108 : BitVec 32 := 1#32
  let arg12 : BitVec 32 := Scf.iv c0_i32_107 c1_i32_108 k0_t1
  let c512_i32_110 : BitVec 32 := 512#32
  let v290 : BitVec 32 := Scalar.muli arg12 c512_i32_110
  let v291 : BitVec 32 := v290
  let v374 : Index := Scalar.indexCast v291
  let c0_136 : Index := 0#32
  ![0, v374.toNat, 0]
def k0_off3 (k0_t1 : Fin k0_t1_loop.trips) : Fin 3 → Nat :=
  let c1_162 : Index := 1#32
  let c0_i32_107 : BitVec 32 := 0#32
  let c1_i32_108 : BitVec 32 := 1#32
  let arg12 : BitVec 32 := Scf.iv c0_i32_107 c1_i32_108 k0_t1
  let c512_i32_110 : BitVec 32 := 512#32
  let v290 : BitVec 32 := Scalar.muli arg12 c512_i32_110
  let v291 : BitVec 32 := v290
  let v469 : Index := Scalar.indexCast v291
  let c0_163 : Index := 0#32
  ![1, v469.toNat, 0]
def k0_mult2 (i : grid0.Coords) : BitVec 32 :=
  let arg2 : BitVec 32 := BitVec.ofNat 32 (i 2).val
  let c512_i32 : BitVec 32 := 512#32
  let v7 : BitVec 32 := Scalar.muli arg2 c512_i32
  v7
def k0_off4 (i : grid0.Coords) : Fin 3 → Nat :=
  let c0_3 : Index := 0#32
  let arg2 : BitVec 32 := BitVec.ofNat 32 (i 2).val
  let c512_i32 : BitVec 32 := 512#32
  let v7 : BitVec 32 := Scalar.muli arg2 c512_i32
  let v8 : BitVec 32 := v7
  let v9 : Index := Scalar.indexCast v8
  let c0_4 : Index := 0#32
  ![0, v9.toNat, 0]
@[reducible] def k0_t2_loop (i : grid0.Coords) : Scf.Loop 32 :=
  let c0_i32_42 : BitVec 32 := 0#32
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let v177 : BitVec 32 := Scalar.subi v176 c0_i32_42
  let c1_i32_43 : BitVec 32 := 1#32
  let v179 : BitVec 32 := Scalar.divsi v177 c1_i32_43
  let v180 : BitVec 32 := Scalar.muli v179 c1_i32_43
  let v181 : BitVec 32 := Scalar.addi c0_i32_42 v180
  let c1_i32_44 : BitVec 32 := 1#32
  ⟨c0_i32_42, v181, c1_i32_44⟩
def k0_mult3 (i : grid0.Coords) (k0_t2 : Fin (k0_t2_loop i).trips) : BitVec 32 :=
  let c4_i32_107 : BitVec 32 := 4#32
  let c0_i32_42 : BitVec 32 := 0#32
  let c1_i32_44 : BitVec 32 := 1#32
  let arg12 : BitVec 32 := Scf.iv c0_i32_42 c1_i32_44 k0_t2
  let v289 : BitVec 32 := Scalar.muli c4_i32_107 arg12
  let c0_i32_108 : BitVec 32 := 0#32
  let v290 : BitVec 32 := Scalar.addi v289 c0_i32_108
  let c512_i32_109 : BitVec 32 := 512#32
  let v291 : BitVec 32 := Scalar.muli v290 c512_i32_109
  v291
def k0_off5 (i : grid0.Coords) (k0_t2 : Fin (k0_t2_loop i).trips) (c0_i32_108 : BitVec 32) : Fin 3 → Nat :=
  let c0_110 : Index := 0#32
  let c4_i32_107 : BitVec 32 := 4#32
  let c0_i32_42 : BitVec 32 := 0#32
  let c1_i32_44 : BitVec 32 := 1#32
  let arg12 : BitVec 32 := Scf.iv c0_i32_42 c1_i32_44 k0_t2
  let v289 : BitVec 32 := Scalar.muli c4_i32_107 arg12
  let v290 : BitVec 32 := Scalar.addi v289 c0_i32_108
  let c512_i32_109 : BitVec 32 := 512#32
  let v291 : BitVec 32 := Scalar.muli v290 c512_i32_109
  let v292 : BitVec 32 := v291
  let v293 : Index := Scalar.indexCast v292
  let c0_111 : Index := 0#32
  ![0, v293.toNat, 0]
def k0_off6 (i : grid0.Coords) (k0_t2 : Fin (k0_t2_loop i).trips) (c0_i32_108 : BitVec 32) : Fin 3 → Nat :=
  let c1_113 : Index := 1#32
  let c4_i32_107 : BitVec 32 := 4#32
  let c0_i32_42 : BitVec 32 := 0#32
  let c1_i32_44 : BitVec 32 := 1#32
  let arg12 : BitVec 32 := Scf.iv c0_i32_42 c1_i32_44 k0_t2
  let v289 : BitVec 32 := Scalar.muli c4_i32_107 arg12
  let v290 : BitVec 32 := Scalar.addi v289 c0_i32_108
  let c512_i32_109 : BitVec 32 := 512#32
  let v291 : BitVec 32 := Scalar.muli v290 c512_i32_109
  let v292 : BitVec 32 := v291
  let v297 : Index := Scalar.indexCast v292
  let c0_114 : Index := 0#32
  ![1, v297.toNat, 0]
def k0_mult4 (i : grid0.Coords) (k0_t2 : Fin (k0_t2_loop i).trips) : BitVec 32 :=
  let c4_i32_148 : BitVec 32 := 4#32
  let c0_i32_42 : BitVec 32 := 0#32
  let c1_i32_44 : BitVec 32 := 1#32
  let arg12 : BitVec 32 := Scf.iv c0_i32_42 c1_i32_44 k0_t2
  let v353 : BitVec 32 := Scalar.muli c4_i32_148 arg12
  let c1_i32_149 : BitVec 32 := 1#32
  let v354 : BitVec 32 := Scalar.addi v353 c1_i32_149
  let c512_i32_150 : BitVec 32 := 512#32
  let v355 : BitVec 32 := Scalar.muli v354 c512_i32_150
  v355
def k0_mult5 (i : grid0.Coords) (k0_t2 : Fin (k0_t2_loop i).trips) : BitVec 32 :=
  let c4_i32_189 : BitVec 32 := 4#32
  let c0_i32_42 : BitVec 32 := 0#32
  let c1_i32_44 : BitVec 32 := 1#32
  let arg12 : BitVec 32 := Scf.iv c0_i32_42 c1_i32_44 k0_t2
  let v417 : BitVec 32 := Scalar.muli c4_i32_189 arg12
  let c2_i32_190 : BitVec 32 := 2#32
  let v418 : BitVec 32 := Scalar.addi v417 c2_i32_190
  let c512_i32_191 : BitVec 32 := 512#32
  let v419 : BitVec 32 := Scalar.muli v418 c512_i32_191
  v419
def k0_mult6 (i : grid0.Coords) (k0_t2 : Fin (k0_t2_loop i).trips) : BitVec 32 :=
  let c4_i32_230 : BitVec 32 := 4#32
  let c0_i32_42 : BitVec 32 := 0#32
  let c1_i32_44 : BitVec 32 := 1#32
  let arg12 : BitVec 32 := Scf.iv c0_i32_42 c1_i32_44 k0_t2
  let v481 : BitVec 32 := Scalar.muli c4_i32_230 arg12
  let c3_i32_231 : BitVec 32 := 3#32
  let v482 : BitVec 32 := Scalar.addi v481 c3_i32_231
  let c512_i32_232 : BitVec 32 := 512#32
  let v483 : BitVec 32 := Scalar.muli v482 c512_i32_232
  v483
@[reducible] def k0_t3_loop (i : grid0.Coords) : Scf.Loop 32 :=
  let c0_i32_42 : BitVec 32 := 0#32
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let v177 : BitVec 32 := Scalar.subi v176 c0_i32_42
  let c1_i32_43 : BitVec 32 := 1#32
  let v179 : BitVec 32 := Scalar.divsi v177 c1_i32_43
  let v180 : BitVec 32 := Scalar.muli v179 c1_i32_43
  let v181 : BitVec 32 := Scalar.addi c0_i32_42 v180
  let v178 : BitVec 32 := Scalar.addi c0_i32_42 v177
  let c1_i32_45 : BitVec 32 := 1#32
  ⟨v181, v178, c1_i32_45⟩
def k0_mult7 (i : grid0.Coords) (k0_t3 : Fin (k0_t3_loop i).trips) : BitVec 32 :=
  let c4_i32_107 : BitVec 32 := 4#32
  let c0_i32_42 : BitVec 32 := 0#32
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let v177 : BitVec 32 := Scalar.subi v176 c0_i32_42
  let c1_i32_43 : BitVec 32 := 1#32
  let v179 : BitVec 32 := Scalar.divsi v177 c1_i32_43
  let v180 : BitVec 32 := Scalar.muli v179 c1_i32_43
  let v181 : BitVec 32 := Scalar.addi c0_i32_42 v180
  let c1_i32_45 : BitVec 32 := 1#32
  let arg12 : BitVec 32 := Scf.iv v181 c1_i32_45 k0_t3
  let v289 : BitVec 32 := Scalar.muli c4_i32_107 arg12
  let c0_i32_108 : BitVec 32 := 0#32
  let v290 : BitVec 32 := Scalar.addi v289 c0_i32_108
  let c512_i32_109 : BitVec 32 := 512#32
  let v291 : BitVec 32 := Scalar.muli v290 c512_i32_109
  v291
def k0_off7 (i : grid0.Coords) (k0_t3 : Fin (k0_t3_loop i).trips) (c0_i32_108 : BitVec 32) : Fin 3 → Nat :=
  let c0_110 : Index := 0#32
  let c4_i32_107 : BitVec 32 := 4#32
  let c0_i32_42 : BitVec 32 := 0#32
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let v177 : BitVec 32 := Scalar.subi v176 c0_i32_42
  let c1_i32_43 : BitVec 32 := 1#32
  let v179 : BitVec 32 := Scalar.divsi v177 c1_i32_43
  let v180 : BitVec 32 := Scalar.muli v179 c1_i32_43
  let v181 : BitVec 32 := Scalar.addi c0_i32_42 v180
  let c1_i32_45 : BitVec 32 := 1#32
  let arg12 : BitVec 32 := Scf.iv v181 c1_i32_45 k0_t3
  let v289 : BitVec 32 := Scalar.muli c4_i32_107 arg12
  let v290 : BitVec 32 := Scalar.addi v289 c0_i32_108
  let c512_i32_109 : BitVec 32 := 512#32
  let v291 : BitVec 32 := Scalar.muli v290 c512_i32_109
  let v292 : BitVec 32 := v291
  let v293 : Index := Scalar.indexCast v292
  let c0_111 : Index := 0#32
  ![0, v293.toNat, 0]
def k0_off8 (i : grid0.Coords) (k0_t3 : Fin (k0_t3_loop i).trips) (c0_i32_108 : BitVec 32) : Fin 3 → Nat :=
  let c1_113 : Index := 1#32
  let c4_i32_107 : BitVec 32 := 4#32
  let c0_i32_42 : BitVec 32 := 0#32
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let v177 : BitVec 32 := Scalar.subi v176 c0_i32_42
  let c1_i32_43 : BitVec 32 := 1#32
  let v179 : BitVec 32 := Scalar.divsi v177 c1_i32_43
  let v180 : BitVec 32 := Scalar.muli v179 c1_i32_43
  let v181 : BitVec 32 := Scalar.addi c0_i32_42 v180
  let c1_i32_45 : BitVec 32 := 1#32
  let arg12 : BitVec 32 := Scf.iv v181 c1_i32_45 k0_t3
  let v289 : BitVec 32 := Scalar.muli c4_i32_107 arg12
  let v290 : BitVec 32 := Scalar.addi v289 c0_i32_108
  let c512_i32_109 : BitVec 32 := 512#32
  let v291 : BitVec 32 := Scalar.muli v290 c512_i32_109
  let v292 : BitVec 32 := v291
  let v297 : Index := Scalar.indexCast v292
  let c0_114 : Index := 0#32
  ![1, v297.toNat, 0]
def k0_mult8 (i : grid0.Coords) (k0_t3 : Fin (k0_t3_loop i).trips) : BitVec 32 :=
  let c4_i32_148 : BitVec 32 := 4#32
  let c0_i32_42 : BitVec 32 := 0#32
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let v177 : BitVec 32 := Scalar.subi v176 c0_i32_42
  let c1_i32_43 : BitVec 32 := 1#32
  let v179 : BitVec 32 := Scalar.divsi v177 c1_i32_43
  let v180 : BitVec 32 := Scalar.muli v179 c1_i32_43
  let v181 : BitVec 32 := Scalar.addi c0_i32_42 v180
  let c1_i32_45 : BitVec 32 := 1#32
  let arg12 : BitVec 32 := Scf.iv v181 c1_i32_45 k0_t3
  let v353 : BitVec 32 := Scalar.muli c4_i32_148 arg12
  let c1_i32_149 : BitVec 32 := 1#32
  let v354 : BitVec 32 := Scalar.addi v353 c1_i32_149
  let c512_i32_150 : BitVec 32 := 512#32
  let v355 : BitVec 32 := Scalar.muli v354 c512_i32_150
  v355
def k0_mult9 (i : grid0.Coords) (k0_t3 : Fin (k0_t3_loop i).trips) : BitVec 32 :=
  let c4_i32_189 : BitVec 32 := 4#32
  let c0_i32_42 : BitVec 32 := 0#32
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let v177 : BitVec 32 := Scalar.subi v176 c0_i32_42
  let c1_i32_43 : BitVec 32 := 1#32
  let v179 : BitVec 32 := Scalar.divsi v177 c1_i32_43
  let v180 : BitVec 32 := Scalar.muli v179 c1_i32_43
  let v181 : BitVec 32 := Scalar.addi c0_i32_42 v180
  let c1_i32_45 : BitVec 32 := 1#32
  let arg12 : BitVec 32 := Scf.iv v181 c1_i32_45 k0_t3
  let v417 : BitVec 32 := Scalar.muli c4_i32_189 arg12
  let c2_i32_190 : BitVec 32 := 2#32
  let v418 : BitVec 32 := Scalar.addi v417 c2_i32_190
  let c512_i32_191 : BitVec 32 := 512#32
  let v419 : BitVec 32 := Scalar.muli v418 c512_i32_191
  v419
def k0_mult10 (i : grid0.Coords) (k0_t3 : Fin (k0_t3_loop i).trips) : BitVec 32 :=
  let c4_i32_230 : BitVec 32 := 4#32
  let c0_i32_42 : BitVec 32 := 0#32
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let v177 : BitVec 32 := Scalar.subi v176 c0_i32_42
  let c1_i32_43 : BitVec 32 := 1#32
  let v179 : BitVec 32 := Scalar.divsi v177 c1_i32_43
  let v180 : BitVec 32 := Scalar.muli v179 c1_i32_43
  let v181 : BitVec 32 := Scalar.addi c0_i32_42 v180
  let c1_i32_45 : BitVec 32 := 1#32
  let arg12 : BitVec 32 := Scf.iv v181 c1_i32_45 k0_t3
  let v481 : BitVec 32 := Scalar.muli c4_i32_230 arg12
  let c3_i32_231 : BitVec 32 := 3#32
  let v482 : BitVec 32 := Scalar.addi v481 c3_i32_231
  let c512_i32_232 : BitVec 32 := 512#32
  let v483 : BitVec 32 := Scalar.muli v482 c512_i32_232
  v483
@[reducible] def k0_t4_loop (i : grid0.Coords) : Scf.Loop 32 :=
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let c4_i32_46 : BitVec 32 := 4#32
  let v182 : BitVec 32 := Scalar.muli v176 c4_i32_46
  let v183 : BitVec 32 := Scalar.subi arg2 v182
  let c1_i32_48 : BitVec 32 := 1#32
  let v185 : BitVec 32 := Scalar.divsi v183 c1_i32_48
  let v186 : BitVec 32 := Scalar.muli v185 c1_i32_48
  let v187 : BitVec 32 := Scalar.addi v182 v186
  let c1_i32_49 : BitVec 32 := 1#32
  ⟨v182, v187, c1_i32_49⟩
def k0_mult11 (i : grid0.Coords) (k0_t4 : Fin (k0_t4_loop i).trips) : BitVec 32 :=
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let c4_i32_46 : BitVec 32 := 4#32
  let v182 : BitVec 32 := Scalar.muli v176 c4_i32_46
  let c1_i32_49 : BitVec 32 := 1#32
  let arg12 : BitVec 32 := Scf.iv v182 c1_i32_49 k0_t4
  let c512_i32_107 : BitVec 32 := 512#32
  let v289 : BitVec 32 := Scalar.muli arg12 c512_i32_107
  v289
def k0_off9 (i : grid0.Coords) (k0_t4 : Fin (k0_t4_loop i).trips) : Fin 3 → Nat :=
  let c0_108 : Index := 0#32
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let c4_i32_46 : BitVec 32 := 4#32
  let v182 : BitVec 32 := Scalar.muli v176 c4_i32_46
  let c1_i32_49 : BitVec 32 := 1#32
  let arg12 : BitVec 32 := Scf.iv v182 c1_i32_49 k0_t4
  let c512_i32_107 : BitVec 32 := 512#32
  let v289 : BitVec 32 := Scalar.muli arg12 c512_i32_107
  let v290 : BitVec 32 := v289
  let v291 : Index := Scalar.indexCast v290
  let c0_109 : Index := 0#32
  ![0, v291.toNat, 0]
def k0_off10 (i : grid0.Coords) (k0_t4 : Fin (k0_t4_loop i).trips) : Fin 3 → Nat :=
  let c1_111 : Index := 1#32
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let c4_i32_46 : BitVec 32 := 4#32
  let v182 : BitVec 32 := Scalar.muli v176 c4_i32_46
  let c1_i32_49 : BitVec 32 := 1#32
  let arg12 : BitVec 32 := Scf.iv v182 c1_i32_49 k0_t4
  let c512_i32_107 : BitVec 32 := 512#32
  let v289 : BitVec 32 := Scalar.muli arg12 c512_i32_107
  let v290 : BitVec 32 := v289
  let v295 : Index := Scalar.indexCast v290
  let c0_112 : Index := 0#32
  ![1, v295.toNat, 0]
@[reducible] def k0_t5_loop (i : grid0.Coords) : Scf.Loop 32 :=
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let c4_i32_46 : BitVec 32 := 4#32
  let v182 : BitVec 32 := Scalar.muli v176 c4_i32_46
  let v183 : BitVec 32 := Scalar.subi arg2 v182
  let c1_i32_48 : BitVec 32 := 1#32
  let v185 : BitVec 32 := Scalar.divsi v183 c1_i32_48
  let v186 : BitVec 32 := Scalar.muli v185 c1_i32_48
  let v187 : BitVec 32 := Scalar.addi v182 v186
  let v184 : BitVec 32 := Scalar.addi v182 v183
  let c1_i32_50 : BitVec 32 := 1#32
  ⟨v187, v184, c1_i32_50⟩
def k0_mult12 (i : grid0.Coords) (k0_t5 : Fin (k0_t5_loop i).trips) : BitVec 32 :=
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let c4_i32_46 : BitVec 32 := 4#32
  let v182 : BitVec 32 := Scalar.muli v176 c4_i32_46
  let v183 : BitVec 32 := Scalar.subi arg2 v182
  let c1_i32_48 : BitVec 32 := 1#32
  let v185 : BitVec 32 := Scalar.divsi v183 c1_i32_48
  let v186 : BitVec 32 := Scalar.muli v185 c1_i32_48
  let v187 : BitVec 32 := Scalar.addi v182 v186
  let c1_i32_50 : BitVec 32 := 1#32
  let arg12 : BitVec 32 := Scf.iv v187 c1_i32_50 k0_t5
  let c512_i32_107 : BitVec 32 := 512#32
  let v289 : BitVec 32 := Scalar.muli arg12 c512_i32_107
  v289
def k0_off11 (i : grid0.Coords) (k0_t5 : Fin (k0_t5_loop i).trips) : Fin 3 → Nat :=
  let c0_108 : Index := 0#32
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let c4_i32_46 : BitVec 32 := 4#32
  let v182 : BitVec 32 := Scalar.muli v176 c4_i32_46
  let v183 : BitVec 32 := Scalar.subi arg2 v182
  let c1_i32_48 : BitVec 32 := 1#32
  let v185 : BitVec 32 := Scalar.divsi v183 c1_i32_48
  let v186 : BitVec 32 := Scalar.muli v185 c1_i32_48
  let v187 : BitVec 32 := Scalar.addi v182 v186
  let c1_i32_50 : BitVec 32 := 1#32
  let arg12 : BitVec 32 := Scf.iv v187 c1_i32_50 k0_t5
  let c512_i32_107 : BitVec 32 := 512#32
  let v289 : BitVec 32 := Scalar.muli arg12 c512_i32_107
  let v290 : BitVec 32 := v289
  let v291 : Index := Scalar.indexCast v290
  let c0_109 : Index := 0#32
  ![0, v291.toNat, 0]
def k0_off12 (i : grid0.Coords) (k0_t5 : Fin (k0_t5_loop i).trips) : Fin 3 → Nat :=
  let c1_111 : Index := 1#32
  let arg2 : BitVec 32 := BitVec.ofNat 32 (i 2).val
  let c0_i32_35 : BitVec 32 := 0#32
  let v161 : BitVec 1 := Scalar.cmpi .sgt arg2 c0_i32_35
  let v162 : BitVec 32 := Scalar.extui v161
  let c0_i32_36 : BitVec 32 := 0#32
  let v163 : BitVec 1 := Scalar.cmpi .slt arg2 c0_i32_36
  let v164 : BitVec 32 := Scalar.extui v163
  let v165 : BitVec 32 := Scalar.subi v162 v164
  let c4_i32_34 : BitVec 32 := 4#32
  let c0_i32_37 : BitVec 32 := 0#32
  let v166 : BitVec 1 := Scalar.cmpi .sgt c4_i32_34 c0_i32_37
  let v167 : BitVec 32 := Scalar.extui v166
  let c0_i32_38 : BitVec 32 := 0#32
  let v168 : BitVec 1 := Scalar.cmpi .slt c4_i32_34 c0_i32_38
  let v169 : BitVec 32 := Scalar.extui v168
  let v170 : BitVec 32 := Scalar.subi v167 v169
  let v171 : BitVec 1 := Scalar.cmpi .ne v165 v170
  let v172 : BitVec 32 := Scalar.remsi arg2 c4_i32_34
  let c0_i32_39 : BitVec 32 := 0#32
  let v173 : BitVec 1 := Scalar.cmpi .ne v172 c0_i32_39
  let v174 : BitVec 1 := Scalar.andi v171 v173
  let v160 : BitVec 32 := Scalar.divsi arg2 c4_i32_34
  let c1_i32_40 : BitVec 32 := 1#32
  let v175 : BitVec 32 := Scalar.subi v160 c1_i32_40
  let v176 : BitVec 32 := Scalar.select v174 v175 v160
  let c4_i32_46 : BitVec 32 := 4#32
  let v182 : BitVec 32 := Scalar.muli v176 c4_i32_46
  let v183 : BitVec 32 := Scalar.subi arg2 v182
  let c1_i32_48 : BitVec 32 := 1#32
  let v185 : BitVec 32 := Scalar.divsi v183 c1_i32_48
  let v186 : BitVec 32 := Scalar.muli v185 c1_i32_48
  let v187 : BitVec 32 := Scalar.addi v182 v186
  let c1_i32_50 : BitVec 32 := 1#32
  let arg12 : BitVec 32 := Scf.iv v187 c1_i32_50 k0_t5
  let c512_i32_107 : BitVec 32 := 512#32
  let v289 : BitVec 32 := Scalar.muli arg12 c512_i32_107
  let v290 : BitVec 32 := v289
  let v295 : Index := Scalar.indexCast v290
  let c0_112 : Index := 0#32
  ![1, v295.toNat, 0]
def k0_mult13 (i : grid0.Coords) : BitVec 32 :=
  let arg2 : BitVec 32 := BitVec.ofNat 32 (i 2).val
  let c512_i32_51 : BitVec 32 := 512#32
  let v188 : BitVec 32 := Scalar.muli arg2 c512_i32_51
  v188
def k0_off13 (i : grid0.Coords) : Fin 3 → Nat :=
  let c0_52 : Index := 0#32
  let arg2 : BitVec 32 := BitVec.ofNat 32 (i 2).val
  let c512_i32_51 : BitVec 32 := 512#32
  let v188 : BitVec 32 := Scalar.muli arg2 c512_i32_51
  let v189 : BitVec 32 := v188
  let v190 : Index := Scalar.indexCast v189
  let c0_53 : Index := 0#32
  ![0, v190.toNat, 0]
def k0_off14 (i : grid0.Coords) : Fin 3 → Nat :=
  let c1 : Index := 1#32
  let arg2 : BitVec 32 := BitVec.ofNat 32 (i 2).val
  let c512_i32_51 : BitVec 32 := 512#32
  let v188 : BitVec 32 := Scalar.muli arg2 c512_i32_51
  let v189 : BitVec 32 := v188
  let v194 : Index := Scalar.indexCast v189
  let c0_55 : Index := 0#32
  ![1, v194.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x8192x1536 : Shape := ⟨3, ![4, 8192, 1536]⟩
abbrev S4x8192x128 : Shape := ⟨3, ![4, 8192, 128]⟩
abbrev S4x8192x512 : Shape := ⟨3, ![4, 8192, 512]⟩
abbrev S4x8192x8x64 : Shape := ⟨4, ![4, 8192, 8, 64]⟩
abbrev S4x8x8192x64 : Shape := ⟨4, ![4, 8, 8192, 64]⟩
abbrev S4x8192x8 : Shape := ⟨3, ![4, 8192, 8]⟩
abbrev S4x8x8192 : Shape := ⟨3, ![4, 8, 8192]⟩
abbrev S4x8x8192x8192 : Shape := ⟨4, ![4, 8, 8192, 8192]⟩
abbrev S_ : Shape := ⟨0, ![]⟩
abbrev S4x8x8192x1 : Shape := ⟨4, ![4, 8, 8192, 1]⟩
abbrev S4x8x1x8192 : Shape := ⟨4, ![4, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 54
  | .vmem => 0
  | .smem => 0
  | _ => 0

abbrev bufTy : (tb : Table) → Fin (tcTables nBuf tb) → BufTy
  | .hbm, ⟨0, _⟩ => ⟨S4x8192x1536, .bf16⟩
  | .hbm, ⟨1, _⟩ => ⟨S4x8192x128, .f32⟩
  | .hbm, ⟨2, _⟩ => ⟨S4x8192x1536, .f32⟩
  | .hbm, ⟨3, _⟩ => ⟨S4x8192x512, .f32⟩
  | .hbm, ⟨4, _⟩ => ⟨S4x8192x8x64, .f32⟩
  | .hbm, ⟨5, _⟩ => ⟨S4x8x8192x64, .f32⟩
  | .hbm, ⟨6, _⟩ => ⟨S4x8192x512, .f32⟩
  | .hbm, ⟨7, _⟩ => ⟨S4x8192x8x64, .f32⟩
  | .hbm, ⟨8, _⟩ => ⟨S4x8x8192x64, .f32⟩
  | .hbm, ⟨9, _⟩ => ⟨S4x8192x512, .f32⟩
  | .hbm, ⟨10, _⟩ => ⟨S4x8192x8x64, .f32⟩
  | .hbm, ⟨11, _⟩ => ⟨S4x8x8192x64, .f32⟩
  | .hbm, ⟨12, _⟩ => ⟨S4x8192x8, .f32⟩
  | .hbm, ⟨13, _⟩ => ⟨S4x8x8192, .f32⟩
  | .hbm, ⟨14, _⟩ => ⟨S4x8x8192x8192, .f32⟩
  | .hbm, ⟨15, _⟩ => ⟨S_, .f32⟩
  | .hbm, ⟨16, _⟩ => ⟨S_, .f32⟩
  | .hbm, ⟨17, _⟩ => ⟨S4x8x8192x8192, .f32⟩
  | .hbm, ⟨18, _⟩ => ⟨S4x8x8192x8192, .f32⟩
  | .hbm, ⟨19, _⟩ => ⟨S4x8x8192x1, .f32⟩
  | .hbm, ⟨20, _⟩ => ⟨S4x8x8192x8192, .f32⟩
  | .hbm, ⟨21, _⟩ => ⟨S4x8x8192x8192, .f32⟩
  | .hbm, ⟨22, _⟩ => ⟨S4x8x1x8192, .f32⟩
  | .hbm, ⟨23, _⟩ => ⟨S4x8x8192x8192, .f32⟩
  | .hbm, ⟨24, _⟩ => ⟨S4x8x8192x8192, .f32⟩
  | .hbm, ⟨25, _⟩ => ⟨S8192, .i32⟩
  | .hbm, ⟨26, _⟩ => ⟨S1x8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S4x8x8192x8192, .i1⟩
  | .hbm, ⟨34, _⟩ => ⟨S4x8x8192x8192, .f32⟩
  | .hbm, ⟨35, _⟩ => ⟨S4x8x8192x8192, .f32⟩
  | .hbm, ⟨36, _⟩ => ⟨S_, .f32⟩
  | .hbm, ⟨37, _⟩ => ⟨S4x8x8192, .f32⟩
  | .hbm, ⟨38, _⟩ => ⟨S_, .f32⟩
  | .hbm, ⟨39, _⟩ => ⟨S4x8x8192, .f32⟩
  | .hbm, ⟨40, _⟩ => ⟨S4x8x8192, .f32⟩
  | .hbm, ⟨41, _⟩ => ⟨S4x8x8192x1, .f32⟩
  | .hbm, ⟨42, _⟩ => ⟨S4x8x8192x8192, .f32⟩
  | .hbm, ⟨43, _⟩ => ⟨S4x8x8192x8192, .f32⟩
  | .hbm, ⟨44, _⟩ => ⟨S4x8x8192x8192, .f32⟩
  | .hbm, ⟨45, _⟩ => ⟨S_, .f32⟩
  | .hbm, ⟨46, _⟩ => ⟨S4x8x8192, .f32⟩
  | .hbm, ⟨47, _⟩ => ⟨S4x8x8192x1, .f32⟩
  | .hbm, ⟨48, _⟩ => ⟨S4x8x8192x8192, .f32⟩
  | .hbm, ⟨49, _⟩ => ⟨S4x8x8192x8192, .f32⟩
  | .hbm, ⟨50, _⟩ => ⟨S4x8x8192x64, .f32⟩
  | .hbm, ⟨51, _⟩ => ⟨S4x8192x8x64, .f32⟩
  | .hbm, ⟨52, _⟩ => ⟨S4x8192x512, .f32⟩
  | .hbm, ⟨53, _⟩ => ⟨S4x8192x512, .bf16⟩
  | _, _ => ⟨S4x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1x1024 : Shape := ⟨3, ![4, 1, 1024]⟩
abbrev S1x1024 : Shape := ⟨2, ![1, 1024]⟩
abbrev S1024x1536 : Shape := ⟨2, ![1024, 1536]⟩
abbrev S1024x2048 : Shape := ⟨2, ![1024, 2048]⟩
abbrev S1024x128 : Shape := ⟨2, ![1024, 128]⟩
abbrev S1x2048 : Shape := ⟨2, ![1, 2048]⟩
abbrev S1x128 : Shape := ⟨2, ![1, 128]⟩
abbrev S4x8192x1536 : Shape := ⟨3, ![4, 8192, 1536]⟩
abbrev S4x8192x512 : Shape := ⟨3, ![4, 8192, 512]⟩
abbrev S4x8192x2048 : Shape := ⟨3, ![4, 8192, 2048]⟩
abbrev S4x8192x128 : Shape := ⟨3, ![4, 8192, 128]⟩
abbrev S1x512x1024 : Shape := ⟨3, ![1, 512, 1024]⟩
abbrev S1x1x1024 : Shape := ⟨3, ![1, 1, 1024]⟩
abbrev S1x512x1536 : Shape := ⟨3, ![1, 512, 1536]⟩
abbrev S1x512x512 : Shape := ⟨3, ![1, 512, 512]⟩
abbrev S1x512x2048 : Shape := ⟨3, ![1, 512, 2048]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S1x1536 : Shape := ⟨2, ![1, 1536]⟩
abbrev S512x2048 : Shape := ⟨2, ![512, 2048]⟩
abbrev S512x512 : Shape := ⟨2, ![512, 512]⟩
abbrev S512x128 : Shape := ⟨2, ![512, 128]⟩

abbrev nBuf : Space → Nat
  | .hbm => 16
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x1536, .bf16⟩
  | .hbm, ⟨5, _⟩ => ⟨S1024x2048, .bf16⟩
  | .hbm, ⟨6, _⟩ => ⟨S1024x2048, .bf16⟩
  | .hbm, ⟨7, _⟩ => ⟨S1024x128, .bf16⟩
  | .hbm, ⟨8, _⟩ => ⟨S1x2048, .f32⟩
  | .hbm, ⟨9, _⟩ => ⟨S1x128, .f32⟩
  | .hbm, ⟨10, _⟩ => ⟨S1x128, .f32⟩
  | .hbm, ⟨11, _⟩ => ⟨S4x8192x1536, .bf16⟩
  | .hbm, ⟨12, _⟩ => ⟨S4x8192x1536, .f32⟩
  | .hbm, ⟨13, _⟩ => ⟨S4x8192x512, .f32⟩
  | .hbm, ⟨14, _⟩ => ⟨S4x8192x2048, .f32⟩
  | .hbm, ⟨15, _⟩ => ⟨S4x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x2048, .bf16⟩
  | .local _ .vmem, ⟨9, _⟩ => ⟨S1024x2048, .bf16⟩
  | .local _ .vmem, ⟨10, _⟩ => ⟨S1024x128, .bf16⟩
  | .local _ .vmem, ⟨11, _⟩ => ⟨S1x2048, .f32⟩
  | .local _ .vmem, ⟨12, _⟩ => ⟨S1x128, .f32⟩
  | .local _ .vmem, ⟨13, _⟩ => ⟨S1x128, .f32⟩
  | .local _ .vmem, ⟨14, _⟩ => ⟨S1x512x1536, .bf16⟩
  | .local _ .vmem, ⟨15, _⟩ => ⟨S1x512x1536, .bf16⟩
  | .local _ .vmem, ⟨16, _⟩ => ⟨S1x512x1536, .f32⟩
  | .local _ .vmem, ⟨17, _⟩ => ⟨S1x512x1536, .f32⟩
  | .local _ .vmem, ⟨18, _⟩ => ⟨S1x512x512, .f32⟩
  | .local _ .vmem, ⟨19, _⟩ => ⟨S1x512x512, .f32⟩
  | .local _ .vmem, ⟨20, _⟩ => ⟨S1x512x2048, .f32⟩
  | .local _ .vmem, ⟨21, _⟩ => ⟨S1x512x2048, .f32⟩
  | .local _ .vmem, ⟨22, _⟩ => ⟨S1x512x128, .f32⟩
  | .local _ .vmem, ⟨23, _⟩ => ⟨S1x512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel2Ideal.lean ====
variable {F : FTy → Type} [FloatOps F] [Named F]
def κ : String → Option EReal := fun
  | "qscale" => some (((8 * (Real.log 2))⁻¹ : ℝ) : EReal)
  | _ => none
-- ==== Reference2Ideal.lean ====
abbrev S4x8192x1024 : Shape := ⟨3, ![4, 8192, 1024]⟩
abbrev S4x1x1024 : Shape := ⟨3, ![4, 1, 1024]⟩
abbrev S1x1024 : Shape := ⟨2, ![1, 1024]⟩
abbrev S1024x1536 : Shape := ⟨2, ![1024, 1536]⟩
abbrev S1024x2048 : Shape := ⟨2, ![1024, 2048]⟩
abbrev S1024x128 : Shape := ⟨2, ![1024, 128]⟩
abbrev S1x2048 : Shape := ⟨2, ![1, 2048]⟩
abbrev S1x128 : Shape := ⟨2, ![1, 128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1536 : Shape := ⟨3, ![4, 8192, 1536]⟩
abbrev S4x8192x512 : Shape := ⟨3, ![4, 8192, 512]⟩
abbrev S4x8192x2048 : Shape := ⟨3, ![4, 8192, 2048]⟩
abbrev S1x1x2048 : Shape := ⟨3, ![1, 1, 2048]⟩
abbrev S4x8192x128 : Shape := ⟨3, ![4, 8192, 128]⟩
abbrev S1x1x128 : Shape := ⟨3, ![1, 1, 128]⟩
abbrev S4x8192x8 : Shape := ⟨3, ![4, 8192, 8]⟩
abbrev S4x8192x4 : Shape := ⟨3, ![4, 8192, 4]⟩
abbrev S1x116 : Shape := ⟨2, ![1, 116]⟩
abbrev S4x8192x116 : Shape := ⟨3, ![4, 8192, 116]⟩
abbrev S1x1x116 : Shape := ⟨3, ![1, 1, 116]⟩

abbrev nBuf : Space → Nat
  | .hbm => 117
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x1536, .bf16⟩
  | .hbm, ⟨5, _⟩ => ⟨S1024x2048, .bf16⟩
  | .hbm, ⟨6, _⟩ => ⟨S1024x2048, .bf16⟩
  | .hbm, ⟨7, _⟩ => ⟨S1024x128, .bf16⟩
  | .hbm, ⟨8, _⟩ => ⟨S1x2048, .f32⟩
  | .hbm, ⟨9, _⟩ => ⟨S1x128, .f32⟩
  | .hbm, ⟨10, _⟩ => ⟨S1x128, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S1024x1536, .f32⟩
  | .hbm, ⟨35, _⟩ => ⟨S1024x2048, .f32⟩
  | .hbm, ⟨36, _⟩ => ⟨S1024x2048, .f32⟩
  | .hbm, ⟨37, _⟩ => ⟨S1024x128, .f32⟩
  | .hbm, ⟨38, _⟩ => ⟨S4x8192x1536, .f32⟩
  | .hbm, ⟨39, _⟩ => ⟨S4x8192x512, .f32⟩
  | .hbm, ⟨40, _⟩ => ⟨S_, .f32⟩
  | .hbm, ⟨41, _⟩ => ⟨S4x8192x512, .f32⟩
  | .hbm, ⟨42, _⟩ => ⟨S4x8192x512, .f32⟩
  | .hbm, ⟨43, _⟩ => ⟨S_, .f32⟩
  | .hbm, ⟨44, _⟩ => ⟨S_, .f32⟩
  | .hbm, ⟨45, _⟩ => ⟨S4x8192x512, .f32⟩
  | .hbm, ⟨46, _⟩ => ⟨S4x8192x512, .f32⟩
  | .hbm, ⟨47, _⟩ => ⟨S4x8192x1024, .f32⟩
  | .hbm, ⟨48, _⟩ => ⟨S4x8192x1536, .f32⟩
  | .hbm, ⟨49, _⟩ => ⟨S4x8192x1536, .bf16⟩
  | .hbm, ⟨50, _⟩ => ⟨S4x8192x2048, .f32⟩
  | .hbm, ⟨51, _⟩ => ⟨S4x8192x2048, .f32⟩
  | .hbm, ⟨52, _⟩ => ⟨S1x1x2048, .f32⟩
  | .hbm, ⟨53, _⟩ => ⟨S4x8192x2048, .f32⟩
  | .hbm, ⟨54, _⟩ => ⟨S4x8192x2048, .f32⟩
  | .hbm, ⟨55, _⟩ => ⟨S4x8192x2048, .f32⟩
  | .hbm, ⟨56, _⟩ => ⟨S4x8192x2048, .f32⟩
  | .hbm, ⟨57, _⟩ => ⟨S_, .f32⟩
  | .hbm, ⟨58, _⟩ => ⟨S4x8192x2048, .f32⟩
  | .hbm, ⟨59, _⟩ => ⟨S4x8192x2048, .f32⟩
  | .hbm, ⟨60, _⟩ => ⟨S_, .f32⟩
  | .hbm, ⟨61, _⟩ => ⟨S4x8192x2048, .f32⟩
  | .hbm, ⟨62, _⟩ => ⟨S4x8192x2048, .f32⟩
  | .hbm, ⟨63, _⟩ => ⟨S4x8192x128, .f32⟩
  | .hbm, ⟨64, _⟩ => ⟨S1x1x128, .f32⟩
  | .hbm, ⟨65, _⟩ => ⟨S4x8192x128, .f32⟩
  | .hbm, ⟨66, _⟩ => ⟨S4x8192x128, .f32⟩
  | .hbm, ⟨67, _⟩ => ⟨S4x8192x8, .f32⟩
  | .hbm, ⟨68, _⟩ => ⟨S4x8192x8, .f32⟩
  | .hbm, ⟨69, _⟩ => ⟨S_, .f32⟩
  | .hbm, ⟨70, _⟩ => ⟨S4x8192x8, .f32⟩
  | .hbm, ⟨71, _⟩ => ⟨S4x8192x8, .f32⟩
  | .hbm, ⟨72, _⟩ => ⟨S4x8192x8, .f32⟩
  | .hbm, ⟨73, _⟩ => ⟨S4x8192x8, .f32⟩
  | .hbm, ⟨74, _⟩ => ⟨S4x8192x8, .i1⟩
  | .hbm, ⟨75, _⟩ => ⟨S4x8192x8, .f32⟩
  | .hbm, ⟨76, _⟩ => ⟨S4x8192x8, .f32⟩
  | .hbm, ⟨77, _⟩ => ⟨S4x8192x8, .f32⟩
  | .hbm, ⟨78, _⟩ => ⟨S4x8192x8, .f32⟩
  | .hbm, ⟨79, _⟩ => ⟨S4x8192x8, .f32⟩
  | .hbm, ⟨80, _⟩ => ⟨S4x8192x8, .f32⟩
  | .hbm, ⟨81, _⟩ => ⟨S4x8192x8, .f32⟩
  | .hbm, ⟨82, _⟩ => ⟨S4x8192x8, .f32⟩
  | .hbm, ⟨83, _⟩ => ⟨S4x8192x8, .f32⟩
  | .hbm, ⟨84, _⟩ => ⟨S4x8192x4, .f32⟩
  | .hbm, ⟨85, _⟩ => ⟨S4x8192x4, .f32⟩
  | .hbm, ⟨86, _⟩ => ⟨S4x8192x4, .f32⟩
  | .hbm, ⟨87, _⟩ => ⟨S_, .f32⟩
  | .hbm, ⟨88, _⟩ => ⟨S4x8192x4, .f32⟩
  | .hbm, ⟨89, _⟩ => ⟨S4x8192x4, .f32⟩
  | .hbm, ⟨90, _⟩ => ⟨S_, .f32⟩
  | .hbm, ⟨91, _⟩ => ⟨S4x8192x4, .f32⟩
  | .hbm, ⟨92, _⟩ => ⟨S4x8192x4, .f32⟩
  | .hbm, ⟨93, _⟩ => ⟨S1x116, .f32⟩
  | .hbm, ⟨94, _⟩ => ⟨S1x116, .f32⟩
  | .hbm, ⟨95, _⟩ => ⟨S1x116, .f32⟩
  | .hbm, ⟨96, _⟩ => ⟨S4x8192x116, .f32⟩
  | .hbm, ⟨97, _⟩ => ⟨S_, .f32⟩
  | .hbm, ⟨98, _⟩ => ⟨S4x8192x116, .f32⟩
  | .hbm, ⟨99, _⟩ => ⟨S4x8192x116, .f32⟩
  | .hbm, ⟨100, _⟩ => ⟨S4x8192x116, .f32⟩
  | .hbm, ⟨101, _⟩ => ⟨S4x8192x116, .f32⟩
  | .hbm, ⟨102, _⟩ => ⟨S4x8192x116, .i1⟩
  | .hbm, ⟨103, _⟩ => ⟨S4x8192x116, .f32⟩
  | .hbm, ⟨104, _⟩ => ⟨S4x8192x116, .f32⟩
  | .hbm, ⟨105, _⟩ => ⟨S4x8192x116, .f32⟩
  | .hbm, ⟨106, _⟩ => ⟨S4x8192x116, .f32⟩
  | .hbm, ⟨107, _⟩ => ⟨S4x8192x116, .f32⟩
  | .hbm, ⟨108, _⟩ => ⟨S4x8192x116, .f32⟩
  | .hbm, ⟨109, _⟩ => ⟨S4x8192x116, .f32⟩
  | .hbm, ⟨110, _⟩ => ⟨S4x8192x116, .f32⟩
  | .hbm, ⟨111, _⟩ => ⟨S1x1x116, .f32⟩
  | .hbm, ⟨112, _⟩ => ⟨S4x8192x116, .f32⟩
  | .hbm, ⟨113, _⟩ => ⟨S4x8192x116, .f32⟩
  | .hbm, ⟨114, _⟩ => ⟨S4x8192x1536, .f32⟩
  | .hbm, ⟨115, _⟩ => ⟨S4x8192x512, .f32⟩
  | .hbm, ⟨116, _⟩ => ⟨S4x8192x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_v0 : Ref sig .tc := ⟨.hbm, 68, rfl⟩
abbrev main_call0_call0_cst : Ref sig .tc := ⟨.hbm, 69, rfl⟩
abbrev main_call0_call0_v0 : Ref sig .tc := ⟨.hbm, 70, rfl⟩
abbrev main_call0_call0_v1 : Ref sig .tc := ⟨.hbm, 71, rfl⟩
abbrev main_call0_call0_v2 : Ref sig .tc := ⟨.hbm, 72, rfl⟩
abbrev main_call0_call0_v3 : Ref sig .tc := ⟨.hbm, 73, rfl⟩
abbrev main_call0_call0_v4 : Ref sig .tc := ⟨.hbm, 74, rfl⟩
abbrev main_call0_call0_v5 : Ref sig .tc := ⟨.hbm, 75, rfl⟩
abbrev main_call0_call0_v6 : Ref sig .tc := ⟨.hbm, 76, rfl⟩
abbrev main_call0_call0_v7 : Ref sig .tc := ⟨.hbm, 77, rfl⟩
abbrev main_call0_call0_v8 : Ref sig .tc := ⟨.hbm, 78, rfl⟩
abbrev main_call0_call0_v9 : Ref sig .tc := ⟨.hbm, 79, rfl⟩
abbrev main_call0_call0_v10 : Ref sig .tc := ⟨.hbm, 80, rfl⟩
abbrev main_call0_call0_v11 : Ref sig .tc := ⟨.hbm, 81, rfl⟩
abbrev main_call0_v1 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_7 : Ref sig .tc := ⟨.hbm, 87, rfl⟩
abbrev main_v53 : Ref sig .tc := ⟨.hbm, 88, rfl⟩
abbrev main_v54 : Ref sig .tc := ⟨.hbm, 89, rfl⟩
abbrev main_cst_8 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_v8 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩

abbrev nD : Nat := 1
abbrev τ : Topo := Topo.v7x

variable {F : FTy → Type} [FloatOps F]
-- ==== Kernel3.lean ====
abbrev S4x8192x512 : Shape := ⟨3, ![4, 8192, 512]⟩
abbrev S4x8192x2048 : Shape := ⟨3, ![4, 8192, 2048]⟩
abbrev S4x8192x1024 : Shape := ⟨3, ![4, 8192, 1024]⟩
abbrev S4x1x1024 : Shape := ⟨3, ![4, 1, 1024]⟩
abbrev S1x1024 : Shape := ⟨2, ![1, 1024]⟩
abbrev S512x1024 : Shape := ⟨2, ![512, 1024]⟩
abbrev S1024x1024 : Shape := ⟨2, ![1024, 1024]⟩
abbrev S1024x2048 : Shape := ⟨2, ![1024, 2048]⟩
abbrev S1024x32768 : Shape := ⟨2, ![1024, 32768]⟩
abbrev S1x512x512 : Shape := ⟨3, ![1, 512, 512]⟩
abbrev S1x512x2048 : Shape := ⟨3, ![1, 512, 2048]⟩
abbrev S1x512x1024 : Shape := ⟨3, ![1, 512, 1024]⟩
abbrev S1x1x1024 : Shape := ⟨3, ![1, 1, 1024]⟩
abbrev S1024x512 : Shape := ⟨2, ![1024, 512]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 16
  | .vmem => 26
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x2048, .f32⟩
  | .hbm, ⟨3, _⟩ => ⟨S4x8192x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S1x1024, .f32⟩
  | .hbm, ⟨8, _⟩ => ⟨S1x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1024x2048, .bf16⟩
  | .hbm, ⟨13, _⟩ => ⟨S4x8192x1024, .f32⟩
  | .hbm, ⟨14, _⟩ => ⟨S1024x32768, .bf16⟩
  | .hbm, ⟨15, _⟩ => ⟨S4x8192x2048, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x2048, .f32⟩
  | .local _ .vmem, ⟨5, _⟩ => ⟨S1x512x2048, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1024x2048, .bf16⟩
  | .local _ .vmem, ⟨20, _⟩ => ⟨S1x512x1024, .f32⟩
  | .local _ .vmem, ⟨21, _⟩ => ⟨S1x512x1024, .f32⟩
  | .local _ .vmem, ⟨22, _⟩ => ⟨S1024x512, .bf16⟩
  | .local _ .vmem, ⟨23, _⟩ => ⟨S1024x512, .bf16⟩
  | .local _ .vmem, ⟨24, _⟩ => ⟨S1x512x2048, .f32⟩
  | .local _ .vmem, ⟨25, _⟩ => ⟨S1x512x2048, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S4x8192x512 : Shape := ⟨3, ![4, 8192, 512]⟩
abbrev S4x8192x2048 : Shape := ⟨3, ![4, 8192, 2048]⟩
abbrev S4x8192x1024 : Shape := ⟨3, ![4, 8192, 1024]⟩
abbrev S4x1x1024 : Shape := ⟨3, ![4, 1, 1024]⟩
abbrev S1x1024 : Shape := ⟨2, ![1, 1024]⟩
abbrev S512x1024 : Shape := ⟨2, ![512, 1024]⟩
abbrev S1024x1024 : Shape := ⟨2, ![1024, 1024]⟩
abbrev S1024x2048 : Shape := ⟨2, ![1024, 2048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S1024x32768 : Shape := ⟨2, ![1024, 32768]⟩

abbrev nBuf : Space → Nat
  | .hbm => 73
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x2048, .f32⟩
  | .hbm, ⟨3, _⟩ => ⟨S4x8192x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S1x1024, .f32⟩
  | .hbm, ⟨8, _⟩ => ⟨S1x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1024x2048, .bf16⟩
  | .hbm, ⟨13, _⟩ => ⟨S4x8192x512, .f32⟩
  | .hbm, ⟨14, _⟩ => ⟨S4x8192x512, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S1024x2048, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1, .f32⟩
  | .hbm, ⟨38, _⟩ => ⟨S4x8192x1024, .f32⟩
  | .hbm, ⟨39, _⟩ => ⟨S4x8192x1024, .f32⟩
  | .hbm, ⟨40, _⟩ => ⟨S1x1x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S_, .f32⟩
  | .hbm, ⟨48, _⟩ => ⟨S4x8192, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1, .f32⟩
  | .hbm, ⟨57, _⟩ => ⟨S4x8192x1024, .f32⟩
  | .hbm, ⟨58, _⟩ => ⟨S4x8192x1024, .f32⟩
  | .hbm, ⟨59, _⟩ => ⟨S1x1x1024, .f32⟩
  | .hbm, ⟨60, _⟩ => ⟨S4x8192x1024, .f32⟩
  | .hbm, ⟨61, _⟩ => ⟨S4x8192x1024, .f32⟩
  | .hbm, ⟨62, _⟩ => ⟨S_, .f32⟩
  | .hbm, ⟨63, _⟩ => ⟨S4x1x1024, .f32⟩
  | .hbm, ⟨64, _⟩ => ⟨S4x1x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S32768x1024, .f32⟩
  | .hbm, ⟨70, _⟩ => ⟨S1024x32768, .f32⟩
  | .hbm, ⟨71, _⟩ => ⟨S1024x32768, .bf16⟩
  | .hbm, ⟨72, _⟩ => ⟨S4x8192x2048, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel4.lean ====
abbrev S8x1024 : Shape := ⟨2, ![8, 1024]⟩
abbrev S1024x6144 : Shape := ⟨2, ![1024, 6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S1x6144, .f32⟩
  | .hbm, ⟨3, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1024x6144 : Shape := ⟨2, ![1024, 6144]⟩
abbrev S1x6144 : Shape := ⟨2, ![1, 6144]⟩
abbrev S_ : Shape := ⟨0, ![]⟩
abbrev S8x6144 : Shape := ⟨2, ![8, 6144]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S8x6144, .f32⟩
  | .hbm, ⟨14, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel5.lean ====
abbrev S4x8192x128 : Shape := ⟨3, ![4, 8192, 128]⟩
abbrev S1x512x128 : Shape := ⟨3, ![1, 512, 128]⟩
abbrev S1x128 : Shape := ⟨2, ![1, 128]⟩
abbrev S512x128 : Shape := ⟨2, ![512, 128]⟩
abbrev S512x512 : Shape := ⟨2, ![512, 512]⟩

abbrev nBuf : Space → Nat
  | .hbm => 2
  | .vmem => 5
  | .smem => 0
  | _ => 0

abbrev bufTy : (tb : Table) → Fin (tcTables nBuf tb) → BufTy
  | .hbm, ⟨0, _⟩ => ⟨S4x8192x128, .f32⟩
  | .hbm, ⟨1, _⟩ => ⟨S4x8192x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x128, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference5Ideal.lean ====
abbrev S4x8192x128 : Shape := ⟨3, ![4, 8192, 128]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S_, .f32⟩
  | .hbm, ⟨2, _⟩ => ⟨S_, .f32⟩
  | .hbm, ⟨3, _⟩ => ⟨S4x8192x128, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel6.lean ====
abbrev S32768x2048 : Shape := ⟨2, ![32768, 2048]⟩
abbrev S128x128 : Shape := ⟨2, ![128, 128]⟩
abbrev S8x256x128x128 : Shape := ⟨4, ![8, 256, 128, 128]⟩
abbrev S8x1x32768 : Shape := ⟨3, ![8, 1, 32768]⟩
abbrev S512x2048 : Shape := ⟨2, ![512, 2048]⟩
abbrev S8x4x128x128 : Shape := ⟨4, ![8, 4, 128, 128]⟩
abbrev S8x1x512 : Shape := ⟨3, ![8, 1, 512]⟩
abbrev S8x128 : Shape := ⟨2, ![8, 128]⟩
abbrev S512x128 : Shape := ⟨2, ![512, 128]⟩
abbrev S128x512 : Shape := ⟨2, ![128, 512]⟩
abbrev S1x1x128x128 : Shape := ⟨4, ![1, 1, 128, 128]⟩
abbrev S1x128 : Shape := ⟨2, ![1, 128]⟩
abbrev S1x1x128 : Shape := ⟨3, ![1, 1, 128]⟩
abbrev S1x1x8x128 : Shape := ⟨4, ![1, 1, 8, 128]⟩

abbrev nBuf : Space → Nat
  | .hbm => 7
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S128x128, .f32⟩
  | .hbm, ⟨2, _⟩ => ⟨S128x128, .f32⟩
  | .hbm, ⟨3, _⟩ => ⟨S8x256x128x128, .f32⟩
  | .hbm, ⟨4, _⟩ => ⟨S8x256x128x128, .f32⟩
  | .hbm, ⟨5, _⟩ => ⟨S8x256x128x128, .f32⟩
  | .hbm, ⟨6, _⟩ => ⟨S8x1x32768, .f32⟩
  | .local _ .vmem, ⟨0, _⟩ => ⟨S512x2048, .f32⟩
  | .local _ .vmem, ⟨1, _⟩ => ⟨S512x2048, .f32⟩
  | .local _ .vmem, ⟨2, _⟩ => ⟨S128x128, .f32⟩
  | .local _ .vmem, ⟨3, _⟩ => ⟨S128x128, .f32⟩
  | .local _ .vmem, ⟨4, _⟩ => ⟨S8x4x128x128, .f32⟩
  | .local _ .vmem, ⟨5, _⟩ => ⟨S8x4x128x128, .f32⟩
  | .local _ .vmem, ⟨6, _⟩ => ⟨S8x4x128x128, .f32⟩
  | .local _ .vmem, ⟨7, _⟩ => ⟨S8x4x128x128, .f32⟩
  | .local _ .vmem, ⟨8, _⟩ => ⟨S8x4x128x128, .f32⟩
  | .local _ .vmem, ⟨9, _⟩ => ⟨S8x4x128x128, .f32⟩
  | .local _ .vmem, ⟨10, _⟩ => ⟨S8x1x512, .f32⟩
  | .local _ .vmem, ⟨11, _⟩ => ⟨S8x1x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v2 : BitVec 32 := Scalar.muli arg8 c256_i32
  v2
def k0_off1 (k0_t1 : Fin k0_t1_loop.trips) : Fin 2 → Nat :=
  let c0 : Index := 0#32
  let c0_i32 : BitVec 32 := 0#32
  let c1_i32 : BitVec 32 := 1#32
  let arg8 : BitVec 32 := Scf.iv c0_i32 c1_i32 k0_t1
  let c256_i32 : BitVec 32 := 256#32
  let v2 : BitVec 32 := Scalar.muli arg8 c256_i32
  let v3 : BitVec 32 := v2
  let v4 : Index := Scalar.indexCast v3
  ![0, v4.toNat]
def k0_off2 (k0_t1 : Fin k0_t1_loop.trips) : Fin 2 → Nat :=
  let c0_1 : Index := 0#32
  let c0_i32 : BitVec 32 := 0#32
  let c1_i32 : BitVec 32 := 1#32
  let arg8 : BitVec 32 := Scf.iv c0_i32 c1_i32 k0_t1
  let c256_i32 : BitVec 32 := 256#32
  let v2 : BitVec 32 := Scalar.muli arg8 c256_i32
  let v3 : BitVec 32 := v2
  let c128_i32 : BitVec 32 := 128#32
  let v6 : BitVec 32 := Scalar.addi v3 c128_i32
  let v7 : Index := Scalar.indexCast v6
  ![0, v7.toNat]
def k0_off3 (k0_t1 : Fin k0_t1_loop.trips) : Fin 4 → Nat :=
  let c0_i32 : BitVec 32 := 0#32
  let c1_i32 : BitVec 32 := 1#32
  let arg8 : BitVec 32 := Scf.iv c0_i32 c1_i32 k0_t1
  let v14 : Index := Scalar.indexCast arg8
  let c0_7 : Index := 0#32
  let c0_8 : Index := 0#32
  let c0_9 : Index := 0#32
  ![v14.toNat, 0, 0, 0]
def k0_off4 (k0_t1 : Fin k0_t1_loop.trips) : Fin 3 → Nat :=
  let c0_i32 : BitVec 32 := 0#32
  let c1_i32 : BitVec 32 := 1#32
  let arg8 : BitVec 32 := Scf.iv c0_i32 c1_i32 k0_t1
  let v1517 : Index := Scalar.indexCast arg8
  let c0_172 : Index := 0#32
  let c0_173 : Index := 0#32
  ![v1517.toNat, 0, 0]
def k0_off5 (k0_t1 : Fin k0_t1_loop.trips) : Fin 4 → Nat :=
  let c0_i32 : BitVec 32 := 0#32
  let c1_i32 : BitVec 32 := 1#32
  let arg8 : BitVec 32 := Scf.iv c0_i32 c1_i32 k0_t1
  let v1570 : Index := Scalar.indexCast arg8
  let c0_175 : Index := 0#32
  let c0_176 : Index := 0#32
  let c0_177 : Index := 0#32
  ![v1570.toNat, 0, 0, 0]
def k0_off6 (k0_t1 : Fin k0_t1_loop.trips) : Fin 4 → Nat :=
  let c0_i32 : BitVec 32 := 0#32
  let c1_i32 : BitVec 32 := 1#32
  let arg8 : BitVec 32 := Scf.iv c0_i32 c1_i32 k0_t1
  let v1630 : Index := Scalar.indexCast arg8
  let c0_182 : Index := 0#32
  let c8 : Index := 8#32
  let c0_183 : Index := 0#32
  ![v1630.toNat, 0, 8, 0]
def k0_off7 (k0_t1 : Fin k0_t1_loop.trips) : Fin 4 → Nat :=
  let c0_i32 : BitVec 32 := 0#32
  let c1_i32 : BitVec 32 := 1#32
  let arg8 : BitVec 32 := Scf.iv c0_i32 c1_i32 k0_t1
  let v1690 : Index := Scalar.indexCast arg8
  let c0_188 : Index := 0#32
  let c16 : Index := 16#32
  let c0_189 : Index := 0#32
  ![v1690.toNat, 0, 16, 0]
def k0_off8 (k0_t1 : Fin k0_t1_loop.trips) : Fin 4 → Nat :=
  let c0_i32 : BitVec 32 := 0#32
  let c1_i32 : BitVec 32 := 1#32
  let arg8 : BitVec 32 := Scf.iv c0_i32 c1_i32 k0_t1
  let v1750 : Index := Scalar.indexCast arg8
  let c0_194 : Index := 0#32
  let c24 : Index := 24#32
  let c0_195 : Index := 0#32
  ![v1750.toNat, 0, 24, 0]
def k0_off9 (k0_t1 : Fin k0_t1_loop.trips) : Fin 4 → Nat :=
  let c0_i32 : BitVec 32 := 0#32
  let c1_i32 : BitVec 32 := 1#32
  let arg8 : BitVec 32 := Scf.iv c0_i32 c1_i32 k0_t1
  let v1810 : Index := Scalar.indexCast arg8
  let c0_200 : Index := 0#32
  let c32 : Index := 32#32
  let c0_201 : Index := 0#32
  ![v1810.toNat, 0, 32, 0]
def k0_off10 (k0_t1 : Fin k0_t1_loop.trips) : Fin 4 → Nat :=
  let c0_i32 : BitVec 32 := 0#32
  let c1_i32 : BitVec 32 := 1#32
  let arg8 : BitVec 32 := Scf.iv c0_i32 c1_i32 k0_t1
  let v1870 : Index := Scalar.indexCast arg8
  let c0_206 : Index := 0#32
  let c40 : Index := 40#32
  let c0_207 : Index := 0#32
  ![v1870.toNat, 0, 40, 0]
def k0_off11 (k0_t1 : Fin k0_t1_loop.trips) : Fin 4 → Nat :=
  let c0_i32 : BitVec 32 := 0#32
  let c1_i32 : BitVec 32 := 1#32
  let arg8 : BitVec 32 := Scf.iv c0_i32 c1_i32 k0_t1
  let v1930 : Index := Scalar.indexCast arg8
  let c0_212 : Index := 0#32
  let c48 : Index := 48#32
  let c0_213 : Index := 0#32
  ![v1930.toNat, 0, 48, 0]
def k0_off12 (k0_t1 : Fin k0_t1_loop.trips) : Fin 4 → Nat :=
  let c0_i32 : BitVec 32 := 0#32
  let c1_i32 : BitVec 32 := 1#32
  let arg8 : BitVec 32 := Scf.iv c0_i32 c1_i32 k0_t1
  let v1990 : Index := Scalar.indexCast arg8
  let c0_218 : Index := 0#32
  let c56 : Index := 56#32
  let c0_219 : Index := 0#32
  ![v1990.toNat, 0, 56, 0]
def k0_off13 (k0_t1 : Fin k0_t1_loop.trips) : Fin 4 → Nat :=
  let c0_i32 : BitVec 32 := 0#32
  let c1_i32 : BitVec 32 := 1#32
  let arg8 : BitVec 32 := Scf.iv c0_i32 c1_i32 k0_t1
  let v2050 : Index := Scalar.indexCast arg8
  let c0_224 : Index := 0#32
  let c64 : Index := 64#32
  let c0_225 : Index := 0#32
  ![v2050.toNat, 0, 64, 0]
def k0_off14 (k0_t1 : Fin k0_t1_loop.trips) : Fin 4 → Nat :=
  let c0_i32 : BitVec 32 := 0#32
  let c1_i32 : BitVec 32 := 1#32
  let arg8 : BitVec 32 := Scf.iv c0_i32 c1_i32 k0_t1
  let v2110 : Index := Scalar.indexCast arg8
  let c0_230 : Index := 0#32
  let c72 : Index := 72#32
  let c0_231 : Index := 0#32
  ![v2110.toNat, 0, 72, 0]
def k0_off15 (k0_t1 : Fin k0_t1_loop.trips) : Fin 4 → Nat :=
  let c0_i32 : BitVec 32 := 0#32
  let c1_i32 : BitVec 32 := 1#32
  let arg8 : BitVec 32 := Scf.iv c0_i32 c1_i32 k0_t1
  let v2170 : Index := Scalar.indexCast arg8
  let c0_236 : Index := 0#32
  let c80 : Index := 80#32
  let c0_237 : Index := 0#32
  ![v2170.toNat, 0, 80, 0]
def k0_off16 (k0_t1 : Fin k0_t1_loop.trips) : Fin 4 → Nat :=
  let c0_i32 : BitVec 32 := 0#32
  let c1_i32 : BitVec 32 := 1#32
  let arg8 : BitVec 32 := Scf.iv c0_i32 c1_i32 k0_t1
  let v2230 : Index := Scalar.indexCast arg8
  let c0_242 : Index := 0#32
  let c88 : Index := 88#32
  let c0_243 : Index := 0#32
  ![v2230.toNat, 0, 88, 0]
def k0_off17 (k0_t1 : Fin k0_t1_loop.trips) : Fin 4 → Nat :=
  let c0_i32 : BitVec 32 := 0#32
  let c1_i32 : BitVec 32 := 1#32
  let arg8 : BitVec 32 := Scf.iv c0_i32 c1_i32 k0_t1
  let v2290 : Index := Scalar.indexCast arg8
  let c0_248 : Index := 0#32
  let c96 : Index := 96#32
  let c0_249 : Index := 0#32
  ![v2290.toNat, 0, 96, 0]
def k0_off18 (k0_t1 : Fin k0_t1_loop.trips) : Fin 4 → Nat :=
  let c0_i32 : BitVec 32 := 0#32
  let c1_i32 : BitVec 32 := 1#32
  let arg8 : BitVec 32 := Scf.iv c0_i32 c1_i32 k0_t1
  let v2350 : Index := Scalar.indexCast arg8
  let c0_254 : Index := 0#32
  let c104 : Index := 104#32
  let c0_255 : Index := 0#32
  ![v2350.toNat, 0, 104, 0]
def k0_off19 (k0_t1 : Fin k0_t1_loop.trips) : Fin 4 → Nat :=
  let c0_i32 : BitVec 32 := 0#32
  let c1_i32 : BitVec 32 := 1#32
  let arg8 : BitVec 32 := Scf.iv c0_i32 c1_i32 k0_t1
  let v2410 : Index := Scalar.indexCast arg8
  let c0_260 : Index := 0#32
  let c112 : Index := 112#32
  let c0_261 : Index := 0#32
  ![v2410.toNat, 0, 112, 0]
def k0_off20 (k0_t1 : Fin k0_t1_loop.trips) : Fin 4 → Nat :=
  let c0_i32 : BitVec 32 := 0#32
  let c1_i32 : BitVec 32 := 1#32
  let arg8 : BitVec 32 := Scf.iv c0_i32 c1_i32 k0_t1
  let v2470 : Index := Scalar.indexCast arg8
  let c0_266 : Index := 0#32
  let c120 : Index := 120#32
  let c0_267 : Index := 0#32
  ![v2470.toNat, 0, 120, 0]
def k0_off21 (k0_t1 : Fin k0_t1_loop.trips) : Fin 4 → Nat :=
  let c0_i32 : BitVec 32 := 0#32
  let c1_i32 : BitVec 32 := 1#32
  let arg8 : BitVec 32 := Scf.iv c0_i32 c1_i32 k0_t1
  let v2482 : Index := Scalar.indexCast arg8
  let c1 : Index := 1#32
  let c0_271 : Index := 0#32
  let c0_272 : Index := 0#32
  ![v2482.toNat, 1, 0, 0]
def k0_off22 (k0_t1 : Fin k0_t1_loop.trips) : Fin 3 → Nat :=
  let c0_i32 : BitVec 32 := 0#32
  let c1_i32 : BitVec 32 := 1#32
  let arg8 : BitVec 32 := Scf.iv c0_i32 c1_i32 k0_t1
  let v3985 : Index := Scalar.indexCast arg8
  let c0_441 : Index := 0#32
  let c128 : Index := 128#32
  ![v3985.toNat, 0, 128]
def k0_off23 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4038 : Index := Scalar.indexCast arg8
  let c1_443 : Index := 1#32
  let c0_444 : Index := 0#32
  let c0_445 : Index := 0#32
  ![v4038.toNat, 1, 0, 0]
def k0_off24 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4098 : Index := Scalar.indexCast arg8
  let c1_450 : Index := 1#32
  let c8_451 : Index := 8#32
  let c0_452 : Index := 0#32
  ![v4098.toNat, 1, 8, 0]
def k0_off25 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4158 : Index := Scalar.indexCast arg8
  let c1_457 : Index := 1#32
  let c16_458 : Index := 16#32
  let c0_459 : Index := 0#32
  ![v4158.toNat, 1, 16, 0]
def k0_off26 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4218 : Index := Scalar.indexCast arg8
  let c1_464 : Index := 1#32
  let c24_465 : Index := 24#32
  let c0_466 : Index := 0#32
  ![v4218.toNat, 1, 24, 0]
def k0_off27 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4278 : Index := Scalar.indexCast arg8
  let c1_471 : Index := 1#32
  let c32_472 : Index := 32#32
  let c0_473 : Index := 0#32
  ![v4278.toNat, 1, 32, 0]
def k0_off28 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4338 : Index := Scalar.indexCast arg8
  let c1_478 : Index := 1#32
  let c40_479 : Index := 40#32
  let c0_480 : Index := 0#32
  ![v4338.toNat, 1, 40, 0]
def k0_off29 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4398 : Index := Scalar.indexCast arg8
  let c1_485 : Index := 1#32
  let c48_486 : Index := 48#32
  let c0_487 : Index := 0#32
  ![v4398.toNat, 1, 48, 0]
def k0_off30 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4458 : Index := Scalar.indexCast arg8
  let c1_492 : Index := 1#32
  let c56_493 : Index := 56#32
  let c0_494 : Index := 0#32
  ![v4458.toNat, 1, 56, 0]
def k0_off31 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4518 : Index := Scalar.indexCast arg8
  let c1_499 : Index := 1#32
  let c64_500 : Index := 64#32
  let c0_501 : Index := 0#32
  ![v4518.toNat, 1, 64, 0]
def k0_off32 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4578 : Index := Scalar.indexCast arg8
  let c1_506 : Index := 1#32
  let c72_507 : Index := 72#32
  let c0_508 : Index := 0#32
  ![v4578.toNat, 1, 72, 0]
def k0_off33 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4638 : Index := Scalar.indexCast arg8
  let c1_513 : Index := 1#32
  let c80_514 : Index := 80#32
  let c0_515 : Index := 0#32
  ![v4638.toNat, 1, 80, 0]
def k0_off34 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4698 : Index := Scalar.indexCast arg8
  let c1_520 : Index := 1#32
  let c88_521 : Index := 88#32
  let c0_522 : Index := 0#32
  ![v4698.toNat, 1, 88, 0]
def k0_off35 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4758 : Index := Scalar.indexCast arg8
  let c1_527 : Index := 1#32
  let c96_528 : Index := 96#32
  let c0_529 : Index := 0#32
  ![v4758.toNat, 1, 96, 0]
def k0_off36 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4818 : Index := Scalar.indexCast arg8
  let c1_534 : Index := 1#32
  let c104_535 : Index := 104#32
  let c0_536 : Index := 0#32
  ![v4818.toNat, 1, 104, 0]
def k0_off37 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4878 : Index := Scalar.indexCast arg8
  let c1_541 : Index := 1#32
  let c112_542 : Index := 112#32
  let c0_543 : Index := 0#32
  ![v4878.toNat, 1, 112, 0]
def k0_off38 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4938 : Index := Scalar.indexCast arg8
  let c1_548 : Index := 1#32
  let c120_549 : Index := 120#32
  let c0_550 : Index := 0#32
  ![v4938.toNat, 1, 120, 0]
def k0_off39 (k0_t1 : Fin k0_t1_loop.trips) : Fin 4 → Nat :=
  let c0_i32 : BitVec 32 := 0#32
  let c1_i32 : BitVec 32 := 1#32
  let arg8 : BitVec 32 := Scf.iv c0_i32 c1_i32 k0_t1
  let v4950 : Index := Scalar.indexCast arg8
  let c2 : Index := 2#32
  let c0_554 : Index := 0#32
  let c0_555 : Index := 0#32
  ![v4950.toNat, 2, 0, 0]
def k0_off40 (k0_t1 : Fin k0_t1_loop.trips) : Fin 3 → Nat :=
  let c0_i32 : BitVec 32 := 0#32
  let c1_i32 : BitVec 32 := 1#32
  let arg8 : BitVec 32 := Scf.iv c0_i32 c1_i32 k0_t1
  let v6453 : Index := Scalar.indexCast arg8
  let c0_724 : Index := 0#32
  let c256 : Index := 256#32
  ![v6453.toNat, 0, 256]
def k0_off41 (k0_t1 : Fin k0_t1_loop.trips) : Fin 4 → Nat :=
  let c0_i32 : BitVec 32 := 0#32
  let c1_i32 : BitVec 32 := 1#32
  let arg8 : BitVec 32 := Scf.iv c0_i32 c1_i32 k0_t1
  let v6506 : Index := Scalar.indexCast arg8
  let c2_726 : Index := 2#32
  let c0_727 : Index := 0#32
  let c0_728 : Index := 0#32
  ![v6506.toNat, 2, 0, 0]
def k0_off42 (k0_t1 : Fin k0_t1_loop.trips) : Fin 4 → Nat :=
  let c0_i32 : BitVec 32 := 0#32
  let c1_i32 : BitVec 32 := 1#32
  let arg8 : BitVec 32 := Scf.iv c0_i32 c1_i32 k0_t1
  let v6566 : Index := Scalar.indexCast arg8
  let c2_733 : Index := 2#32
  let c8_734 : Index := 8#32
  let c0_735 : Index := 0#32
  ![v6566.toNat, 2, 8, 0]
def k0_off43 (k0_t1 : Fin k0_t1_loop.trips) : Fin 4 → Nat :=
  let c0_i32 : BitVec 32 := 0#32
  let c1_i32 : BitVec 32 := 1#32
  let arg8 : BitVec 32 := Scf.iv c0_i32 c1_i32 k0_t1
  let v6626 : Index := Scalar.indexCast arg8
  let c2_740 : Index := 2#32
  let c16_741 : Index := 16#32
  let c0_742 : Index := 0#32
  ![v6626.toNat, 2, 16, 0]
def k0_off44 (k0_t1 : Fin k0_t1_loop.trips) : Fin 4 → Nat :=
  let c0_i32 : BitVec 32 := 0#32
  let c1_i32 : BitVec 32 := 1#32
  let arg8 : BitVec 32 := Scf.iv c0_i32 c1_i32 k0_t1
  let v6686 : Index := Scalar.indexCast arg8
  let c2_747 : Index := 2#32
  let c24_748 : Index := 24#32
  let c0_749 : Index := 0#32
  ![v6686.toNat, 2, 24, 0]
def k0_off45 (k0_t1 : Fin k0_t1_loop.trips) : Fin 4 → Nat :=
  let c0_i32 : BitVec 32 := 0#32
  let c1_i32 : BitVec 32 := 1#32
  let arg8 : BitVec 32 := Scf.iv c0_i32 c1_i32 k0_t1
  let v6746 : Index := Scalar.indexCast arg8
  let c2_754 : Index := 2#32
  let c32_755 : Index := 32#32
  let c0_756 : Index := 0#32
  ![v6746.toNat, 2, 32, 0]
def k0_off46 (k0_t1 : Fin k0_t1_loop.trips) : Fin 4 → Nat :=
  let c0_i32 : BitVec 32 := 0#32
  let c1_i32 : BitVec 32 := 1#32
  let arg8 : BitVec 32 := Scf.iv c0_i32 c1_i32 k0_t1
  let v6806 : Index := Scalar.indexCast arg8
  let c2_761 : Index := 2#32
  let c40_762 : Index := 40#32
  let c0_763 : Index := 0#32
  ![v6806.toNat, 2, 40, 0]
def k0_off47 (k0_t1 : Fin k0_t1_loop.trips) : Fin 4 → Nat :=
  let c0_i32 : BitVec 32 := 0#32
  let c1_i32 : BitVec 32 := 1#32
  let arg8 : BitVec 32 := Scf.iv c0_i32 c1_i32 k0_t1
  let v6866 : Index := Scalar.indexCast arg8
  let c2_768 : Index := 2#32
  let c48_769 : Index := 48#32
  let c0_770 : Index := 0#32
  ![v6866.toNat, 2, 48, 0]
def k0_off48 (k0_t1 : Fin k0_t1_loop.trips) : Fin 4 → Nat :=
  let c0_i32 : BitVec 32 := 0#32
  let c1_i32 : BitVec 32 := 1#32
  let arg8 : BitVec 32 := Scf.iv c0_i32 c1_i32 k0_t1
  let v6926 : Index := Scalar.indexCast arg8
  let c2_775 : Index := 2#32
  let c56_776 : Index := 56#32
  let c0_777 : Index := 0#32
  ![v6926.toNat, 2, 56, 0]
def k0_off49 (k0_t1 : Fin k0_t1_loop.trips) : Fin 4 → Nat :=
  let c0_i32 : BitVec 32 := 0#32
  let c1_i32 : BitVec 32 := 1#32
  let arg8 : BitVec 32 := Scf.iv c0_i32 c1_i32 k0_t1
  let v6986 : Index := Scalar.indexCast arg8
  let c2_782 : Index := 2#32
  let c64_783 : Index := 64#32
  let c0_784 : Index := 0#32
  ![v6986.toNat, 2, 64, 0]
def k0_off50 (k0_t1 : Fin k0_t1_loop.trips) : Fin 4 → Nat :=
  let c0_i32 : BitVec 32 := 0#32
  let c1_i32 : BitVec 32 := 1#32
  let arg8 : BitVec 32 := Scf.iv c0_i32 c1_i32 k0_t1
  let v7046 : Index := Scalar.indexCast arg8
  let c2_789 : Index := 2#32
  let c72_790 : Index := 72#32
  let c0_791 : Index := 0#32
  ![v7046.toNat, 2, 72, 0]
def k0_off51 (k0_t1 : Fin k0_t1_loop.trips) : Fin 4 → Nat :=
  let c0_i32 : BitVec 32 := 0#32
  let c1_i32 : BitVec 32 := 1#32
  let arg8 : BitVec 32 := Scf.iv c0_i32 c1_i32 k0_t1
  let v7106 : Index := Scalar.indexCast arg8
  let c2_796 : Index := 2#32
  let c80_797 : Index := 80#32
  let c0_798 : Index := 0#32
  ![v7106.toNat, 2, 80, 0]
def k0_off52 (k0_t1 : Fin k0_t1_loop.trips) : Fin 4 → Nat :=
  let c0_i32 : BitVec 32 := 0#32
  let c1_i32 : BitVec 32 := 1#32
  let arg8 : BitVec 32 := Scf.iv c0_i32 c1_i32 k0_t1
  let v7166 : Index := Scalar.indexCast arg8
  let c2_803 : Index := 2#32
  let c88_804 : Index := 88#32
  let c0_805 : Index := 0#32
  ![v7166.toNat, 2, 88, 0]
def k0_off53 (k0_t1 : Fin k0_t1_loop.trips) : Fin 4 → Nat :=
  let c0_i32 : BitVec 32 := 0#32
  let c1_i32 : BitVec 32 := 1#32
  let arg8 : BitVec 32 := Scf.iv c0_i32 c1_i32 k0_t1
  let v7226 : Index := Scalar.indexCast arg8
  let c2_810 : Index := 2#32
  let c96_811 : Index := 96#32
  let c0_812 : Index := 0#32
  ![v7226.toNat, 2, 96, 0]
def k0_off54 (k0_t1 : Fin k0_t1_loop.trips) : Fin 4 → Nat :=
  let c0_i32 : BitVec 32 := 0#32
  let c1_i32 : BitVec 32 := 1#32
  let arg8 : BitVec 32 := Scf.iv c0_i32 c1_i32 k0_t1
  let v7286 : Index := Scalar.indexCast arg8
  let c2_817 : Index := 2#32
  let c104_818 : Index := 104#32
  let c0_819 : Index := 0#32
  ![v7286.toNat, 2, 104, 0]
def k0_off55 (k0_t1 : Fin k0_t1_loop.trips) : Fin 4 → Nat :=
  let c0_i32 : BitVec 32 := 0#32
  let c1_i32 : BitVec 32 := 1#32
  let arg8 : BitVec 32 := Scf.iv c0_i32 c1_i32 k0_t1
  let v7346 : Index := Scalar.indexCast arg8
  let c2_824 : Index := 2#32
  let c112_825 : Index := 112#32
  let c0_826 : Index := 0#32
  ![v7346.toNat, 2, 112, 0]
def k0_off56 (k0_t1 : Fin k0_t1_loop.trips) : Fin 4 → Nat :=
  let c0_i32 : BitVec 32 := 0#32
  let c1_i32 : BitVec 32 := 1#32
  let arg8 : BitVec 32 := Scf.iv c0_i32 c1_i32 k0_t1
  let v7406 : Index := Scalar.indexCast arg8
  let c2_831 : Index := 2#32
  let c120_832 : Index := 120#32
  let c0_833 : Index := 0#32
  ![v7406.toNat, 2, 120, 0]
def k0_off57 (k0_t1 : Fin k0_t1_loop.trips) : Fin 4 → Nat :=
  let c0_i32 : BitVec 32 := 0#32
  let c1_i32 : BitVec 32 := 1#32
  let arg8 : BitVec 32 := Scf.iv c0_i32 c1_i32 k0_t1
  let v7418 : Index := Scalar.indexCast arg8
  let c3 : Index := 3#32
  let c0_837 : Index := 0#32
  let c0_838 : Index := 0#32
  ![v7418.toNat, 3, 0, 0]
def k0_off58 (k0_t1 : Fin k0_t1_loop.trips) : Fin 3 → Nat :=
  let c0_i32 : BitVec 32 := 0#32
  let c1_i32 : BitVec 32 := 1#32
  let arg8 : BitVec 32 := Scf.iv c0_i32 c1_i32 k0_t1
  let v8921 : Index := Scalar.indexCast arg8
  let c0_1007 : Index := 0#32
  let c384 : Index := 384#32
  ![v8921.toNat, 0, 384]
def k0_off59 (k0_t1 : Fin k0_t1_loop.trips) : Fin 4 → Nat :=
  let c0_i32 : BitVec 32 := 0#32
  let c1_i32 : BitVec 32 := 1#32
  let arg8 : BitVec 32 := Scf.iv c0_i32 c1_i32 k0_t1
  let v8974 : Index := Scalar.indexCast arg8
  let c3_1009 : Index := 3#32
  let c0_1010 : Index := 0#32
  let c0_1011 : Index := 0#32
  ![v8974.toNat, 3, 0, 0]
def k0_off60 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9034 : Index := Scalar.indexCast arg8
  let c3_1016 : Index := 3#32
  let c8_1017 : Index := 8#32
  let c0_1018 : Index := 0#32
  ![v9034.toNat, 3, 8, 0]
def k0_off61 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9094 : Index := Scalar.indexCast arg8
  let c3_1023 : Index := 3#32
  let c16_1024 : Index := 16#32
  let c0_1025 : Index := 0#32
  ![v9094.toNat, 3, 16, 0]
def k0_off62 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9154 : Index := Scalar.indexCast arg8
  let c3_1030 : Index := 3#32
  let c24_1031 : Index := 24#32
  let c0_1032 : Index := 0#32
  ![v9154.toNat, 3, 24, 0]
def k0_off63 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9214 : Index := Scalar.indexCast arg8
  let c3_1037 : Index := 3#32
  let c32_1038 : Index := 32#32
  let c0_1039 : Index := 0#32
  ![v9214.toNat, 3, 32, 0]
def k0_off64 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9274 : Index := Scalar.indexCast arg8
  let c3_1044 : Index := 3#32
  let c40_1045 : Index := 40#32
  let c0_1046 : Index := 0#32
  ![v9274.toNat, 3, 40, 0]
def k0_off65 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9334 : Index := Scalar.indexCast arg8
  let c3_1051 : Index := 3#32
  let c48_1052 : Index := 48#32
  let c0_1053 : Index := 0#32
  ![v9334.toNat, 3, 48, 0]
def k0_off66 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9394 : Index := Scalar.indexCast arg8
  let c3_1058 : Index := 3#32
  let c56_1059 : Index := 56#32
  let c0_1060 : Index := 0#32
  ![v9394.toNat, 3, 56, 0]
def k0_off67 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9454 : Index := Scalar.indexCast arg8
  let c3_1065 : Index := 3#32
  let c64_1066 : Index := 64#32
  let c0_1067 : Index := 0#32
  ![v9454.toNat, 3, 64, 0]
def k0_off68 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9514 : Index := Scalar.indexCast arg8
  let c3_1072 : Index := 3#32
  let c72_1073 : Index := 72#32
  let c0_1074 : Index := 0#32
  ![v9514.toNat, 3, 72, 0]
def k0_off69 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9574 : Index := Scalar.indexCast arg8
  let c3_1079 : Index := 3#32
  let c80_1080 : Index := 80#32
  let c0_1081 : Index := 0#32
  ![v9574.toNat, 3, 80, 0]
def k0_off70 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9634 : Index := Scalar.indexCast arg8
  let c3_1086 : Index := 3#32
  let c88_1087 : Index := 88#32
  let c0_1088 : Index := 0#32
  ![v9634.toNat, 3, 88, 0]
def k0_off71 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9694 : Index := Scalar.indexCast arg8
  let c3_1093 : Index := 3#32
  let c96_1094 : Index := 96#32
  let c0_1095 : Index := 0#32
  ![v9694.toNat, 3, 96, 0]
def k0_off72 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9754 : Index := Scalar.indexCast arg8
  let c3_1100 : Index := 3#32
  let c104_1101 : Index := 104#32
  let c0_1102 : Index := 0#32
  ![v9754.toNat, 3, 104, 0]
def k0_off73 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9814 : Index := Scalar.indexCast arg8
  let c3_1107 : Index := 3#32
  let c112_1108 : Index := 112#32
  let c0_1109 : Index := 0#32
  ![v9814.toNat, 3, 112, 0]
def k0_off74 (k0_t1 : Fin k0_t1_loop.trips) : Fin 4 → Nat :=
  let c0_i32 : BitVec 32 := 0#32
  let c1_i32 : BitVec 32 := 1#32
  let arg8 : BitVec 32 := Scf.iv c0_i32 c1_i32 k0_t1
  let v9874 : Index := Scalar.indexCast arg8
  let c3_1114 : Index := 3#32
  let c120_1115 : Index := 120#32
  let c0_1116 : Index := 0#32
  ![v9874.toNat, 3, 120, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S32768x2048 : Shape := ⟨2, ![32768, 2048]⟩
abbrev S128x128 : Shape := ⟨2, ![128, 128]⟩
abbrev S256x128x8x2x128 : Shape := ⟨5, ![256, 128, 8, 2, 128]⟩
abbrev S256x128x8x1x128 : Shape := ⟨5, ![256, 128, 8, 1, 128]⟩
abbrev S256x128x8x128 : Shape := ⟨4, ![256, 128, 8, 128]⟩
abbrev S128x256x128x8 : Shape := ⟨4, ![128, 256, 128, 8]⟩
abbrev S8x256x128x128 : Shape := ⟨4, ![8, 256, 128, 128]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S128x128, .f32⟩
  | .hbm, ⟨2, _⟩ => ⟨S128x128, .f32⟩
  | .hbm, ⟨3, _⟩ => ⟨S256x128x8x2x128, .f32⟩
  | .hbm, ⟨4, _⟩ => ⟨S256x128x8x1x128, .f32⟩
  | .hbm, ⟨5, _⟩ => ⟨S256x128x8x128, .f32⟩
  | .hbm, ⟨6, _⟩ => ⟨S128x256x128x8, .f32⟩
  | .hbm, ⟨7, _⟩ => ⟨S8x256x128x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Common.lean ====
/-
What every run of the fox body shares: the closed form of its branch condition over the grid points (the
keys and values are prepared at the first query tile of each head pair), its staging and scratch buffers.
-/
module

public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 256 := Nat.lt_of_lt_of_eq t.isLt N_0
    have e0 : (grid0.coords t 0).val = t.val / 64 % 4 := Pipeline.Grid.coords_val t 0 (by decide) rfl
    have e1 : (grid0.coords t 1).val = t.val / 16 % 4 := Pipeline.Grid.coords_val t 1 (by decide) rfl
    have e2 : (grid0.coords t 2).val = t.val / 1 % 16 := Pipeline.Grid.coords_val t 2 (by decide) rfl
    simp only [cond0_0, k0_cond1, e0, e1, e2]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x128 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x8192x128 .bf16 := Memref.whole cc0_scratch0
abbrev scM0_1 : Memref sig .tc .vmem S2x8192x128 .bf16 := Memref.whole cc0_scratch1
abbrev scM0_2 : Memref sig .tc .vmem S2x512x128 .f32 := Memref.whole cc0_scratch2
abbrev scM0_3 : Memref sig .tc .vmem S2x512x128 .f32 := Memref.whole cc0_scratch3
/-- The scratch `arg8` the kernel carries between points, as a view: what it holds is stated through it. -/
abbrev VS0_0 : View sig .tc .vmem S2x8192x128 .bf16 := scM0_0.view
/-- The scratch `arg9` the kernel carries between points, as a view: what it holds is stated through it. -/
abbrev VS0_1 : View sig .tc .vmem S2x8192x128 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Launch

end
-- ==== Proof.IdealFrame.lean ====
/-
The frame of the idealised kernel: its run with the output and the scratch left unnamed. The body is run
from arbitrary buffers, so no precondition is needed.
-/
module

public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import proofs.«01_k».proof.Proof.Common

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- The body run to its end from any buffers: the four input buffers keep their contents, the output and the
    scratch buffers hold something. Both values of the branch condition. -/
theorem run_any (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8192x128 .f32) (harg6 : arg6.IsWhole) (arg7 : Memref sig .tc .vmem S1x512x128 .bf16) (harg7 : arg7.IsWhole) (arg8 : Memref sig .tc .vmem S2x8192x128 .bf16) (harg8 : arg8.IsWhole) (arg9 : Memref sig .tc .vmem S2x8192x128 .bf16) (harg9 : arg9.IsWhole) (arg10 : Memref sig .tc .vmem S2x512x128 .f32) (harg10 : arg10.IsWhole) (arg11 : Memref sig .tc .vmem S2x512x128 .f32) (harg11 : arg11.IsWhole)
    (x0 : Vec F S1x512x128 .bf16) (x1 : Vec F S1x8192x128 .bf16) (x2 : Vec F S1x8192x128 .bf16) (x3 : Vec F S1x8192x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_fox i arg3 harg3 arg4 harg4 arg5 harg5 arg6 harg6 arg7 harg7 arg8 harg8 arg9 harg9 arg10 harg10 arg11 harg11) K := by
  simp only [cc0_fox_eq_skeleton]; unfold cc0_fox_skel
  simp only [k0_part21_eq_skeleton, k0_part22_eq_skeleton, k0_part23_eq_skeleton, k0_part24_eq_skeleton, k0_part25_eq_skeleton, k0_part26_eq_skeleton, k0_part27_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3
  by_cases hc0 : cond0_0 i
  all_goals
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

variable (m : (ℓ : Loc nD τ sig) → Buf (Elt F) ℓ) (ρ : Dev nD → PrngReg)

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The pipeline's proof data: the arrays as the region finds them; after the body each input's buffer at its
    block, the output at anything; the scratch at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 6400000 in
/-- The body at any point: the run from any buffers, the scratch taken from the invariant and given back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = Pipeline.ΦA spec0 c from rfl, show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩⟩
  iapply (run_any c (grid0.coords t) _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The invariant is the class's throughout. -/
theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 2 rfl).trans ((A_eq m c 2).trans (V_main_arg0 m c)),
      (Pipeline.RDat.FramePost.arr_in h c 3 rfl).trans ((A_eq m c 3).trans (V_main_arg1 m c))⟩) (run_main m ρ)

/-- The frame: termination, unchanged arguments, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Launch

end
-- ==== Proof.Words.lean ====
module
public import Idealize.ShloMosaic.Lib.Pointwise
/-!
# Lane tests

The kernel picks lanes by comparing a lane number, a 32-bit word, with a constant.  These lemmas turn
such a selection into an `if` on natural numbers.
-/
@[expose] public section
noncomputable section
namespace Cert.Fox
open Idealize.ShloMosaic

theorem toInt_small {a : ℕ} (h : a < 2147483648) : (BitVec.ofNat 32 a).toInt = a := by
  rw [BitVec.toInt_ofNat']
  exact Int.bmod_eq_of_le (by omega) (by omega)

theorem cmpi_eq_nat {a b : ℕ} (ha : a < 2147483648) (hb : b < 2147483648) :
    IntOp.cmpi .eq (BitVec.ofNat 32 a) (BitVec.ofNat 32 b) = BitVec.ofBool (decide (a = b)) := by
  unfold IntOp.cmpi
  congr 1
  rw [beq_eq_decide]
  refine decide_eq_decide.2 ⟨fun h => ?_, fun h => by rw [h]⟩
  have := congrArg BitVec.toInt h
  rw [toInt_small ha, toInt_small hb] at this
  exact_mod_cast this

theorem cmpi_sge_nat {a b : ℕ} (ha : a < 2147483648) (hb : b < 2147483648) :
    IntOp.cmpi .sge (BitVec.ofNat 32 a) (BitVec.ofNat 32 b) = BitVec.ofBool (decide (b ≤ a)) := by
  unfold IntOp.cmpi
  congr 1
  show decide ((BitVec.ofNat 32 b).toInt ≤ (BitVec.ofNat 32 a).toInt) = _
  rw [toInt_small ha, toInt_small hb]
  exact decide_eq_decide.2 (by omega)

theorem cmpi_sle_nat {a b : ℕ} (ha : a < 2147483648) (hb : b < 2147483648) :
    IntOp.cmpi .sle (BitVec.ofNat 32 a) (BitVec.ofNat 32 b) = BitVec.ofBool (decide (a ≤ b)) := by
  unfold IntOp.cmpi
  congr 1
  show decide ((BitVec.ofNat 32 a).toInt ≤ (BitVec.ofNat 32 b).toInt) = _
  rw [toInt_small ha, toInt_small hb]
  exact decide_eq_decide.2 (by omega)

theorem cmpi_slt_nat {a b : ℕ} (ha : a < 2147483648) (hb : b < 2147483648) :
    IntOp.cmpi .slt (BitVec.ofNat 32 a) (BitVec.ofNat 32 b) = BitVec.ofBool (decide (a < b)) := by
  unfold IntOp.cmpi
  congr 1
  show decide ((BitVec.ofNat 32 a).toInt < (BitVec.ofNat 32 b).toInt) = _
  rw [toInt_small ha, toInt_small hb]
  exact decide_eq_decide.2 (by omega)

theorem andi_bool (p q : Bool) : IntOp.andi (BitVec.ofBool p) (BitVec.ofBool q) = BitVec.ofBool (p && q) := by
  cases p <;> cases q <;> rfl

theorem select_bool {α : Type} (p : Bool) (a b : α) :
    Scalar.select (BitVec.ofBool p) a b = if p = true then a else b := by
  cases p <;> rfl

end Cert.Fox
-- ==== Proof.Tile.lean ====
module
public import proofs.«01_k».proof.Proof.Gen.KernelIdeal.Skeleton
public import Idealize.ShloMosaic.Lib.Pointwise
public import proofs.«01_k».proof.Proof.Words
/-!
# One tile of the running softmax

The kernel keeps, for every query row, a running maximum `M` (repeated over the 128 lanes) and the
128 lanes `A` of a running sum of weighted value rows.  `Good` says what the two hold once `N r` keys
are absorbed for row `r`; `tile_step` says that one tile of 512 keys takes `Good` to `Good`.
The maximum only has to be *some* real number: it cancels in the final quotient.
-/
@[expose] public section
set_option maxRecDepth 16384
noncomputable section
namespace Cert.KernelIdeal.Fox
open Idealize.ShloMosaic Cert.KernelIdeal.Gen

/-- The running pair after `N r` keys of row `r`, for scores `sc` and value rows `vm`: either nothing
was absorbed, or `M` is some real `μ` and `A` is the sum of the value rows weighted by `2^(sc - μ)`. -/
def Good (sc : ℕ → ℕ → ℝ) (vm : ℕ → ℕ → ℝ) (N : ℕ → ℕ) (M A : Vec Ideal S1x512x128 .f32) : Prop :=
  ∀ r : Fin 512,
    (N r = 0 ∧ (∀ l : Fin 128, M (ix3 0 r l) = (⊥ : EReal)) ∧ ∀ l : Fin 128, A (ix3 0 r l) = (0 : EReal)) ∨
    ∃ μ : ℝ, (∀ l : Fin 128, M (ix3 0 r l) = (μ : EReal)) ∧
      ∀ l : Fin 128, A (ix3 0 r l)
        = ((∑ s ∈ Finset.range (N r), (2 : ℝ) ^ (sc r s - μ) * vm s l : ℝ) : EReal)

/-- A finite sum of reals, read in the extended reals. -/
theorem coe_sum' {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a row with at least one allowed entry is a real number. -/
theorem fold_max_real (cnt : ℕ) (h1 : 1 ≤ cnt) (f : Fin 512 → ℝ) (X : Fin 512 → EReal)
    (hX : ∀ c, X c = if c.val < cnt then (f c : EReal) else ⊥) :
    ∃ μ : ℝ, Finset.fold max (⊥ : EReal) X Finset.univ = (μ : EReal) := by
  have hbot : (⊥ : EReal) < Finset.fold max (⊥ : EReal) X Finset.univ := by
    rw [Finset.lt_fold_max]
    refine Or.inr ⟨⟨0, by norm_num⟩, Finset.mem_univ _, ?_⟩
    rw [hX, if_pos (show 0 < cnt by omega)]
    exact EReal.bot_lt_coe _
  have htop : Finset.fold max (⊥ : EReal) X Finset.univ < ⊤ := by
    rw [Finset.fold_max_lt]
    refine ⟨bot_lt_top, fun c _ => ?_⟩
    rw [hX]
    split
    · exact EReal.coe_lt_top _
    · exact bot_lt_top
  exact ⟨_, (EReal.coe_toReal htop.ne hbot.ne').symm⟩

theorem pay29_ix (X : FVec Ideal S512x512 .f32) (m : Vec Ideal S1x512x128 .f32) (r : Fin 512)
    (l : Fin 128) :
    k0_pay29 X m (ix2 r l) = max (m (ix3 0 r l)) (Finset.fold max (⊥ : EReal) (fun x => X (ix2 r x)) Finset.univ) := by
  have h : (Ideal.ofBits FTy.f32 4286578688#32 : EReal) = ⊥ := by simp [Ideal.ofBits, Ideal.ieee]
  rw [← h]
  pointwise [k0_pay29, k0_pay28]

theorem pay31_ix (X : FVec Ideal S512x512 .f32) (m : Vec Ideal S1x512x128 .f32) (r : Fin 512)
    (l : Fin 128) : k0_pay31 X m (ix3 0 r l) = k0_pay29 X m (ix2 r l) := by
  pointwise [k0_pay31]

/-- The tile step: a tile whose row `r` holds the scores of its first `cnt r` keys, and `-∞` beyond. -/
theorem tile_step (sc : ℕ → ℕ → ℝ) (vm : ℕ → ℕ → ℝ) (B : ℕ) (cnt : ℕ → ℕ)
    (M A : Vec Ideal S1x512x128 .f32) (X : FVec Ideal S512x512 .f32) (vt : Vec Ideal S1x512x128 .bf16)
    (hG : Good sc vm (fun _ => B) M A)
    (h1 : ∀ r : Fin 512, 1 ≤ cnt r) (h512 : ∀ r : Fin 512, cnt r ≤ 512)
    (hX : ∀ r c : Fin 512, X (ix2 r c) = if c.val < cnt r then ((sc r (B + c) : ℝ) : EReal) else ⊥)
    (hv : ∀ (c : Fin 512) (l : Fin 128), vt (ix3 0 c l) = ((vm (B + c) l : ℝ) : EReal)) :
    Good sc vm (fun r => B + cnt r) (k0_pay31 X M) (k0_pay30 X M A vt) := by
  intro r
  obtain ⟨ν, hν⟩ := fold_max_real (cnt r) (h1 r) (fun c => sc r (B + c)) (fun x => X (ix2 r x)) (hX r)
  -- the new maximum is real, and the same on every lane
  have hM : ∃ μ : ℝ, ∀ l : Fin 128, k0_pay29 X M (ix2 r l) = (μ : EReal) := by
    rcases hG r with ⟨_, hm, _⟩ | ⟨μ, hm, _⟩
    · exact ⟨ν, fun l => by rw [pay29_ix, hm, hν]; exact max_eq_right bot_le⟩
    · exact ⟨max μ ν, fun l => by rw [pay29_ix, hm, hν]; exact (EReal.coe_strictMono.monotone.map_max (a := μ) (b := ν)).symm⟩
  obtain ⟨μ, hμ⟩ := hM
  refine Or.inr ⟨μ, fun l => by rw [pay31_ix]; exact hμ l, fun l => ?_⟩
  have hA : k0_pay30 X M A vt (ix3 0 r l) = Ideal.exp2 (M (ix3 0 r l) - (μ : EReal)) * A (ix3 0 r l)
      + ∑ x, Ideal.exp2 (X (ix2 r x) - (μ : EReal)) * vt (ix3 0 x l) := by
    have h : k0_pay30 X M A vt (ix3 0 r l) = FloatOps.exp2 (M (ix3 0 r l) - k0_pay29 X M (ix2 r l)) * A (ix3 0 r l) +
      ∑ x : Fin 512, FloatOps.exp2 (X (ix2 r x) -
              if h : x.val < 128 then k0_pay29 X M (ix2 r ⟨x.val, h⟩)
              else
                if h : x.val - 128 < 128 then k0_pay29 X M (ix2 r ⟨x.val - 128, h⟩)
                else
                  if h : x.val - 128 - 128 < 128 then k0_pay29 X M (ix2 r ⟨x.val - 128 - 128, h⟩)
                  else k0_pay29 X M (ix2 r ⟨x.val - 128 - 128 - 128, by omega⟩)) * vt (ix3 0 x l) := by
      pointwise [k0_pay30, k0_pay28]
    rw [h]
    simp only [hμ, dite_eq_ite, ite_self]
    rfl
  have hT : ∑ x, Ideal.exp2 (X (ix2 r x) - (μ : EReal)) * vt (ix3 0 x l)
      = ((∑ c ∈ Finset.range (cnt r), (2 : ℝ) ^ (sc r (B + c) - μ) * vm (B + c) l : ℝ) : EReal) := by
    have e : ∀ x : Fin 512, Ideal.exp2 (X (ix2 r x) - (μ : EReal)) * vt (ix3 0 x l)
        = (((if x.val < cnt r then (2 : ℝ) ^ (sc r (B + x) - μ) * vm (B + x) l else 0 : ℝ)) : EReal) := by
      intro x
      rw [hX, hv]
      by_cases hx : x.val < cnt r
      · rw [if_pos hx, if_pos hx, ← EReal.coe_sub, Ideal.exp2_coe, ← EReal.coe_mul]; rfl
      · rw [if_neg hx, if_neg hx, EReal.bot_sub, Ideal.exp2_bot, zero_mul]; rfl
    rw [Finset.sum_congr rfl (fun x _ => e x), ← coe_sum']
    congr 1
    rw [Fin.sum_univ_eq_sum_range (fun x => if x < cnt r then (2 : ℝ) ^ (sc r (B + x) - μ) * vm (B + x) l else 0) 512,
      ← Finset.sum_filter]
    congr 1
    ext x
    have := h512 r
    simp only [Finset.mem_filter, Finset.mem_range]
    omega
  rw [hA, hT]
  rcases hG r with ⟨hB, hm, ha⟩ | ⟨μ₀, hm, ha⟩
  · simp only at hB
    subst hB
    rw [hm, ha, mul_zero, zero_add]
    simp only [zero_add]
  · rw [hm, ha, ← EReal.coe_sub, Ideal.exp2_coe, ← EReal.coe_mul, ← EReal.coe_add]
    congr 1
    rw [Finset.sum_range_add, Finset.mul_sum]
    congr 1
    refine Finset.sum_congr rfl fun s _ => ?_
    rw [← mul_assoc]
    congr 1
    change (2 : ℝ) ^ (μ₀ - μ) * (2 : ℝ) ^ (sc r s - μ₀) = _
    rw [← Real.rpow_add (by norm_num)]
    congr 1
    ring

/-- The scores of one tile: the products of real rows. -/
theorem score_tile (qm : ℕ → ℕ → ℝ) (km : ℕ → ℕ → ℝ) (B : ℕ) (q : FVec Ideal S512x128 .bf16)
    (kt : Vec Ideal S1x512x128 .bf16)
    (hq : ∀ (r : Fin 512) (l : Fin 128), q (ix2 r l) = ((qm r l : ℝ) : EReal))
    (hk : ∀ (c : Fin 512) (l : Fin 128), kt (ix3 0 c l) = ((km (B + c) l : ℝ) : EReal)) (r c : Fin 512) :
    k0_pay23 q kt (ix2 r c) = ((∑ l ∈ Finset.range 128, qm r l * km (B + c) l : ℝ) : EReal) := by
  have h : k0_pay23 q kt (ix2 r c) = ∑ x : Fin 128, q (ix2 r x) * kt (ix3 0 c x) := by
    pointwise [k0_pay23]
  rw [h, ← Fin.sum_univ_eq_sum_range (fun l => qm r l * km (B + c) l) 128, coe_sum']
  exact Finset.sum_congr rfl fun x _ => by rw [hq, hk, ← EReal.coe_mul]

/-- The masked scores of the diagonal tile. -/
theorem masked_tile (X : FVec Ideal S512x512 .f32) (r c : Fin 512) :
    k0_pay163 (iota .tc S512x512 32 [0] iota_S512x512_d0_w32) (iota .tc S512x512 32 [1] iota_S512x512_d1_w32) X (ix2 r c)
      = if c.val < r.val + 1 then X (ix2 r c) else (⊥ : EReal) := by
  have hm : (Named.named κ "mask" 4048155338#32 : Ideal .f32) = (⊥ : EReal) :=
    IdealRules.named_const.ideal_named_scalar _ _ _ _ rfl
  have h : k0_pay163 (iota .tc S512x512 32 [0] iota_S512x512_d0_w32) (iota .tc S512x512 32 [1] iota_S512x512_d1_w32) X (ix2 r c)
      = Scalar.select (IntOp.cmpi CmpIPredicate.sge (BitVec.ofNat 32 r.val) (BitVec.ofNat 32 c.val)) (X (ix2 r c)) (⊥ : EReal) := by
    rw [← hm]
    pointwise [k0_pay163]
  rw [h, Cert.Fox.cmpi_sge_nat (by omega) (by omega), Cert.Fox.select_bool]
  have e : c.val ≤ r.val ↔ c.val < r.val + 1 := by omega
  simp only [decide_eq_true_eq, e]

end Cert.KernelIdeal.Fox
-- ==== Proof.Trips.lean ====
module
public import proofs.«01_k».proof.Proof.Gen.KernelIdeal.Loops
public import proofs.«01_k».proof.Proof.Tile
public import Idealize.ShloMosaic.Lib.WritesUnit
public import Idealize.ShloMosaic.Lib.Pipeline.ValueKit
/-!
# The loops over the tiles below the diagonal

Before a trip the two scratch buffers hold `Good` pairs for both heads; a trip takes a tile (or four
tiles) of 512 keys more.  So the loops absorb all the tiles below the diagonal.
-/
@[expose] public section
set_option maxRecDepth 16384
noncomputable section
namespace Cert.KernelIdeal.Fox
open Idealize.ShloMosaic Cert.KernelIdeal.Gen

/-! ## The two slots of a scratch buffer, and the tiles of a widened array -/

abbrev slotR0 : Rect S2x512x128 := Rect.unit (s := S2x512x128) ![0, 0, 0] S1x512x128.size inb_S2x512x128_S1x512x128_0_0_0
abbrev slotR1 : Rect S2x512x128 := Rect.unit (s := S2x512x128) ![1, 0, 0] S1x512x128.size inb_S2x512x128_S1x512x128_1_0_0

section Slots
variable (m : Memref sig .tc .vmem S2x512x128 .f32) (f : BufTy.Contents (Elt Ideal) m.view.ty)

abbrev slot0 : Vec Ideal S1x512x128 .f32 := m.view.readAt (Elt Ideal) slotR0.toLoadRect f
abbrev slot1 : Vec Ideal S1x512x128 .f32 := m.view.readAt (Elt Ideal) slotR1.toLoadRect f

theorem slot0_ix (r : Fin 512) (l : Fin 128) : slot0 m f (ix3 0 r l) = m.view.read (Elt Ideal) f (ix3 0 r l) := by
  show View.ld (m.view.read (Elt Ideal) f) slotR0 (ix3 0 r l) = _
  exact View.ld_unit_apply_of _ _ _ _ _ _ (by intro a; fin_cases a <;> simp [ix3])

theorem slot1_ix (r : Fin 512) (l : Fin 128) : slot1 m f (ix3 0 r l) = m.view.read (Elt Ideal) f (ix3 1 r l) := by
  show View.ld (m.view.read (Elt Ideal) f) slotR1 (ix3 0 r l) = _
  exact View.ld_unit_apply_of _ _ _ _ _ _ (by intro a; fin_cases a <;> simp [ix3])

theorem vec_ext {u v : Vec Ideal S1x512x128 .f32} (h : ∀ (r : Fin 512) (l : Fin 128), u (ix3 0 r l) = v (ix3 0 r l)) : u = v := by
  funext j
  have e : j = ix3 (0 : Fin 1) (⟨(j 1).val, (j 1).isLt⟩ : Fin 512) (⟨(j 2).val, (j 2).isLt⟩ : Fin 128) := by
    funext a
    apply Fin.ext
    fin_cases a
    · have : (j 0).val < 1 := (j 0).isLt
      show (j 0).val = 0
      omega
    · rfl
    · rfl
  rw [e]
  exact h _ _

variable (p : Vec Ideal S1x512x128 .f32) (L : List (View.Piece (Elt Ideal) S2x512x128 .f32))

theorem slot0_cons0 : slot0 m (m.view.writes (Elt Ideal) f (⟨slotR0, p⟩ :: L)) = p :=
  vec_ext fun r l => by
    rw [slot0_ix]
    exact View.read_writes_cons_unit_of_mem (off' := ![0, 0, 0]) m.view f inb_S2x512x128_S1x512x128_0_0_0 p L (ix3 0 r l) (ix3 0 r l) rfl (by intro a; fin_cases a <;> simp [ix3])

theorem slot1_cons1 : slot1 m (m.view.writes (Elt Ideal) f (⟨slotR1, p⟩ :: L)) = p :=
  vec_ext fun r l => by
    rw [slot1_ix]
    exact View.read_writes_cons_unit_of_mem (off' := ![1, 0, 0]) m.view f inb_S2x512x128_S1x512x128_1_0_0 p L (ix3 1 r l) (ix3 0 r l) rfl (by intro a; fin_cases a <;> simp [ix3])

theorem slot0_cons1 : slot0 m (m.view.writes (Elt Ideal) f (⟨slotR1, p⟩ :: L)) = slot0 m (m.view.writes (Elt Ideal) f L) :=
  vec_ext fun r l => by
    rw [slot0_ix, slot0_ix]
    exact View.read_writes_cons_unit_of_not_mem _ _ _ _ _ _ rfl 0 (Or.inl (by simp [ix3]))

theorem slot1_cons0 : slot1 m (m.view.writes (Elt Ideal) f (⟨slotR0, p⟩ :: L)) = slot1 m (m.view.writes (Elt Ideal) f L) :=
  vec_ext fun r l => by
    rw [slot1_ix, slot1_ix]
    exact View.read_writes_cons_unit_of_not_mem _ _ _ _ _ _ rfl 0 (Or.inr (by simp [ix3]))

theorem rc_00 : m.view.readCov (⟨slotR0, p⟩ :: L) slotR0.toLoadRect = p := slot0_cons0 m _ p L
theorem rc_11 : m.view.readCov (⟨slotR1, p⟩ :: L) slotR1.toLoadRect = p := slot1_cons1 m _ p L
theorem rc_01 : m.view.readCov (⟨slotR1, p⟩ :: L) slotR0.toLoadRect = m.view.readCov L slotR0.toLoadRect := slot0_cons1 m _ p L
theorem rc_10 : m.view.readCov (⟨slotR0, p⟩ :: L) slotR1.toLoadRect = m.view.readCov L slotR1.toLoadRect := slot1_cons0 m _ p L

end Slots

/-- A tile of 512 rows of a widened array. -/
abbrev tileAt (m : Memref sig .tc .vmem S2x8192x128 .bf16) (X : BufTy.Contents (Elt Ideal) m.view.ty)
    (off : Fin 3 → ℕ) (inb : ∀ a, off a + S1x512x128.size a ≤ S2x8192x128.size a) : Vec Ideal S1x512x128 .bf16 :=
  m.view.readAt (Elt Ideal) (Rect.unit (s := S2x8192x128) off S1x512x128.size inb).toLoadRect X

theorem tileAt_ix (m : Memref sig .tc .vmem S2x8192x128 .bf16) (X : BufTy.Contents (Elt Ideal) m.view.ty)
    (off : Fin 3 → ℕ) (inb : ∀ a, off a + S1x512x128.size a ≤ S2x8192x128.size a) (h : Fin 2) (n : ℕ)
    (hoff : off = ![h.val, 512 * n, 0]) (f : ℕ → ℕ → ℕ → ℝ)
    (hX : ∀ (h : Fin 2) (s : Fin 8192) (l : Fin 128), m.view.read (Elt Ideal) X (ix3 h s l) = ((f h s l : ℝ) : EReal))
    (r : Fin 512) (l : Fin 128) : tileAt m X off inb (ix3 0 r l) = ((f h (512 * n + r) l : ℝ) : EReal) := by
  have hn : 512 * n + 512 ≤ 8192 := by
    have := inb 1
    rw [hoff] at this
    exact this
  have hs : 512 * n + r.val < 8192 := by omega
  show View.ld (m.view.read (Elt Ideal) X) (Rect.unit (s := S2x8192x128) off S1x512x128.size inb) (ix3 0 r l) = _
  rw [View.ld_unit_apply_of _ _ _ _ _ (ix3 h (⟨512 * n + r.val, hs⟩ : Fin 8192) l)
    (by subst hoff; intro a; fin_cases a <;> simp [ix3]), hX]

/-! ## The step on the two slots -/

/-- One tile absorbed by the pair of maximum and sum. -/
def st (q : FVec Ideal S512x128 .bf16) (kt vt : Vec Ideal S1x512x128 .bf16)
    (p : Vec Ideal S1x512x128 .f32 × Vec Ideal S1x512x128 .f32) : Vec Ideal S1x512x128 .f32 × Vec Ideal S1x512x128 .f32 :=
  (k0_pay31 (k0_pay23 q kt) p.1, k0_pay30 (k0_pay23 q kt) p.1 p.2 vt)

/-- The scores of widened rows. -/
def rowScore (qm : ℕ → ℕ → ℝ) (km : ℕ → ℕ → ℝ) (r s : ℕ) : ℝ := ∑ l ∈ Finset.range 128, qm r l * km s l

theorem st_good (qm km vm : ℕ → ℕ → ℝ) (B : ℕ) (q : FVec Ideal S512x128 .bf16) (kt vt : Vec Ideal S1x512x128 .bf16)
    (p : Vec Ideal S1x512x128 .f32 × Vec Ideal S1x512x128 .f32)
    (hq : ∀ (r : Fin 512) (l : Fin 128), q (ix2 r l) = ((qm r l : ℝ) : EReal))
    (hk : ∀ (c : Fin 512) (l : Fin 128), kt (ix3 0 c l) = ((km (B + c) l : ℝ) : EReal))
    (hv : ∀ (c : Fin 512) (l : Fin 128), vt (ix3 0 c l) = ((vm (B + c) l : ℝ) : EReal))
    (hG : Good (rowScore qm km) vm (fun _ => B) p.1 p.2) :
    Good (rowScore qm km) vm (fun _ => B + 512) (st q kt vt p).1 (st q kt vt p).2 :=
  tile_step _ _ B (fun _ => 512) _ _ _ _ hG (fun _ => by norm_num) (fun _ => le_rfl)
    (fun r c => by rw [if_pos c.isLt]; exact score_tile qm km B q kt hq hk r c) hv

/-! ## The loops' trip counts and tiles -/

theorem i2_lt (i : grid0.Coords) : (i 2).val < 16 := (i 2).isLt

theorem trips2 (i : grid0.Coords) : (k0_t2_loop i).trips = (i 2).val / 4 := by
  have h := i2_lt i
  unfold k0_t2_loop
  generalize (i 2).val = n at *
  interval_cases n <;> rfl

theorem trips3 (i : grid0.Coords) : (k0_t3_loop i).trips = 0 := by
  have h := i2_lt i
  unfold k0_t3_loop
  generalize (i 2).val = n at *
  interval_cases n <;> rfl

theorem trips4 (i : grid0.Coords) : (k0_t4_loop i).trips = (i 2).val % 4 := by
  have h := i2_lt i
  unfold k0_t4_loop
  generalize (i 2).val = n at *
  interval_cases n <;> rfl

theorem trips5 (i : grid0.Coords) : (k0_t5_loop i).trips = 0 := by
  have h := i2_lt i
  unfold k0_t5_loop
  generalize (i 2).val = n at *
  interval_cases n <;> rfl

theorem off9_eq (i : grid0.Coords) (k : Fin (k0_t4_loop i).trips) :
    k0_off9 i k = ![0, 512 * (4 * ((i 2).val / 4) + k.val), 0] := by
  have h := i2_lt i
  have hk : k.val < 4 := by have := k.isLt; have e := trips4 i; omega
  unfold k0_off9
  generalize k.val = kk at *
  generalize (i 2).val = n at *
  interval_cases n <;> interval_cases kk <;> rfl

theorem off10_eq (i : grid0.Coords) (k : Fin (k0_t4_loop i).trips) :
    k0_off10 i k = ![1, 512 * (4 * ((i 2).val / 4) + k.val), 0] := by
  have h := i2_lt i
  have hk : k.val < 4 := by have := k.isLt; have e := trips4 i; omega
  unfold k0_off10
  generalize k.val = kk at *
  generalize (i 2).val = n at *
  interval_cases n <;> interval_cases kk <;> rfl

theorem off5_eq (i : grid0.Coords) (k : Fin (k0_t2_loop i).trips) (j : Fin 4) :
    k0_off5 i k (BitVec.ofNat 32 j.val) = ![0, 512 * (4 * k.val + j.val), 0] := by
  have h := i2_lt i
  have hk : k.val < 4 := by have := k.isLt; have e := trips2 i; omega
  have hj := j.isLt
  unfold k0_off5
  generalize k.val = kk at *
  generalize j.val = jj at *
  interval_cases kk <;> interval_cases jj <;> rfl

theorem off6_eq (i : grid0.Coords) (k : Fin (k0_t2_loop i).trips) (j : Fin 4) :
    k0_off6 i k (BitVec.ofNat 32 j.val) = ![1, 512 * (4 * k.val + j.val), 0] := by
  have h := i2_lt i
  have hk : k.val < 4 := by have := k.isLt; have e := trips2 i; omega
  have hj := j.isLt
  unfold k0_off6
  generalize k.val = kk at *
  generalize j.val = jj at *
  interval_cases kk <;> interval_cases jj <;> rfl

theorem off13_eq (i : grid0.Coords) : k0_off13 i = ![0, 512 * (i 2).val, 0] := by
  have h := i2_lt i
  unfold k0_off13
  generalize (i 2).val = n at *
  interval_cases n <;> rfl

theorem off14_eq (i : grid0.Coords) : k0_off14 i = ![1, 512 * (i 2).val, 0] := by
  have h := i2_lt i
  unfold k0_off14
  generalize (i 2).val = n at *
  interval_cases n <;> rfl

/-! ## The trips -/

section Loops
variable (𝒱 : Variants) (c : Dev nD) (bd : Option 𝒱.V) (i : grid0.Coords)
  (arg3 : Memref sig .tc .vmem S1x512x128 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x8192x128 .f32) (harg6 : arg6.IsWhole)
  (arg7 : Memref sig .tc .vmem S1x512x128 .bf16) (harg7 : arg7.IsWhole)
  (arg8 : Memref sig .tc .vmem S2x8192x128 .bf16) (harg8 : arg8.IsWhole)
  (arg9 : Memref sig .tc .vmem S2x8192x128 .bf16) (harg9 : arg9.IsWhole)
  (arg10 : Memref sig .tc .vmem S2x512x128 .f32) (harg10 : arg10.IsWhole)
  (arg11 : Memref sig .tc .vmem S2x512x128 .f32) (harg11 : arg11.IsWhole)
  (arg2 : BitVec 32) (v80 v149 : FVec Ideal S512x128 .bf16) (v150 v151 : IVec S512x512 32) (v176 v182 : BitVec 32)
  (X8 : BufTy.Contents (Elt Ideal) arg8.view.ty) (X9 : BufTy.Contents (Elt Ideal) arg9.view.ty)
  (f10 G10 : BufTy.Contents (Elt Ideal) arg10.view.ty) (f11 G11 : BufTy.Contents (Elt Ideal) arg11.view.ty)

/-- Both heads' pairs after the first `512 n` keys. -/
def Good2 (arg10 arg11 : Memref sig .tc .vmem S2x512x128 .f32) (qm km vm : ℕ → ℕ → ℕ → ℝ) (n : ℕ)
    (f10 : BufTy.Contents (Elt Ideal) arg10.view.ty)
    (f11 : BufTy.Contents (Elt Ideal) arg11.view.ty) : Prop :=
  Good (rowScore (qm 0) (km 0)) (vm 0) (fun _ => 512 * n) (slot0 arg10 f10) (slot0 arg11 f11) ∧
  Good (rowScore (qm 1) (km 1)) (vm 1) (fun _ => 512 * n) (slot1 arg10 f10) (slot1 arg11 f11)

abbrev K40 (k : Fin (k0_t4_loop i).trips) := tileAt arg8 X8 (k0_off9 i k) (k0_off9_inb i k)
abbrev K41 (k : Fin (k0_t4_loop i).trips) := tileAt arg8 X8 (k0_off10 i k) (k0_off10_inb i k)
abbrev K20 (k : Fin (k0_t2_loop i).trips) (j : Fin 4) := tileAt arg8 X8 (k0_off5 i k (BitVec.ofNat 32 j.val)) (k0_off5_inb i k j)
abbrev K21 (k : Fin (k0_t2_loop i).trips) (j : Fin 4) := tileAt arg8 X8 (k0_off6 i k (BitVec.ofNat 32 j.val)) (k0_off6_inb i k j)

theorem trip4_m (k : Fin (k0_t4_loop i).trips) :
    (trip_k0_t4 (F := Ideal) 𝒱 c bd i arg3 harg3 arg4 harg4 arg5 harg5 arg6 harg6 arg7 harg7 arg8 harg8 arg9 harg9 arg10 harg10 arg11 harg11 arg2 v80 v149 v150 v151 v176 v182 X8 X9 k).1 f10 f11
      = [⟨slotR1, (st v149 (K41 i arg8 X8 k) (K41 i arg9 X9 k) (slot1 arg10 f10, slot1 arg11 f11)).1⟩,
         ⟨slotR0, (st v80 (K40 i arg8 X8 k) (K40 i arg9 X9 k) (slot0 arg10 f10, slot0 arg11 f11)).1⟩] := by
  unfold trip_k0_t4
  rfl

theorem trip4_a (k : Fin (k0_t4_loop i).trips) :
    (trip_k0_t4 (F := Ideal) 𝒱 c bd i arg3 harg3 arg4 harg4 arg5 harg5 arg6 harg6 arg7 harg7 arg8 harg8 arg9 harg9 arg10 harg10 arg11 harg11 arg2 v80 v149 v150 v151 v176 v182 X8 X9 k).2.1 f10 f11
      = [⟨slotR1, (st v149 (K41 i arg8 X8 k) (K41 i arg9 X9 k) (slot1 arg10 f10, slot1 arg11 f11)).2⟩,
         ⟨slotR0, (st v80 (K40 i arg8 X8 k) (K40 i arg9 X9 k) (slot0 arg10 f10, slot0 arg11 f11)).2⟩] := by
  unfold trip_k0_t4
  rfl

/-- Four tiles. -/
abbrev st4 (q : FVec Ideal S512x128 .bf16) (kt vt : Fin 4 → Vec Ideal S1x512x128 .bf16)
    (p : Vec Ideal S1x512x128 .f32 × Vec Ideal S1x512x128 .f32) :=
  st q (kt 3) (vt 3) (st q (kt 2) (vt 2) (st q (kt 1) (vt 1) (st q (kt 0) (vt 0) p)))

theorem t2_0_0 (k : Fin (k0_t2_loop i).trips) : ((trip_k0_t2.sl.v326 (F := Ideal) i arg8 arg10 v80 X8 k f10, trip_k0_t2.sl.v323 (F := Ideal) i arg8 arg9 arg10 arg11 v80 X8 X9 k f10 f11) : Vec Ideal S1x512x128 .f32 × Vec Ideal S1x512x128 .f32)
    = st v80 (K20 i arg8 X8 k 0) (K20 i arg9 X9 k 0) (slot0 arg10 f10, slot0 arg11 f11) := rfl

theorem t2_0_1 (k : Fin (k0_t2_loop i).trips) : ((trip_k0_t2.sl.v352 (F := Ideal) i arg8 arg10 v149 X8 k f10, trip_k0_t2.sl.v349 (F := Ideal) i arg8 arg9 arg10 arg11 v149 X8 X9 k f10 f11) : Vec Ideal S1x512x128 .f32 × Vec Ideal S1x512x128 .f32)
    = st v149 (K21 i arg8 X8 k 0) (K21 i arg9 X9 k 0) (slot1 arg10 f10, slot1 arg11 f11) := rfl

theorem t2_1_0 (k : Fin (k0_t2_loop i).trips) : ((trip_k0_t2.sl.v390 (F := Ideal) i arg8 arg10 v80 v149 X8 k f10, trip_k0_t2.sl.v387 (F := Ideal) i arg8 arg9 arg10 arg11 v80 v149 X8 X9 k f10 f11) : Vec Ideal S1x512x128 .f32 × Vec Ideal S1x512x128 .f32)
    = st v80 (K20 i arg8 X8 k 1) (K20 i arg9 X9 k 1) (trip_k0_t2.sl.v326 (F := Ideal) i arg8 arg10 v80 X8 k f10, trip_k0_t2.sl.v323 (F := Ideal) i arg8 arg9 arg10 arg11 v80 X8 X9 k f10 f11) := by
  have hm : trip_k0_t2.sl.v365 (F := Ideal) i arg8 arg10 v80 v149 X8 k f10 = trip_k0_t2.sl.v326 (F := Ideal) i arg8 arg10 v80 X8 k f10 := by
    unfold trip_k0_t2.sl.v365 trip_k0_t2.sl.HW_arg10_2
    rw [rc_01, rc_00]
  have ha : trip_k0_t2.sl.v377 (F := Ideal) i arg8 arg9 arg10 arg11 v80 v149 X8 X9 k f10 f11 = trip_k0_t2.sl.v323 (F := Ideal) i arg8 arg9 arg10 arg11 v80 X8 X9 k f10 f11 := by
    unfold trip_k0_t2.sl.v377 trip_k0_t2.sl.HW_arg11_2
    rw [rc_01, rc_00]
  rw [← hm, ← ha]
  rfl

theorem t2_1_1 (k : Fin (k0_t2_loop i).trips) : ((trip_k0_t2.sl.v416 (F := Ideal) i arg8 arg10 v80 v149 X8 k f10, trip_k0_t2.sl.v413 (F := Ideal) i arg8 arg9 arg10 arg11 v80 v149 X8 X9 k f10 f11) : Vec Ideal S1x512x128 .f32 × Vec Ideal S1x512x128 .f32)
    = st v149 (K21 i arg8 X8 k 1) (K21 i arg9 X9 k 1) (trip_k0_t2.sl.v352 (F := Ideal) i arg8 arg10 v149 X8 k f10, trip_k0_t2.sl.v349 (F := Ideal) i arg8 arg9 arg10 arg11 v149 X8 X9 k f10 f11) := by
  have hm : trip_k0_t2.sl.v391 (F := Ideal) i arg8 arg10 v80 v149 X8 k f10 = trip_k0_t2.sl.v352 (F := Ideal) i arg8 arg10 v149 X8 k f10 := by
    unfold trip_k0_t2.sl.v391 trip_k0_t2.sl.HW_arg10_3 trip_k0_t2.sl.HW_arg10_2
    rw [rc_10, rc_11]
  have ha : trip_k0_t2.sl.v403 (F := Ideal) i arg8 arg9 arg10 arg11 v80 v149 X8 X9 k f10 f11 = trip_k0_t2.sl.v349 (F := Ideal) i arg8 arg9 arg10 arg11 v149 X8 X9 k f10 f11 := by
    unfold trip_k0_t2.sl.v403 trip_k0_t2.sl.HW_arg11_3 trip_k0_t2.sl.HW_arg11_2
    rw [rc_10, rc_11]
  rw [← hm, ← ha]
  rfl

theorem t2_2_0 (k : Fin (k0_t2_loop i).trips) : ((trip_k0_t2.sl.v454 (F := Ideal) i arg8 arg10 v80 v149 X8 k f10, trip_k0_t2.sl.v451 (F := Ideal) i arg8 arg9 arg10 arg11 v80 v149 X8 X9 k f10 f11) : Vec Ideal S1x512x128 .f32 × Vec Ideal S1x512x128 .f32)
    = st v80 (K20 i arg8 X8 k 2) (K20 i arg9 X9 k 2) (trip_k0_t2.sl.v390 (F := Ideal) i arg8 arg10 v80 v149 X8 k f10, trip_k0_t2.sl.v387 (F := Ideal) i arg8 arg9 arg10 arg11 v80 v149 X8 X9 k f10 f11) := by
  have hm : trip_k0_t2.sl.v429 (F := Ideal) i arg8 arg10 v80 v149 X8 k f10 = trip_k0_t2.sl.v390 (F := Ideal) i arg8 arg10 v80 v149 X8 k f10 := by
    unfold trip_k0_t2.sl.v429 trip_k0_t2.sl.HW_arg10_4 trip_k0_t2.sl.HW_arg10_3
    rw [rc_01, rc_00]
  have ha : trip_k0_t2.sl.v441 (F := Ideal) i arg8 arg9 arg10 arg11 v80 v149 X8 X9 k f10 f11 = trip_k0_t2.sl.v387 (F := Ideal) i arg8 arg9 arg10 arg11 v80 v149 X8 X9 k f10 f11 := by
    unfold trip_k0_t2.sl.v441 trip_k0_t2.sl.HW_arg11_4 trip_k0_t2.sl.HW_arg11_3
    rw [rc_01, rc_00]
  rw [← hm, ← ha]
  rfl

theorem t2_2_1 (k : Fin (k0_t2_loop i).trips) : ((trip_k0_t2.sl.v480 (F := Ideal) i arg8 arg10 v80 v149 X8 k f10, trip_k0_t2.sl.v477 (F := Ideal) i arg8 arg9 arg10 arg11 v80 v149 X8 X9 k f10 f11) : Vec Ideal S1x512x128 .f32 × Vec Ideal S1x512x128 .f32)
    = st v149 (K21 i arg8 X8 k 2) (K21 i arg9 X9 k 2) (trip_k0_t2.sl.v416 (F := Ideal) i arg8 arg10 v80 v149 X8 k f10, trip_k0_t2.sl.v413 (F := Ideal) i arg8 arg9 arg10 arg11 v80 v149 X8 X9 k f10 f11) := by
  have hm : trip_k0_t2.sl.v455 (F := Ideal) i arg8 arg10 v80 v149 X8 k f10 = trip_k0_t2.sl.v416 (F := Ideal) i arg8 arg10 v80 v149 X8 k f10 := by
    unfold trip_k0_t2.sl.v455 trip_k0_t2.sl.HW_arg10_5 trip_k0_t2.sl.HW_arg10_4
    rw [rc_10, rc_11]
  have ha : trip_k0_t2.sl.v467 (F := Ideal) i arg8 arg9 arg10 arg11 v80 v149 X8 X9 k f10 f11 = trip_k0_t2.sl.v413 (F := Ideal) i arg8 arg9 arg10 arg11 v80 v149 X8 X9 k f10 f11 := by
    unfold trip_k0_t2.sl.v467 trip_k0_t2.sl.HW_arg11_5 trip_k0_t2.sl.HW_arg11_4
    rw [rc_10, rc_11]
  rw [← hm, ← ha]
  rfl

theorem t2_3_0 (k : Fin (k0_t2_loop i).trips) : ((trip_k0_t2.sl.v518 (F := Ideal) i arg8 arg10 v80 v149 X8 k f10, trip_k0_t2.sl.v515 (F := Ideal) i arg8 arg9 arg10 arg11 v80 v149 X8 X9 k f10 f11) : Vec Ideal S1x512x128 .f32 × Vec Ideal S1x512x128 .f32)
    = st v80 (K20 i arg8 X8 k 3) (K20 i arg9 X9 k 3) (trip_k0_t2.sl.v454 (F := Ideal) i arg8 arg10 v80 v149 X8 k f10, trip_k0_t2.sl.v451 (F := Ideal) i arg8 arg9 arg10 arg11 v80 v149 X8 X9 k f10 f11) := by
  have hm : trip_k0_t2.sl.v493 (F := Ideal) i arg8 arg10 v80 v149 X8 k f10 = trip_k0_t2.sl.v454 (F := Ideal) i arg8 arg10 v80 v149 X8 k f10 := by
    unfold trip_k0_t2.sl.v493 trip_k0_t2.sl.HW_arg10_6 trip_k0_t2.sl.HW_arg10_5
    rw [rc_01, rc_00]
  have ha : trip_k0_t2.sl.v505 (F := Ideal) i arg8 arg9 arg10 arg11 v80 v149 X8 X9 k f10 f11 = trip_k0_t2.sl.v451 (F := Ideal) i arg8 arg9 arg10 arg11 v80 v149 X8 X9 k f10 f11 := by
    unfold trip_k0_t2.sl.v505 trip_k0_t2.sl.HW_arg11_6 trip_k0_t2.sl.HW_arg11_5
    rw [rc_01, rc_00]
  rw [← hm, ← ha]
  rfl

theorem t2_3_1 (k : Fin (k0_t2_loop i).trips) : ((k0_pay143 (trip_k0_t2.sl.v524 (F := Ideal) i arg8 arg10 v80 v149 X8 k f10), k0_pay142 (trip_k0_t2.sl.v528 (F := Ideal) i arg8 arg10 v80 v149 X8 k f10) (trip_k0_t2.sl.v533 (F := Ideal) i arg8 arg9 arg10 arg11 v80 v149 X8 X9 k f10 f11) (trip_k0_t2.sl.v536 (F := Ideal) i arg9 X9 k)) : Vec Ideal S1x512x128 .f32 × Vec Ideal S1x512x128 .f32)
    = st v149 (K21 i arg8 X8 k 3) (K21 i arg9 X9 k 3) (trip_k0_t2.sl.v480 (F := Ideal) i arg8 arg10 v80 v149 X8 k f10, trip_k0_t2.sl.v477 (F := Ideal) i arg8 arg9 arg10 arg11 v80 v149 X8 X9 k f10 f11) := by
  have hm : trip_k0_t2.sl.v519 (F := Ideal) i arg8 arg10 v80 v149 X8 k f10 = trip_k0_t2.sl.v480 (F := Ideal) i arg8 arg10 v80 v149 X8 k f10 := by
    unfold trip_k0_t2.sl.v519 trip_k0_t2.sl.HW_arg10_7 trip_k0_t2.sl.HW_arg10_6
    rw [rc_10, rc_11]
  have ha : trip_k0_t2.sl.v531 (F := Ideal) i arg8 arg9 arg10 arg11 v80 v149 X8 X9 k f10 f11 = trip_k0_t2.sl.v477 (F := Ideal) i arg8 arg9 arg10 arg11 v80 v149 X8 X9 k f10 f11 := by
    unfold trip_k0_t2.sl.v531 trip_k0_t2.sl.HW_arg11_7 trip_k0_t2.sl.HW_arg11_6
    rw [rc_10, rc_11]
  rw [← hm, ← ha]
  rfl

theorem trip2_m (k : Fin (k0_t2_loop i).trips) : ∃ L,
    (trip_k0_t2 (F := Ideal) 𝒱 c bd i arg3 harg3 arg4 harg4 arg5 harg5 arg6 harg6 arg7 harg7 arg8 harg8 arg9 harg9 arg10 harg10 arg11 harg11 arg2 v80 v149 v150 v151 v176 X8 X9 k).1 f10 f11
      = ⟨slotR1, (st4 v149 (K21 i arg8 X8 k) (K21 i arg9 X9 k) (slot1 arg10 f10, slot1 arg11 f11)).1⟩ ::
         ⟨slotR0, (st4 v80 (K20 i arg8 X8 k) (K20 i arg9 X9 k) (slot0 arg10 f10, slot0 arg11 f11)).1⟩ :: L := by
  unfold st4
  rw [← t2_0_0, ← t2_1_0, ← t2_2_0, ← t2_3_0, ← t2_0_1, ← t2_1_1, ← t2_2_1, ← t2_3_1]
  unfold trip_k0_t2
  exact ⟨trip_k0_t2.sl.HW_arg10_6 (F := Ideal) i arg8 arg10 v80 v149 X8 k f10, rfl⟩

theorem trip2_a (k : Fin (k0_t2_loop i).trips) : ∃ L,
    (trip_k0_t2 (F := Ideal) 𝒱 c bd i arg3 harg3 arg4 harg4 arg5 harg5 arg6 harg6 arg7 harg7 arg8 harg8 arg9 harg9 arg10 harg10 arg11 harg11 arg2 v80 v149 v150 v151 v176 X8 X9 k).2.1 f10 f11
      = ⟨slotR1, (st4 v149 (K21 i arg8 X8 k) (K21 i arg9 X9 k) (slot1 arg10 f10, slot1 arg11 f11)).2⟩ ::
         ⟨slotR0, (st4 v80 (K20 i arg8 X8 k) (K20 i arg9 X9 k) (slot0 arg10 f10, slot0 arg11 f11)).2⟩ :: L := by
  unfold st4
  rw [← t2_0_0, ← t2_1_0, ← t2_2_0, ← t2_3_0, ← t2_0_1, ← t2_1_1, ← t2_2_1, ← t2_3_1]
  unfold trip_k0_t2
  exact ⟨trip_k0_t2.sl.HW_arg11_6 (F := Ideal) i arg8 arg9 arg10 arg11 v80 v149 X8 X9 k f10 f11, rfl⟩

section Good
variable (qm km vm : ℕ → ℕ → ℕ → ℝ)
  (hq0 : ∀ (r : Fin 512) (l : Fin 128), v80 (ix2 r l) = ((qm 0 r l : ℝ) : EReal))
  (hq1 : ∀ (r : Fin 512) (l : Fin 128), v149 (ix2 r l) = ((qm 1 r l : ℝ) : EReal))
  (hK : ∀ (h : Fin 2) (s : Fin 8192) (l : Fin 128), arg8.view.read (Elt Ideal) X8 (ix3 h s l) = ((km h s l : ℝ) : EReal))
  (hV : ∀ (h : Fin 2) (s : Fin 8192) (l : Fin 128), arg9.view.read (Elt Ideal) X9 (ix3 h s l) = ((vm h s l : ℝ) : EReal))
include hq0 hq1 hK hV

theorem trip4_good (k : Fin (k0_t4_loop i).trips)
    (hG : Good2 arg10 arg11 qm km vm (4 * ((i 2).val / 4) + k.val) f10 f11) :
    Good2 arg10 arg11 qm km vm (4 * ((i 2).val / 4) + k.val + 1)
      (arg10.view.writes (Elt Ideal) f10 ((trip_k0_t4 (F := Ideal) 𝒱 c bd i arg3 harg3 arg4 harg4 arg5 harg5 arg6 harg6 arg7 harg7 arg8 harg8 arg9 harg9 arg10 harg10 arg11 harg11 arg2 v80 v149 v150 v151 v176 v182 X8 X9 k).1 f10 f11))
      (arg11.view.writes (Elt Ideal) f11 ((trip_k0_t4 (F := Ideal) 𝒱 c bd i arg3 harg3 arg4 harg4 arg5 harg5 arg6 harg6 arg7 harg7 arg8 harg8 arg9 harg9 arg10 harg10 arg11 harg11 arg2 v80 v149 v150 v151 v176 v182 X8 X9 k).2.1 f10 f11)) := by
  rw [trip4_m, trip4_a]
  unfold Good2
  rw [slot0_cons1, slot0_cons1, slot0_cons0, slot0_cons0, slot1_cons1, slot1_cons1, Nat.mul_succ]
  exact ⟨st_good _ _ _ _ _ _ _ _ hq0 (tileAt_ix _ _ _ _ 0 _ (off9_eq i k) km hK)
      (tileAt_ix _ _ _ _ 0 _ (off9_eq i k) vm hV) hG.1,
    st_good _ _ _ _ _ _ _ _ hq1 (tileAt_ix _ _ _ _ 1 _ (off10_eq i k) km hK)
      (tileAt_ix _ _ _ _ 1 _ (off10_eq i k) vm hV) hG.2⟩

theorem st4_good0 (k : Fin (k0_t2_loop i).trips) (p : Vec Ideal S1x512x128 .f32 × Vec Ideal S1x512x128 .f32)
    (hG : Good (rowScore (qm 0) (km 0)) (vm 0) (fun _ => 512 * (4 * k.val)) p.1 p.2) :
    Good (rowScore (qm 0) (km 0)) (vm 0) (fun _ => 512 * (4 * k.val + 4))
      (st4 v80 (K20 i arg8 X8 k) (K20 i arg9 X9 k) p).1 (st4 v80 (K20 i arg8 X8 k) (K20 i arg9 X9 k) p).2 := by
  have step : ∀ (j : Fin 4) (p : Vec Ideal S1x512x128 .f32 × Vec Ideal S1x512x128 .f32),
      Good (rowScore (qm 0) (km 0)) (vm 0) (fun _ => 512 * (4 * k.val + j.val)) p.1 p.2 →
      Good (rowScore (qm 0) (km 0)) (vm 0) (fun _ => 512 * (4 * k.val + j.val) + 512)
        (st v80 (K20 i arg8 X8 k j) (K20 i arg9 X9 k j) p).1 (st v80 (K20 i arg8 X8 k j) (K20 i arg9 X9 k j) p).2 :=
    fun j p h => st_good _ _ _ _ _ _ _ _ hq0 (tileAt_ix _ _ _ _ 0 _ (off5_eq i k j) km hK)
      (tileAt_ix _ _ _ _ 0 _ (off5_eq i k j) vm hV) h
  exact step 3 _ (step 2 _ (step 1 _ (step 0 p hG)))

theorem st4_good1 (k : Fin (k0_t2_loop i).trips) (p : Vec Ideal S1x512x128 .f32 × Vec Ideal S1x512x128 .f32)
    (hG : Good (rowScore (qm 1) (km 1)) (vm 1) (fun _ => 512 * (4 * k.val)) p.1 p.2) :
    Good (rowScore (qm 1) (km 1)) (vm 1) (fun _ => 512 * (4 * k.val + 4))
      (st4 v149 (K21 i arg8 X8 k) (K21 i arg9 X9 k) p).1 (st4 v149 (K21 i arg8 X8 k) (K21 i arg9 X9 k) p).2 := by
  have step : ∀ (j : Fin 4) (p : Vec Ideal S1x512x128 .f32 × Vec Ideal S1x512x128 .f32),
      Good (rowScore (qm 1) (km 1)) (vm 1) (fun _ => 512 * (4 * k.val + j.val)) p.1 p.2 →
      Good (rowScore (qm 1) (km 1)) (vm 1) (fun _ => 512 * (4 * k.val + j.val) + 512)
        (st v149 (K21 i arg8 X8 k j) (K21 i arg9 X9 k j) p).1 (st v149 (K21 i arg8 X8 k j) (K21 i arg9 X9 k j) p).2 :=
    fun j p h => st_good _ _ _ _ _ _ _ _ hq1 (tileAt_ix _ _ _ _ 1 _ (off6_eq i k j) km hK)
      (tileAt_ix _ _ _ _ 1 _ (off6_eq i k j) vm hV) h
  exact step 3 _ (step 2 _ (step 1 _ (step 0 p hG)))

theorem trip2_good (k : Fin (k0_t2_loop i).trips)
    (hG : Good2 arg10 arg11 qm km vm (4 * k.val) f10 f11) :
    Good2 arg10 arg11 qm km vm (4 * k.val + 4)
      (arg10.view.writes (Elt Ideal) f10 ((trip_k0_t2 (F := Ideal) 𝒱 c bd i arg3 harg3 arg4 harg4 arg5 harg5 arg6 harg6 arg7 harg7 arg8 harg8 arg9 harg9 arg10 harg10 arg11 harg11 arg2 v80 v149 v150 v151 v176 X8 X9 k).1 f10 f11))
      (arg11.view.writes (Elt Ideal) f11 ((trip_k0_t2 (F := Ideal) 𝒱 c bd i arg3 harg3 arg4 harg4 arg5 harg5 arg6 harg6 arg7 harg7 arg8 harg8 arg9 harg9 arg10 harg10 arg11 harg11 arg2 v80 v149 v150 v151 v176 X8 X9 k).2.1 f10 f11)) := by
  obtain ⟨L, hL⟩ := trip2_m 𝒱 c bd i arg3 harg3 arg4 harg4 arg5 harg5 arg6 harg6 arg7 harg7 arg8 harg8 arg9 harg9 arg10 harg10 arg11 harg11 arg2 v80 v149 v150 v151 v176 X8 X9 f10 f11 k
  obtain ⟨L', hL'⟩ := trip2_a 𝒱 c bd i arg3 harg3 arg4 harg4 arg5 harg5 arg6 harg6 arg7 harg7 arg8 harg8 arg9 harg9 arg10 harg10 arg11 harg11 arg2 v80 v149 v150 v151 v176 X8 X9 f10 f11 k
  rw [hL, hL']
  unfold Good2
  rw [slot0_cons1, slot0_cons1, slot0_cons0, slot0_cons0, slot1_cons1, slot1_cons1]
  exact ⟨st4_good0 i arg8 arg9 v80 v149 X8 X9 qm km vm hq0 hq1 hK hV k _ hG.1,
    st4_good1 i arg8 arg9 v80 v149 X8 X9 qm km vm hq0 hq1 hK hV k _ hG.2⟩

theorem loop2_good (hG : Good2 arg10 arg11 qm km vm 0 G10 G11) : ∀ k, k ≤ (k0_t2_loop i).trips →
    Good2 arg10 arg11 qm km vm (4 * k)
      (arg10.view.writes (Elt Ideal) G10 (pb_k0_t2 (F := Ideal) 𝒱 c bd i arg3 harg3 arg4 harg4 arg5 harg5 arg6 harg6 arg7 harg7 arg8 harg8 arg9 harg9 arg10 harg10 arg11 harg11 arg2 v80 v149 v150 v151 v176 X8 X9 G10 G11 k).1)
      (arg11.view.writes (Elt Ideal) G11 (pb_k0_t2 (F := Ideal) 𝒱 c bd i arg3 harg3 arg4 harg4 arg5 harg5 arg6 harg6 arg7 harg7 arg8 harg8 arg9 harg9 arg10 harg10 arg11 harg11 arg2 v80 v149 v150 v151 v176 X8 X9 G10 G11 k).2)
  | 0, _ => hG
  | k + 1, hk => by
    have ih := loop2_good hG k (by omega)
    rw [pb_k0_t2_succ (F := Ideal) 𝒱 c bd i arg3 harg3 arg4 harg4 arg5 harg5 arg6 harg6 arg7 harg7 arg8 harg8 arg9 harg9 arg10 harg10 arg11 harg11 arg2 v80 v149 v150 v151 v176 X8 X9 G10 G11 ⟨k, hk⟩]
    simp only [View.writes_append]
    exact trip2_good 𝒱 c bd i arg3 harg3 arg4 harg4 arg5 harg5 arg6 harg6 arg7 harg7 arg8 harg8 arg9 harg9 arg10 harg10 arg11 harg11 arg2 v80 v149 v150 v151 v176 X8 X9 _ _ qm km vm hq0 hq1 hK hV ⟨k, hk⟩ ih

theorem loop4_good (hG : Good2 arg10 arg11 qm km vm (4 * ((i 2).val / 4)) G10 G11) : ∀ k, k ≤ (k0_t4_loop i).trips →
    Good2 arg10 arg11 qm km vm (4 * ((i 2).val / 4) + k)
      (arg10.view.writes (Elt Ideal) G10 (pb_k0_t4 (F := Ideal) 𝒱 c bd i arg3 harg3 arg4 harg4 arg5 harg5 arg6 harg6 arg7 harg7 arg8 harg8 arg9 harg9 arg10 harg10 arg11 harg11 arg2 v80 v149 v150 v151 v176 v182 X8 X9 G10 G11 k).1)
      (arg11.view.writes (Elt Ideal) G11 (pb_k0_t4 (F := Ideal) 𝒱 c bd i arg3 harg3 arg4 harg4 arg5 harg5 arg6 harg6 arg7 harg7 arg8 harg8 arg9 harg9 arg10 harg10 arg11 harg11 arg2 v80 v149 v150 v151 v176 v182 X8 X9 G10 G11 k).2)
  | 0, _ => hG
  | k + 1, hk => by
    have ih := loop4_good hG k (by omega)
    rw [pb_k0_t4_succ (F := Ideal) 𝒱 c bd i arg3 harg3 arg4 harg4 arg5 harg5 arg6 harg6 arg7 harg7 arg8 harg8 arg9 harg9 arg10 harg10 arg11 harg11 arg2 v80 v149 v150 v151 v176 v182 X8 X9 G10 G11 ⟨k, hk⟩]
    simp only [View.writes_append]
    exact trip4_good 𝒱 c bd i arg3 harg3 arg4 harg4 arg5 harg5 arg6 harg6 arg7 harg7 arg8 harg8 arg9 harg9 arg10 harg10 arg11 harg11 arg2 v80 v149 v150 v151 v176 v182 X8 X9 _ _ qm km vm hq0 hq1 hK hV ⟨k, hk⟩ ih

end Good
end Loops
end Cert.KernelIdeal.Fox
-- ==== Proof.Math.lean ====
module
public import Mathlib.Analysis.SpecialFunctions.Pow.Real
/-!
# The rows of the kernel's widened queries, keys and values

A block of 128 lanes holds two heads of 64 lanes.  For head `hh` the kernel keeps the head's own half of
the lanes and writes the forget-gate sums into the other half, so that one product of 128 lanes gives
`q · k + (c_q - c_k) · log₂ e`; in the value rows a single `1` there makes the denominator.
-/
@[expose] public section
noncomputable section
namespace Cert.Fox

/-- `log₂ e` -/
def L2 : ℝ := (Real.log 2)⁻¹

/-- The lane belongs to head `hh` of the pair. -/
abbrev headLane (hh l : ℕ) : Prop := 64 * hh ≤ l ∧ l < 64 * hh + 64

/-- A widened query row, of query lanes `q` and gate sum `cq`. -/
def qRow (hh : ℕ) (q : ℕ → ℝ) (cq : ℝ) (l : ℕ) : ℝ :=
  if headLane hh l then q l
  else if l = 64 * (1 - hh) then cq * L2
  else if 64 * (1 - hh) + 3 ≤ l ∧ l ≤ 64 * (1 - hh) + 5 then 1 else 0

/-- A widened key row, of key lanes `k` and gate sum `ck`. -/
def kRow (hh : ℕ) (k : ℕ → ℝ) (ck : ℝ) (l : ℕ) : ℝ :=
  if headLane hh l then k l
  else if l ≤ 64 * (1 - hh) + 2 then 1
  else if l = 64 * (1 - hh) + 3 then -ck * L2 else 0

/-- A widened value row. -/
def vRow (hh : ℕ) (v : ℕ → ℝ) (l : ℕ) : ℝ :=
  if headLane hh l then v l else if l = 64 * (1 - hh) then 1 else 0

/-- The score in base 2. -/
def score (hh : ℕ) (q k : ℕ → ℝ) (cq ck : ℝ) : ℝ :=
  ∑ d ∈ Finset.range 64, q (64 * hh + d) * k (64 * hh + d) + (cq - ck) * L2

theorem half_sum (a b : ℝ) :
    ∑ d ∈ Finset.range 64, (if d = 0 then a else if 3 ≤ d ∧ d ≤ 5 then 1 else 0)
      * (if d ≤ 2 then 1 else if d = 3 then b else 0) = a + b := by
  have e : ∀ d ∈ Finset.range 64, (if d = 0 then a else if 3 ≤ d ∧ d ≤ 5 then 1 else 0)
      * (if d ≤ 2 then 1 else if d = 3 then b else 0)
      = (if d = 0 then a else 0) + (if d = 3 then b else 0) := by
    intro d _
    by_cases h0 : d = 0
    · subst h0; simp
    by_cases h3 : d = 3
    · subst h3; simp
    by_cases h2 : d ≤ 2
    · rw [if_neg h0, if_neg (by omega), if_neg h0, if_neg h3]; simp
    · rw [if_neg h0, if_neg h2, if_neg h3, if_neg h0]; simp
  rw [Finset.sum_congr rfl e, Finset.sum_add_distrib, Finset.sum_ite_eq' , Finset.sum_ite_eq']
  simp

/-- The product of a widened query row and a widened key row is the score. -/
theorem sum_rows (hh : ℕ) (h : hh < 2) (q k : ℕ → ℝ) (cq ck : ℝ) :
    ∑ l ∈ Finset.range 128, qRow hh q cq l * kRow hh k ck l = score hh q k cq ck := by
  have e : (cq - ck) * L2 = cq * L2 + -ck * L2 := by ring
  rw [show (128 : ℕ) = 64 + 64 from rfl, Finset.sum_range_add, score, e, ← half_sum (cq * L2) (-ck * L2)]
  obtain rfl | rfl : hh = 0 ∨ hh = 1 := by omega
  · refine congrArg₂ (· + ·) ?_ ?_
    · refine Finset.sum_congr rfl fun d hd => ?_
      have := Finset.mem_range.1 hd
      have hl : headLane 0 d := ⟨by omega, by omega⟩
      simp only [qRow, kRow, if_pos hl, Nat.mul_zero, Nat.zero_add]
    · refine Finset.sum_congr rfl fun d hd => ?_
      have := Finset.mem_range.1 hd
      have hl : ¬ headLane 0 (64 + d) := fun h => by have := h.2; omega
      have e0 : 64 + d = 64 * (1 - 0) ↔ d = 0 := by omega
      have e1 : (64 * (1 - 0) + 3 ≤ 64 + d ∧ 64 + d ≤ 64 * (1 - 0) + 5) ↔ (3 ≤ d ∧ d ≤ 5) := by omega
      have e2 : 64 + d ≤ 64 * (1 - 0) + 2 ↔ d ≤ 2 := by omega
      have e3 : 64 + d = 64 * (1 - 0) + 3 ↔ d = 3 := by omega
      simp only [qRow, kRow, if_neg hl, e0, e1, e2, e3]
  · rw [add_comm]
    refine congrArg₂ (· + ·) ?_ ?_
    · refine Finset.sum_congr rfl fun d hd => ?_
      have := Finset.mem_range.1 hd
      have hl : headLane 1 (64 + d) := ⟨by omega, by omega⟩
      simp only [qRow, kRow, if_pos hl, Nat.mul_one]
    · refine Finset.sum_congr rfl fun d hd => ?_
      have := Finset.mem_range.1 hd
      have hl : ¬ headLane 1 d := fun h => by have := h.1; omega
      simp only [qRow, kRow, if_neg hl, Nat.sub_self, Nat.mul_zero, Nat.zero_add]

end Cert.Fox
-- ==== Proof.Mods.lean ====
module
public import proofs.«01_k».proof.Proof.Tile
public import proofs.«01_k».proof.Proof.Math
/-!
# The widened rows, read from the kernel's payloads

Every rounding of the ideal kernel is the identity, so of the three pieces in which the kernel carries
a gate sum only the first is not zero.
-/
@[expose] public section
set_option maxRecDepth 16384
noncomputable section
namespace Cert.KernelIdeal.Fox
open Idealize.ShloMosaic Cert.KernelIdeal.Gen Cert.Fox

/-- The lane numbers. -/
abbrev lanes : IVec S1x128 32 := iota .tc S1x128 32 [1] iota_S1x128_d1_w32

theorem named_log2e : (Named.named κ "log2e" 1069066811#32 : Ideal .f32) = ((L2 : ℝ) : EReal) :=
  IdealRules.named_const.ideal_named_scalar _ _ _ _ rfl

/-- The lane of a head among the 128 lanes of gate sums. -/
theorem lane_word (hp hh : ℕ) : Scalar.addi (Scalar.muli (BitVec.ofNat 32 hp) 2#32) (BitVec.ofNat 32 hh)
    = BitVec.ofNat 32 (hp * 2 + hh) := by
  show BitVec.ofNat 32 hp * BitVec.ofNat 32 2 + BitVec.ofNat 32 hh = _
  rw [← BitVec.ofNat_mul, ← BitVec.ofNat_add]

/-- Picking one lane by a masked sum. -/
theorem pick_lane (hp hh : ℕ) (hhp : hp < 4) (hhh : hh < 2) (c : ℕ → ℝ) (x : Fin 128 → EReal)
    (hx : ∀ l : Fin 128, x l = ((c l : ℝ) : EReal)) :
    ∑ l : Fin 128, Scalar.select (IntOp.cmpi CmpIPredicate.eq (BitVec.ofNat 32 l.val)
      (Scalar.addi (Scalar.muli (BitVec.ofNat 32 hp) 2#32) (BitVec.ofNat 32 hh))) (x l) (0 : EReal)
      = ((c (2 * hp + hh) : ℝ) : EReal) := by
  have e : ∀ l : Fin 128, Scalar.select (IntOp.cmpi CmpIPredicate.eq (BitVec.ofNat 32 l.val)
      (Scalar.addi (Scalar.muli (BitVec.ofNat 32 hp) 2#32) (BitVec.ofNat 32 hh))) (x l) (0 : EReal)
      = if l = (⟨2 * hp + hh, by omega⟩ : Fin 128) then ((c (2 * hp + hh) : ℝ) : EReal) else 0 := by
    intro l
    rw [lane_word, cmpi_eq_nat (by omega) (by omega), select_bool]
    by_cases h : l.val = hp * 2 + hh
    · rw [if_pos (by simpa using h), if_pos (Fin.ext (by simp only; omega)), hx, h, Nat.mul_comm]
    · rw [if_neg (by simpa using h), if_neg (fun hl => h (by rw [hl]; simp only; omega))]
  rw [Finset.sum_congr rfl fun l _ => e l, Finset.sum_ite_eq', if_pos (Finset.mem_univ _)]

section Row
variable (hp : ℕ) (hhp : hp < 4) (x : Vec Ideal S1x512x128 .bf16) (cu : Vec Ideal S1x512x128 .f32)
  (r : Fin 512) (f c : ℕ → ℝ)
include hhp

theorem pay5_ix (hc : ∀ l : Fin 128, cu (ix3 0 r l) = ((c l : ℝ) : EReal)) :
    k0_pay5 (BitVec.ofNat 32 hp) lanes cu (ix2 r 0) = ((-(c (2 * hp)) * L2 : ℝ) : EReal) := by
  have h : k0_pay5 (BitVec.ofNat 32 hp) lanes cu (ix2 r 0) = (0 - ∑ l : Fin 128,
      Scalar.select (IntOp.cmpi CmpIPredicate.eq (BitVec.ofNat 32 l.val)
      (Scalar.addi (Scalar.muli (BitVec.ofNat 32 hp) 2#32) 0#32)) (cu (ix3 0 r l)) (0 : EReal))
      * (Named.named κ "log2e" 1069066811#32 : Ideal .f32) := by
    pointwise [k0_pay5, k0_pay4]
  rw [h, named_log2e, pick_lane hp 0 hhp (by norm_num) c _ hc, zero_sub, ← EReal.coe_neg, ← EReal.coe_mul]
  rfl

theorem pay15_ix (hc : ∀ l : Fin 128, cu (ix3 0 r l) = ((c l : ℝ) : EReal)) :
    k0_pay15 (BitVec.ofNat 32 hp) lanes (k0_pay4 cu) (ix2 r 0) = ((-(c (2 * hp + 1)) * L2 : ℝ) : EReal) := by
  have h : k0_pay15 (BitVec.ofNat 32 hp) lanes (k0_pay4 cu) (ix2 r 0) = (0 - ∑ l : Fin 128,
      Scalar.select (IntOp.cmpi CmpIPredicate.eq (BitVec.ofNat 32 l.val)
      (Scalar.addi (Scalar.muli (BitVec.ofNat 32 hp) 2#32) 1#32)) (cu (ix3 0 r l)) (0 : EReal))
      * (Named.named κ "log2e" 1069066811#32 : Ideal .f32) := by
    pointwise [k0_pay15, k0_pay4]
  rw [h, named_log2e, pick_lane hp 1 hhp (by norm_num) c _ hc, zero_sub, ← EReal.coe_neg, ← EReal.coe_mul]

theorem pay133_ix (hc : ∀ l : Fin 128, cu (ix3 0 r l) = ((c l : ℝ) : EReal)) :
    k0_pay133 (k0_pay122 cu) (k0_pay131 (BitVec.ofNat 32 hp) lanes) k0_pay132 (ix2 r 0)
      = ((c (2 * hp + 1) * L2 : ℝ) : EReal) := by
  have h : k0_pay133 (k0_pay122 cu) (k0_pay131 (BitVec.ofNat 32 hp) lanes) k0_pay132 (ix2 r 0) = (∑ l : Fin 128,
      Scalar.select (IntOp.cmpi CmpIPredicate.eq (BitVec.ofNat 32 l.val)
      (Scalar.addi (Scalar.muli (BitVec.ofNat 32 hp) 2#32) 1#32)) (cu (ix3 0 r l)) (0 : EReal))
      * (Named.named κ "log2e" 1069066811#32 : Ideal .f32) := by
    pointwise [k0_pay133, k0_pay122, k0_pay131, k0_pay132]
  rw [h, named_log2e, pick_lane hp 1 hhp (by norm_num) c _ hc, ← EReal.coe_mul]

omit hhp in
theorem pay123_ix (i : grid0.Coords) (hc : ∀ l : Fin 128, cu (ix3 0 r l) = ((c l : ℝ) : EReal)) :
    k0_pay123 i cu (ix2 r 0) = ((c (2 * (i 1).val) * L2 : ℝ) : EReal) := by
  have h : k0_pay123 i cu (ix2 r 0) = (∑ l : Fin 128,
      Scalar.select (IntOp.cmpi CmpIPredicate.eq (BitVec.ofNat 32 l.val)
      (Scalar.addi (Scalar.muli (BitVec.ofNat 32 (i 1).val) 2#32) 0#32)) (cu (ix3 0 r l)) (0 : EReal))
      * (Named.named κ "log2e" 1069066811#32 : Ideal .f32) := by
    pointwise [k0_pay123, k0_pay122]
  rw [h, named_log2e, pick_lane (i 1).val 0 (i 1).isLt (by norm_num) c _ hc, ← EReal.coe_mul]
  rfl

/-- The widened key row of the first head. -/
theorem kRow0 (hx : ∀ l : Fin 128, x (ix3 0 r l) = ((f l : ℝ) : EReal))
    (hc : ∀ l : Fin 128, cu (ix3 0 r l) = ((c l : ℝ) : EReal)) (l : Fin 128) :
    k0_pay12 lanes (k0_pay2 x) (k0_pay6 (BitVec.ofNat 32 hp) lanes cu) (k0_pay8 (BitVec.ofNat 32 hp) lanes cu)
      (k0_pay9 (BitVec.ofNat 32 hp) lanes cu) (k0_pay10 lanes) k0_pay11 (ix3 0 r l)
      = ((kRow 0 f (c (2 * hp)) l : ℝ) : EReal) := by
  pointwise [k0_pay12, k0_pay2, k0_pay6, k0_pay8, k0_pay9, k0_pay7, k0_pay10, k0_pay11]
  rw [pay5_ix hp hhp cu r c hc, hx]
  simp (disch := omega) only [cmpi_eq_nat, cmpi_sge_nat, cmpi_slt_nat, andi_bool, select_bool,
    Bool.and_eq_true, decide_eq_true_eq, ← EReal.coe_sub, sub_self, EReal.coe_zero]
  have := l.isLt
  unfold kRow headLane
  split_ifs <;> first | omega | rfl | simp

/-- The widened key row of the second head. -/
theorem kRow1 (hx : ∀ l : Fin 128, x (ix3 0 r l) = ((f l : ℝ) : EReal))
    (hc : ∀ l : Fin 128, cu (ix3 0 r l) = ((c l : ℝ) : EReal)) (l : Fin 128) :
    k0_pay21 lanes (k0_pay2 x) (k0_pay16 (BitVec.ofNat 32 hp) lanes (k0_pay4 cu))
      (k0_pay18 (BitVec.ofNat 32 hp) lanes (k0_pay4 cu))
      (k0_pay19 (BitVec.ofNat 32 hp) lanes (k0_pay4 cu)) (k0_pay20 lanes) (ix3 0 r l)
      = ((kRow 1 f (c (2 * hp + 1)) l : ℝ) : EReal) := by
  pointwise [k0_pay21, k0_pay2, k0_pay16, k0_pay18, k0_pay19, k0_pay17, k0_pay20]
  rw [pay15_ix hp hhp cu r c hc, hx]
  simp (disch := omega) only [cmpi_eq_nat, cmpi_sge_nat, cmpi_slt_nat, andi_bool, select_bool,
    Bool.and_eq_true, decide_eq_true_eq, ← EReal.coe_sub, sub_self, EReal.coe_zero]
  have := l.isLt
  unfold kRow headLane
  split_ifs <;> first | omega | rfl | simp

omit hhp in
/-- The widened value row of the first head. -/
theorem vRow0 (hx : ∀ l : Fin 128, x (ix3 0 r l) = ((f l : ℝ) : EReal)) (l : Fin 128) :
    k0_pay14 lanes (k0_pay3 x) (k0_pay13 lanes) (ix3 0 r l) = ((vRow 0 f l : ℝ) : EReal) := by
  pointwise [k0_pay14, k0_pay3, k0_pay13]
  rw [hx]
  simp (disch := omega) only [cmpi_eq_nat, cmpi_sge_nat, cmpi_slt_nat, andi_bool, select_bool,
    Bool.and_eq_true, decide_eq_true_eq]
  have := l.isLt
  unfold vRow headLane
  split_ifs <;> first | omega | rfl

omit hhp in
/-- The widened value row of the second head. -/
theorem vRow1 (hx : ∀ l : Fin 128, x (ix3 0 r l) = ((f l : ℝ) : EReal)) (l : Fin 128) :
    k0_pay120 (k0_pay3 x) (ix3 0 r l) = ((vRow 1 f l : ℝ) : EReal) := by
  pointwise [k0_pay120, k0_pay3]
  rw [hx]
  simp (disch := omega) only [cmpi_eq_nat, cmpi_sge_nat, cmpi_slt_nat, andi_bool, select_bool,
    Bool.and_eq_true, decide_eq_true_eq]
  have := l.isLt
  unfold vRow headLane
  split_ifs <;> first | omega | rfl

omit hhp in
/-- The widened query row of the first head. -/
theorem qRow0 (i : grid0.Coords) (hx : ∀ l : Fin 128, x (ix3 0 r l) = ((f l : ℝ) : EReal))
    (hc : ∀ l : Fin 128, cu (ix3 0 r l) = ((c l : ℝ) : EReal)) (l : Fin 128) :
    k0_pay130 lanes (k0_pay121 x) (k0_pay124 i cu) (k0_pay126 i cu) (k0_pay127 i cu) k0_pay128 k0_pay129 (ix2 r l)
      = ((qRow 0 f (c (2 * (i 1).val)) l : ℝ) : EReal) := by
  pointwise [k0_pay130, k0_pay121, k0_pay124, k0_pay126, k0_pay127, k0_pay125, k0_pay128, k0_pay129]
  rw [pay123_ix cu r c i hc, hx]
  simp (disch := omega) only [cmpi_eq_nat, cmpi_sge_nat, cmpi_slt_nat, andi_bool, select_bool,
    Bool.and_eq_true, decide_eq_true_eq, ← EReal.coe_sub, sub_self, EReal.coe_zero]
  have := l.isLt
  unfold qRow headLane
  split_ifs <;> first | omega | rfl | simp

/-- The widened query row of the second head. -/
theorem qRow1 (hx : ∀ l : Fin 128, x (ix3 0 r l) = ((f l : ℝ) : EReal))
    (hc : ∀ l : Fin 128, cu (ix3 0 r l) = ((c l : ℝ) : EReal)) (l : Fin 128) :
    k0_pay139 lanes (k0_pay137 (k0_pay122 cu) (k0_pay131 (BitVec.ofNat 32 hp) lanes) k0_pay132)
      (k0_pay138 lanes (k0_pay121 x) (k0_pay122 cu) (k0_pay131 (BitVec.ofNat 32 hp) lanes) k0_pay132) 2#32 (ix2 r l)
      = ((qRow 1 f (c (2 * hp + 1)) l : ℝ) : EReal) := by
  pointwise [k0_pay139, k0_pay137, k0_pay138, k0_pay121, k0_pay134, k0_pay135, k0_pay136]
  rw [pay133_ix hp hhp cu r c hc, hx]
  simp (disch := omega) only [cmpi_eq_nat, cmpi_sge_nat, cmpi_slt_nat, andi_bool, select_bool,
    Bool.and_eq_true, decide_eq_true_eq, ← EReal.coe_sub, sub_self, EReal.coe_zero]
  have := l.isLt
  unfold qRow headLane
  split_ifs <;> first | omega | rfl | simp

end Row

end Cert.KernelIdeal.Fox
-- ==== Proof.Out.lean ====
module
public import proofs.«01_k».proof.Proof.Trips
public import proofs.«01_k».proof.Proof.Mods
/-!
# The tile on the diagonal and the quotient

After the whole tiles before the diagonal comes the tile on it, masked beyond the row, and then the quotient
of the accumulated values by the accumulated ones.
-/
@[expose] public section
set_option maxRecDepth 16384
noncomputable section
namespace Cert.KernelIdeal.Fox
open Idealize.ShloMosaic Cert.KernelIdeal.Gen Cert.Fox

/-- A pair step with the scores masked beyond the diagonal. -/
def stD (q : FVec Ideal S512x128 .bf16) (kt vt : Vec Ideal S1x512x128 .bf16)
    (p : Vec Ideal S1x512x128 .f32 × Vec Ideal S1x512x128 .f32) : Vec Ideal S1x512x128 .f32 × Vec Ideal S1x512x128 .f32 :=
  (k0_pay31 (k0_pay163 (iota .tc S512x512 32 [0] iota_S512x512_d0_w32) (iota .tc S512x512 32 [1] iota_S512x512_d1_w32) (k0_pay23 q kt)) p.1,
   k0_pay30 (k0_pay163 (iota .tc S512x512 32 [0] iota_S512x512_d0_w32) (iota .tc S512x512 32 [1] iota_S512x512_d1_w32) (k0_pay23 q kt)) p.1 p.2 vt)

theorem stD_good (qm km vm : ℕ → ℕ → ℝ) (B : ℕ) (q : FVec Ideal S512x128 .bf16) (kt vt : Vec Ideal S1x512x128 .bf16)
    (p : Vec Ideal S1x512x128 .f32 × Vec Ideal S1x512x128 .f32)
    (hq : ∀ (r : Fin 512) (l : Fin 128), q (ix2 r l) = ((qm r l : ℝ) : EReal))
    (hk : ∀ (c : Fin 512) (l : Fin 128), kt (ix3 0 c l) = ((km (B + c) l : ℝ) : EReal))
    (hv : ∀ (c : Fin 512) (l : Fin 128), vt (ix3 0 c l) = ((vm (B + c) l : ℝ) : EReal))
    (hG : Good (rowScore qm km) vm (fun _ => B) p.1 p.2) :
    Good (rowScore qm km) vm (fun r => B + (r + 1)) (stD q kt vt p).1 (stD q kt vt p).2 :=
  tile_step _ _ B (fun r => r + 1) _ _ _ _ hG (fun _ => by omega) (fun r => r.isLt)
    (fun r c => by rw [masked_tile, score_tile qm km B q kt hq hk r c]; rfl) hv

/-- The weighted mean of the values of one lane with the weights `2 ^ sc s`. -/
def mean (n : ℕ) (sc : ℕ → ℝ) (v : ℕ → ℝ) : ℝ :=
  (∑ s ∈ Finset.range n, (2 : ℝ) ^ sc s * v s) / ∑ s ∈ Finset.range n, (2 : ℝ) ^ sc s

theorem mean_shift (n : ℕ) (sc v : ℕ → ℝ) (μ : ℝ) :
    (∑ s ∈ Finset.range n, (2 : ℝ) ^ (sc s - μ) * v s) * (1 / ∑ s ∈ Finset.range n, (2 : ℝ) ^ (sc s - μ)) = mean n sc v := by
  have h2 : (2 : ℝ) ^ μ ≠ 0 := (Real.rpow_pos_of_pos (by norm_num) _).ne'
  have e1 : ∑ s ∈ Finset.range n, (2 : ℝ) ^ (sc s - μ) * v s = (∑ s ∈ Finset.range n, (2 : ℝ) ^ sc s * v s) / (2 : ℝ) ^ μ := by
    rw [Finset.sum_div]
    exact Finset.sum_congr rfl fun s _ => by rw [Real.rpow_sub (by norm_num)]; ring
  have e2 : ∑ s ∈ Finset.range n, (2 : ℝ) ^ (sc s - μ) = (∑ s ∈ Finset.range n, (2 : ℝ) ^ sc s) / (2 : ℝ) ^ μ := by
    rw [Finset.sum_div]
    exact Finset.sum_congr rfl fun s _ => by rw [Real.rpow_sub (by norm_num)]
  rw [e1, e2, mul_one_div, div_div_div_cancel_right₀ h2]
  rfl

/-- The quotient of a head. -/
theorem quot_good (hh : ℕ) (sc vR : ℕ → ℕ → ℝ) (N : ℕ → ℕ) (M A : Vec Ideal S1x512x128 .f32) (hN : ∀ r, N r ≠ 0)
    (hG : Good sc (fun s => vRow hh (vR s)) N M A) (r : Fin 512) (l d : Fin 128) (hl : headLane hh l.val)
    (hd : d.val = 64 * (1 - hh)) (hh2 : hh < 2) :
    Ideal.div (A (ix3 0 r l)) (A (ix3 0 r d)) = ((mean (N r) (sc r) (fun s => vR s l) : ℝ) : EReal) := by
  rcases hG r with ⟨h0, -⟩ | ⟨μ, -, hA⟩
  · exact absurd h0 (hN r)
  · have hden : ∑ s ∈ Finset.range (N r), (2 : ℝ) ^ (sc r s - μ) * vRow hh (vR s) d
        = ∑ s ∈ Finset.range (N r), (2 : ℝ) ^ (sc r s - μ) := by
      refine Finset.sum_congr rfl fun s _ => ?_
      have : vRow hh (vR s) d = 1 := by
        unfold vRow headLane
        rw [if_neg (by omega), if_pos hd]
      rw [this, mul_one]
    have hnum : ∑ s ∈ Finset.range (N r), (2 : ℝ) ^ (sc r s - μ) * vRow hh (vR s) l
        = ∑ s ∈ Finset.range (N r), (2 : ℝ) ^ (sc r s - μ) * vR s l :=
      Finset.sum_congr rfl fun s _ => by unfold vRow; rw [if_pos hl]
    have hpos : (0 : ℝ) < ∑ s ∈ Finset.range (N r), (2 : ℝ) ^ (sc r s - μ) :=
      Finset.sum_pos (fun s _ => Real.rpow_pos_of_pos (by norm_num) _)
        (Finset.nonempty_range_iff.mpr (hN r))
    rw [hA l, hA d, hden, hnum, Ideal.div_coe hpos.ne', ← EReal.coe_mul, mean_shift]

theorem lanes_ix (x : Fin 128) : lanes (ix2 0 x) = BitVec.ofNat 32 x.val := by
  unfold lanes
  simp [iota, ix2]

/-- The kernel's last step, at a place. -/
theorem last_ix (A0 A1 : Vec Ideal S1x512x128 .f32) (r : Fin 512) (l : Fin 128) :
    k0_pay1 (k0_pay170 lanes A0 A1) (ix3 0 r l)
      = if l.val < 64 then Ideal.div (A0 (ix3 0 r l)) (A0 (ix3 0 r (64 : Fin 128)))
        else Ideal.div (A1 (ix3 0 r l)) (A1 (ix3 0 r (0 : Fin 128))) := by
  have h : k0_pay1 (k0_pay170 lanes A0 A1) (ix3 0 r l)
      = Scalar.select (IntOp.cmpi .slt (lanes (ix2 0 l)) 64#32)
          (Ideal.div (A0 (ix3 0 r l)) (∑ x : Fin 128, Scalar.select (IntOp.cmpi .eq (lanes (ix2 0 x)) 64#32) (A0 (ix3 0 r x)) (0 : EReal)))
          (Ideal.div (A1 (ix3 0 r l)) (∑ x : Fin 128, Scalar.select (IntOp.cmpi .eq (lanes (ix2 0 x)) 0#32) (A1 (ix3 0 r x)) (0 : EReal))) := by
    pointwise [k0_pay170, k0_pay1]
  have hp (n : Fin 128) (f : Fin 128 → EReal) :
      ∑ x : Fin 128, Scalar.select (IntOp.cmpi .eq (lanes (ix2 0 x)) (BitVec.ofNat 32 n.val)) (f x) (0 : EReal) = f n := by
    have e : ∀ x : Fin 128, Scalar.select (IntOp.cmpi .eq (lanes (ix2 0 x)) (BitVec.ofNat 32 n.val)) (f x) (0 : EReal)
        = if x = n then f x else 0 := fun x => by
      rw [lanes_ix, cmpi_eq_nat (a := x.val) (b := n.val) (by omega) (by omega), select_bool]
      simp [Fin.ext_iff]
    rw [Finset.sum_congr rfl fun x _ => e x]
    simp
  rw [h, show (64#32) = BitVec.ofNat 32 (64 : Fin 128).val from rfl, show (0#32) = BitVec.ofNat 32 (0 : Fin 128).val from rfl,
    hp 64 (fun x => A0 (ix3 0 r x)), hp 0 (fun x => A1 (ix3 0 r x)), lanes_ix,
    cmpi_slt_nat (a := l.val) (b := (64 : Fin 128).val) (by omega) (by decide), select_bool]
  simp only [decide_eq_true_eq]
  rfl

/-- The result of a query row: the mean of the head's values over the keys up to the row, weighted by the
    exponentials of the scores. -/
def outR (hp i : ℕ) (qR kR vR cR : ℕ → ℕ → ℝ) (r l : ℕ) : ℝ :=
  mean (512 * i + (r + 1))
    (fun s => score (l / 64) (qR r) (kR s) (cR (512 * i + r) (2 * hp + l / 64)) (cR s (2 * hp + l / 64))) (fun s => vR s l)

theorem last_good (hp i : ℕ) (qR kR vR cR : ℕ → ℕ → ℝ) (M0 A0 M1 A1 : Vec Ideal S1x512x128 .f32)
    (h0 : Good (rowScore (fun r => qRow 0 (qR r) (cR (512 * i + r) (2 * hp + 0))) (fun s => kRow 0 (kR s) (cR s (2 * hp + 0))))
      (fun s => vRow 0 (vR s)) (fun r => 512 * i + (r + 1)) M0 A0)
    (h1 : Good (rowScore (fun r => qRow 1 (qR r) (cR (512 * i + r) (2 * hp + 1))) (fun s => kRow 1 (kR s) (cR s (2 * hp + 1))))
      (fun s => vRow 1 (vR s)) (fun r => 512 * i + (r + 1)) M1 A1) (r : Fin 512) (l : Fin 128) :
    k0_pay1 (k0_pay170 lanes A0 A1) (ix3 0 r l) = ((outR hp i qR kR vR cR r l : ℝ) : EReal) := by
  rw [last_ix]
  have hl : l.val < 128 := l.isLt
  split_ifs with h
  · rw [quot_good 0 _ vR _ M0 A0 (fun _ => by omega) h0 r l 64 (by omega) (by rfl) (by norm_num)]
    unfold outR
    rw [show l.val / 64 = 0 by omega]
    congr 2
    funext s
    exact sum_rows 0 (by norm_num) _ _ _ _
  · rw [quot_good 1 _ vR _ M1 A1 (fun _ => by omega) h1 r l 0 (by omega) (by rfl) (by norm_num)]
    unfold outR
    rw [show l.val / 64 = 1 by omega]
    congr 2
    funext s
    exact sum_rows 1 (by norm_num) _ _ _ _

end Cert.KernelIdeal.Fox
-- ==== Proof.Fill.lean ====
module
public import proofs.«01_k».proof.Proof.Trips
public import proofs.«01_k».proof.Proof.Mods
/-!
# The loop that fills the widened keys and values

At the first query tile of a pair of heads the kernel widens all 8192 keys and values, 512 at a trip.
-/
@[expose] public section
set_option maxRecDepth 16384
noncomputable section
namespace Cert.KernelIdeal.Fox
open Idealize.ShloMosaic Cert.KernelIdeal.Gen Cert.Fox

/-- A tile of 512 rows of an input block. -/
abbrev blkAt {e : EltTy} (m : Memref sig .tc .vmem S1x8192x128 e) (X : BufTy.Contents (Elt Ideal) m.view.ty)
    (off : Fin 3 → ℕ) (inb : ∀ a, off a + S1x512x128.size a ≤ S1x8192x128.size a) : Vec Ideal S1x512x128 e :=
  m.view.readAt (Elt Ideal) (Rect.unit (s := S1x8192x128) off S1x512x128.size inb).toLoadRect X

theorem blkAt_ix {e : EltTy} (m : Memref sig .tc .vmem S1x8192x128 e) (X : BufTy.Contents (Elt Ideal) m.view.ty)
    (off : Fin 3 → ℕ) (inb : ∀ a, off a + S1x512x128.size a ≤ S1x8192x128.size a) (n : ℕ)
    (hoff : off = ![0, 512 * n, 0]) (r : Fin 512) (l : Fin 128) (hs : 512 * n + r.val < 8192) :
    blkAt m X off inb (ix3 0 r l) = m.view.read (Elt Ideal) X (ix3 0 (⟨512 * n + r.val, hs⟩ : Fin 8192) l) := by
  show View.ld (m.view.read (Elt Ideal) X) (Rect.unit (s := S1x8192x128) off S1x512x128.size inb) (ix3 0 r l) = _
  exact View.ld_unit_apply_of _ _ _ _ _ _ (by subst hoff; intro a; fin_cases a <;> simp [ix3])

theorem trips1 : k0_t1_loop.trips = 16 := rfl

theorem off1_eq (k : Fin k0_t1_loop.trips) : k0_off1 k = ![0, 512 * k.val, 0] := by
  have hk : k.val < 16 := k.isLt
  unfold k0_off1
  generalize k.val = kk at *
  interval_cases kk <;> rfl

theorem off2_eq (k : Fin k0_t1_loop.trips) : k0_off2 k = ![0, 512 * k.val, 0] := by
  have hk : k.val < 16 := k.isLt
  unfold k0_off2
  generalize k.val = kk at *
  interval_cases kk <;> rfl

theorem off3_eq (k : Fin k0_t1_loop.trips) : k0_off3 k = ![1, 512 * k.val, 0] := by
  have hk : k.val < 16 := k.isLt
  unfold k0_off3
  generalize k.val = kk at *
  interval_cases kk <;> rfl

theorem off4_eq (i : grid0.Coords) : k0_off4 i = ![0, 512 * (i 2).val, 0] := by
  have h := i2_lt i
  unfold k0_off4
  generalize (i 2).val = n at *
  interval_cases n <;> rfl

section Fill
variable (𝒱 : Variants) (c : Dev nD) (bd : Option 𝒱.V) (i : grid0.Coords)
  (arg3 : Memref sig .tc .vmem S1x512x128 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x8192x128 .f32) (harg6 : arg6.IsWhole)
  (arg7 : Memref sig .tc .vmem S1x512x128 .bf16) (harg7 : arg7.IsWhole)
  (arg8 : Memref sig .tc .vmem S2x8192x128 .bf16) (harg8 : arg8.IsWhole)
  (arg9 : Memref sig .tc .vmem S2x8192x128 .bf16) (harg9 : arg9.IsWhole)
  (arg10 : Memref sig .tc .vmem S2x512x128 .f32) (harg10 : arg10.IsWhole)
  (arg11 : Memref sig .tc .vmem S2x512x128 .f32) (harg11 : arg11.IsWhole)
  (arg1 : BitVec 32) (h1 : k0_cond1 i = 1#1)
  (X4 : BufTy.Contents (Elt Ideal) arg4.view.ty) (X5 : BufTy.Contents (Elt Ideal) arg5.view.ty)
  (X6 : BufTy.Contents (Elt Ideal) arg6.view.ty)
  (G8 : BufTy.Contents (Elt Ideal) arg8.view.ty) (G9 : BufTy.Contents (Elt Ideal) arg9.view.ty)

abbrev K1 {e : EltTy} (m : Memref sig .tc .vmem S1x8192x128 e) (X : BufTy.Contents (Elt Ideal) m.view.ty) (k : Fin k0_t1_loop.trips) :=
  blkAt m X (k0_off1 k) (k0_off1_inb i k h1)

theorem trip1_k (k : Fin k0_t1_loop.trips) :
    (trip_k0_t1 (F := Ideal) 𝒱 c bd i arg3 harg3 arg4 harg4 arg5 harg5 arg6 harg6 arg7 harg7 arg8 harg8 arg9 harg9 arg10 harg10 arg11 harg11 arg1 lanes h1 X4 X5 X6 k).1
      = [⟨Rect.unit (s := S2x8192x128) (k0_off3 k) S1x512x128.size (k0_off3_inb i k h1),
          k0_pay21 lanes (k0_pay2 (K1 i h1 arg4 X4 k)) (k0_pay16 arg1 lanes (k0_pay4 (K1 i h1 arg6 X6 k)))
            (k0_pay18 arg1 lanes (k0_pay4 (K1 i h1 arg6 X6 k))) (k0_pay19 arg1 lanes (k0_pay4 (K1 i h1 arg6 X6 k))) (k0_pay20 lanes)⟩,
         ⟨Rect.unit (s := S2x8192x128) (k0_off2 k) S1x512x128.size (k0_off2_inb i k h1),
          k0_pay12 lanes (k0_pay2 (K1 i h1 arg4 X4 k)) (k0_pay6 arg1 lanes (K1 i h1 arg6 X6 k))
            (k0_pay8 arg1 lanes (K1 i h1 arg6 X6 k)) (k0_pay9 arg1 lanes (K1 i h1 arg6 X6 k)) (k0_pay10 lanes) k0_pay11⟩] := by
  unfold trip_k0_t1
  rfl

theorem trip1_v (k : Fin k0_t1_loop.trips) :
    (trip_k0_t1 (F := Ideal) 𝒱 c bd i arg3 harg3 arg4 harg4 arg5 harg5 arg6 harg6 arg7 harg7 arg8 harg8 arg9 harg9 arg10 harg10 arg11 harg11 arg1 lanes h1 X4 X5 X6 k).2.1
      = [⟨Rect.unit (s := S2x8192x128) (k0_off3 k) S1x512x128.size (k0_off3_inb i k h1), k0_pay120 (k0_pay3 (K1 i h1 arg5 X5 k))⟩,
         ⟨Rect.unit (s := S2x8192x128) (k0_off2 k) S1x512x128.size (k0_off2_inb i k h1),
          k0_pay14 lanes (k0_pay3 (K1 i h1 arg5 X5 k)) (k0_pay13 lanes)⟩] := by
  unfold trip_k0_t1
  rfl

/-- The first `512 n` rows of both heads are written. -/
def FilledTo (m : Memref sig .tc .vmem S2x8192x128 .bf16) (f : ℕ → ℕ → ℕ → ℝ) (n : ℕ)
    (X : BufTy.Contents (Elt Ideal) m.view.ty) : Prop :=
  ∀ (h : Fin 2) (s : Fin 8192) (l : Fin 128), s.val < 512 * n → m.view.read (Elt Ideal) X (ix3 h s l) = ((f h s l : ℝ) : EReal)

/-- Two tiles written at the same rows of the two heads. -/
theorem filled_step (m : Memref sig .tc .vmem S2x8192x128 .bf16) (f : ℕ → ℕ → ℕ → ℝ) (n : ℕ)
    (X : BufTy.Contents (Elt Ideal) m.view.ty) (o2 o3 : Fin 3 → ℕ)
    (inb2 : ∀ a, o2 a + S1x512x128.size a ≤ S2x8192x128.size a) (inb3 : ∀ a, o3 a + S1x512x128.size a ≤ S2x8192x128.size a)
    (e2 : o2 = ![0, 512 * n, 0]) (e3 : o3 = ![1, 512 * n, 0]) (p2 p3 : Vec Ideal S1x512x128 .bf16)
    (h2 : ∀ (r : Fin 512) (l : Fin 128), p2 (ix3 0 r l) = ((f 0 (512 * n + r) l : ℝ) : EReal))
    (h3 : ∀ (r : Fin 512) (l : Fin 128), p3 (ix3 0 r l) = ((f 1 (512 * n + r) l : ℝ) : EReal))
    (hX : FilledTo m f n X) :
    FilledTo m f (n + 1) (m.view.writes (Elt Ideal) X
      [⟨Rect.unit (s := S2x8192x128) o3 S1x512x128.size inb3, p3⟩, ⟨Rect.unit (s := S2x8192x128) o2 S1x512x128.size inb2, p2⟩]) := by
  intro h s l hs
  by_cases hn : s.val < 512 * n
  · rw [View.read_writes_cons_unit_of_not_mem m.view X inb3 p3 _ (ix3 h s l) e3 1 (Or.inl hn),
      View.read_writes_cons_unit_of_not_mem m.view X inb2 p2 _ (ix3 h s l) e2 1 (Or.inl hn)]
    exact hX h s l hn
  · have hr : s.val - 512 * n < 512 := by omega
    have es : 512 * n + (s.val - 512 * n) = s.val := by omega
    by_cases hh : h.val = 1
    · obtain rfl : h = 1 := Fin.ext hh
      rw [View.read_writes_cons_unit_of_mem m.view X inb3 p3 _ (ix3 1 s l) (ix3 0 (⟨s.val - 512 * n, hr⟩ : Fin 512) l) e3
        (by intro a; fin_cases a <;> simp [ix3]; omega)]
      exact (h3 ⟨s.val - 512 * n, hr⟩ l).trans (by rw [show 512 * n + (⟨s.val - 512 * n, hr⟩ : Fin 512).val = s.val from es]; rfl)
    · obtain rfl : h = 0 := Fin.ext (by simp only [Fin.val_zero]; omega)
      rw [View.read_writes_cons_unit_of_not_mem m.view X inb3 p3 _ (ix3 0 s l) e3 0 (Or.inl (by simp [ix3])),
        View.read_writes_cons_unit_of_mem m.view X inb2 p2 _ (ix3 0 s l) (ix3 0 (⟨s.val - 512 * n, hr⟩ : Fin 512) l) e2
        (by intro a; fin_cases a <;> simp [ix3]; omega)]
      exact (h2 ⟨s.val - 512 * n, hr⟩ l).trans (by rw [show 512 * n + (⟨s.val - 512 * n, hr⟩ : Fin 512).val = s.val from es]; rfl)

/-- The widened keys of a pair of heads. -/
def KM (hp : ℕ) (kR cR : ℕ → ℕ → ℝ) (h s l : ℕ) : ℝ := kRow h (kR s) (cR s (2 * hp + h)) l
/-- The widened values of a pair of heads. -/
def VM (vR : ℕ → ℕ → ℝ) (h s l : ℕ) : ℝ := vRow h (vR s) l

variable (hp : ℕ) (hhp : hp < 4) (kR vR cR : ℕ → ℕ → ℝ)
  (hk : ∀ (s : Fin 8192) (l : Fin 128), arg4.view.read (Elt Ideal) X4 (ix3 0 s l) = ((kR s l : ℝ) : EReal))
  (hv : ∀ (s : Fin 8192) (l : Fin 128), arg5.view.read (Elt Ideal) X5 (ix3 0 s l) = ((vR s l : ℝ) : EReal))
  (hc : ∀ (s : Fin 8192) (l : Fin 128), arg6.view.read (Elt Ideal) X6 (ix3 0 s l) = ((cR s l : ℝ) : EReal))
include hhp hk hv hc

omit hv in
theorem fill_k (k : Fin k0_t1_loop.trips) (F8 : BufTy.Contents (Elt Ideal) arg8.view.ty)
    (h8 : FilledTo arg8 (KM hp kR cR) k.val F8) :
    FilledTo arg8 (KM hp kR cR) (k.val + 1) (arg8.view.writes (Elt Ideal) F8
      (trip_k0_t1 (F := Ideal) 𝒱 c bd i arg3 harg3 arg4 harg4 arg5 harg5 arg6 harg6 arg7 harg7 arg8 harg8 arg9 harg9 arg10 harg10 arg11 harg11 (BitVec.ofNat 32 hp) lanes h1 X4 X5 X6 k).1) := by
  have hk16 : k.val < 16 := k.isLt
  have hs : ∀ r : Fin 512, 512 * k.val + r.val < 8192 := fun r => by omega
  have ek : ∀ (r : Fin 512) (l : Fin 128), K1 i h1 arg4 X4 k (ix3 0 r l) = ((kR (512 * k.val + r.val) l : ℝ) : EReal) :=
    fun r l => (blkAt_ix _ _ _ _ _ (off1_eq k) r l (hs r)).trans (hk _ l)
  have ec : ∀ (r : Fin 512) (l : Fin 128), K1 i h1 arg6 X6 k (ix3 0 r l) = ((cR (512 * k.val + r.val) l : ℝ) : EReal) :=
    fun r l => (blkAt_ix _ _ _ _ _ (off1_eq k) r l (hs r)).trans (hc _ l)
  rw [trip1_k]
  have a2 := fun (r : Fin 512) (l : Fin 128) => kRow0 hp hhp (K1 i h1 arg4 X4 k) (K1 i h1 arg6 X6 k) r (fun l => kR (512 * k.val + r.val) l)
    (fun l => cR (512 * k.val + r.val) l) (ek r) (ec r) l
  have a3 := fun (r : Fin 512) (l : Fin 128) => kRow1 hp hhp (K1 i h1 arg4 X4 k) (K1 i h1 arg6 X6 k) r (fun l => kR (512 * k.val + r.val) l)
    (fun l => cR (512 * k.val + r.val) l) (ek r) (ec r) l
  exact filled_step arg8 _ k.val F8 _ _ _ _ (off2_eq k) (off3_eq k) _ _ a2 a3 h8

omit hk hc hhp in
theorem fill_v (k : Fin k0_t1_loop.trips) (F9 : BufTy.Contents (Elt Ideal) arg9.view.ty)
    (h9 : FilledTo arg9 (VM vR) k.val F9) :
    FilledTo arg9 (VM vR) (k.val + 1) (arg9.view.writes (Elt Ideal) F9
      (trip_k0_t1 (F := Ideal) 𝒱 c bd i arg3 harg3 arg4 harg4 arg5 harg5 arg6 harg6 arg7 harg7 arg8 harg8 arg9 harg9 arg10 harg10 arg11 harg11 (BitVec.ofNat 32 hp) lanes h1 X4 X5 X6 k).2.1) := by
  have hk16 : k.val < 16 := k.isLt
  have hs : ∀ r : Fin 512, 512 * k.val + r.val < 8192 := fun r => by omega
  have ev : ∀ (r : Fin 512) (l : Fin 128), K1 i h1 arg5 X5 k (ix3 0 r l) = ((vR (512 * k.val + r.val) l : ℝ) : EReal) :=
    fun r l => (blkAt_ix _ _ _ _ _ (off1_eq k) r l (hs r)).trans (hv _ l)
  rw [trip1_v]
  have b2 := fun (r : Fin 512) (l : Fin 128) => vRow0 (K1 i h1 arg5 X5 k) r (fun l => vR (512 * k.val + r.val) l) (ev r) l
  have b3 := fun (r : Fin 512) (l : Fin 128) => vRow1 (K1 i h1 arg5 X5 k) r (fun l => vR (512 * k.val + r.val) l) (ev r) l
  exact filled_step arg9 _ k.val F9 _ _ _ _ (off2_eq k) (off3_eq k) _ _ b2 b3 h9

theorem loop1_fill : ∀ k, k ≤ k0_t1_loop.trips →
    FilledTo arg8 (KM hp kR cR) k (arg8.view.writes (Elt Ideal) G8
      (pb_k0_t1 (F := Ideal) 𝒱 c bd i arg3 harg3 arg4 harg4 arg5 harg5 arg6 harg6 arg7 harg7 arg8 harg8 arg9 harg9 arg10 harg10 arg11 harg11 (BitVec.ofNat 32 hp) lanes h1 X4 X5 X6 k).1) ∧
    FilledTo arg9 (VM vR) k (arg9.view.writes (Elt Ideal) G9
      (pb_k0_t1 (F := Ideal) 𝒱 c bd i arg3 harg3 arg4 harg4 arg5 harg5 arg6 harg6 arg7 harg7 arg8 harg8 arg9 harg9 arg10 harg10 arg11 harg11 (BitVec.ofNat 32 hp) lanes h1 X4 X5 X6 k).2)
  | 0, _ => ⟨fun h s l hs => by omega, fun h s l hs => by omega⟩
  | k + 1, hkk => by
    have ih := loop1_fill k (by omega)
    rw [pb_k0_t1_succ (F := Ideal) 𝒱 c bd i arg3 harg3 arg4 harg4 arg5 harg5 arg6 harg6 arg7 harg7 arg8 harg8 arg9 harg9 arg10 harg10 arg11 harg11 (BitVec.ofNat 32 hp) lanes h1 X4 X5 X6 ⟨k, hkk⟩]
    simp only [View.writes_append]
    exact ⟨fill_k 𝒱 c bd i arg3 harg3 arg4 harg4 arg5 harg5 arg6 harg6 arg7 harg7 arg8 harg8 arg9 harg9 arg10 harg10 arg11 harg11 h1 X4 X5 X6 hp hhp kR cR hk hc ⟨k, hkk⟩ _ ih.1,
      fill_v 𝒱 c bd i arg3 harg3 arg4 harg4 arg5 harg5 arg6 harg6 arg7 harg7 arg8 harg8 arg9 harg9 arg10 harg10 arg11 harg11 h1 X4 X5 X6 hp vR hv ⟨k, hkk⟩ _ ih.2⟩

end Fill
end Cert.KernelIdeal.Fox
-- ==== Proof.Tail.lean ====
module
public import proofs.«01_k».proof.Proof.Out
public import proofs.«01_k».proof.Proof.Fill
/-!
# A query tile, from its running maxima and sums to its result

The four loops over the tiles before the diagonal in a row, the tile on the diagonal of each head, and the
quotient.
-/
@[expose] public section
set_option maxRecDepth 16384
noncomputable section
namespace Cert.KernelIdeal.Fox
open Idealize.ShloMosaic Cert.KernelIdeal.Gen Cert.Fox

/-- The widened keys of the pair of heads of a grid point, as a buffer holds them. -/
def kmV (i : grid0.Coords) (kR cR : ℕ → ℕ → ℝ) : Vec Ideal S2x8192x128 .bf16 :=
  fun ix => ((KM (i 1).val kR cR (ix 0).val (ix 1).val (ix 2).val : ℝ) : EReal)
/-- The widened values of the pair of heads of a grid point, as a buffer holds them. -/
def vmV (vR : ℕ → ℕ → ℝ) : Vec Ideal S2x8192x128 .bf16 :=
  fun ix => ((VM vR (ix 0).val (ix 1).val (ix 2).val : ℝ) : EReal)
/-- The result block of a grid point. -/
def outV (i : grid0.Coords) (qR kR vR cR : ℕ → ℕ → ℝ) : Vec Ideal S1x512x128 .bf16 :=
  fun ix => ((outR (i 1).val (i 2).val qR kR vR cR (ix 1).val (ix 2).val : ℝ) : EReal)

abbrev rowI : IVec S512x512 32 := iota .tc S512x512 32 [0] iota_S512x512_d0_w32
abbrev colI : IVec S512x512 32 := iota .tc S512x512 32 [1] iota_S512x512_d1_w32

theorem idx2 (j : S2x8192x128.Idx) :
    j = ix3 (⟨(j 0).val, (j 0).isLt⟩ : Fin 2) (⟨(j 1).val, (j 1).isLt⟩ : Fin 8192) (⟨(j 2).val, (j 2).isLt⟩ : Fin 128) := by
  funext a; fin_cases a <;> rfl

theorem idx1 (j : S1x512x128.Idx) :
    j = ix3 (0 : Fin 1) (⟨(j 1).val, (j 1).isLt⟩ : Fin 512) (⟨(j 2).val, (j 2).isLt⟩ : Fin 128) := by
  funext a
  fin_cases a
  · exact Fin.ext (by have : (j 0).val < 1 := (j 0).isLt; show (j 0).val = 0; omega)
  · rfl
  · rfl

section Tail
variable (𝒱 : Variants) (c : Dev nD) (bd : Option 𝒱.V) (i : grid0.Coords)
  (arg3 : Memref sig .tc .vmem S1x512x128 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x8192x128 .f32) (harg6 : arg6.IsWhole)
  (arg7 : Memref sig .tc .vmem S1x512x128 .bf16) (harg7 : arg7.IsWhole)
  (arg8 : Memref sig .tc .vmem S2x8192x128 .bf16) (harg8 : arg8.IsWhole)
  (arg9 : Memref sig .tc .vmem S2x8192x128 .bf16) (harg9 : arg9.IsWhole)
  (arg10 : Memref sig .tc .vmem S2x512x128 .f32) (harg10 : arg10.IsWhole)
  (arg11 : Memref sig .tc .vmem S2x512x128 .f32) (harg11 : arg11.IsWhole)
  (arg2 : BitVec 32) (v80 v149 : FVec Ideal S512x128 .bf16) (v176 v181 v182 v187 : BitVec 32)
  (X8 : BufTy.Contents (Elt Ideal) arg8.view.ty) (X9 : BufTy.Contents (Elt Ideal) arg9.view.ty)

/-- The running maxima and sums as they start. -/
abbrev start10 : List (View.Piece (Elt Ideal) S2x512x128 .f32) :=
  [⟨Rect.unit (s := S2x512x128) ![0, 0, 0] S2x512x128.size inb_S2x512x128_S2x512x128_0_0_0, k0_pay140 (F := Ideal)⟩]
abbrev start11 : List (View.Piece (Elt Ideal) S2x512x128 .f32) :=
  [⟨Rect.unit (s := S2x512x128) ![0, 0, 0] S2x512x128.size inb_S2x512x128_S2x512x128_0_0_0, k0_pay141 (F := Ideal)⟩]
abbrev w10 (m : Memref sig .tc .vmem S2x512x128 .f32) (L : List (View.Piece (Elt Ideal) S2x512x128 .f32)) :=
  m.view.writes (Elt Ideal) (m.view.junk (Val := Elt Ideal)) L

def b2 := pb_k0_t2 (F := Ideal) 𝒱 c bd i arg3 harg3 arg4 harg4 arg5 harg5 arg6 harg6 arg7 harg7 arg8 harg8 arg9 harg9 arg10 harg10 arg11 harg11 arg2 v80 v149 rowI colI v176 X8 X9 (w10 arg10 start10) (w10 arg11 start11) (k0_t2_loop i).trips
def s2 := (b2 𝒱 c bd i arg3 harg3 arg4 harg4 arg5 harg5 arg6 harg6 arg7 harg7 arg8 harg8 arg9 harg9 arg10 harg10 arg11 harg11 arg2 v80 v149 v176 X8 X9).1 ++ start10
def a2 := (b2 𝒱 c bd i arg3 harg3 arg4 harg4 arg5 harg5 arg6 harg6 arg7 harg7 arg8 harg8 arg9 harg9 arg10 harg10 arg11 harg11 arg2 v80 v149 v176 X8 X9).2 ++ start11
def b3 := pb_k0_t3 (F := Ideal) 𝒱 c bd i arg3 harg3 arg4 harg4 arg5 harg5 arg6 harg6 arg7 harg7 arg8 harg8 arg9 harg9 arg10 harg10 arg11 harg11 arg2 v80 v149 rowI colI v176 v181 X8 X9
  (w10 arg10 (s2 𝒱 c bd i arg3 harg3 arg4 harg4 arg5 harg5 arg6 harg6 arg7 harg7 arg8 harg8 arg9 harg9 arg10 harg10 arg11 harg11 arg2 v80 v149 v176 X8 X9)) (w10 arg11 (a2 𝒱 c bd i arg3 harg3 arg4 harg4 arg5 harg5 arg6 harg6 arg7 harg7 arg8 harg8 arg9 harg9 arg10 harg10 arg11 harg11 arg2 v80 v149 v176 X8 X9)) (k0_t3_loop i).trips
def s3 := (b3 𝒱 c bd i arg3 harg3 arg4 harg4 arg5 harg5 arg6 harg6 arg7 harg7 arg8 harg8 arg9 harg9 arg10 harg10 arg11 harg11 arg2 v80 v149 v176 v181 X8 X9).1 ++ s2 𝒱 c bd i arg3 harg3 arg4 harg4 arg5 harg5 arg6 harg6 arg7 harg7 arg8 harg8 arg9 harg9 arg10 harg10 arg11 harg11 arg2 v80 v149 v176 X8 X9
def a3 := (b3 𝒱 c bd i arg3 harg3 arg4 harg4 arg5 harg5 arg6 harg6 arg7 harg7 arg8 harg8 arg9 harg9 arg10 harg10 arg11 harg11 arg2 v80 v149 v176 v181 X8 X9).2 ++ a2 𝒱 c bd i arg3 harg3 arg4 harg4 arg5 harg5 arg6 harg6 arg7 harg7 arg8 harg8 arg9 harg9 arg10 harg10 arg11 harg11 arg2 v80 v149 v176 X8 X9
def b4 := pb_k0_t4 (F := Ideal) 𝒱 c bd i arg3 harg3 arg4 harg4 arg5 harg5 arg6 harg6 arg7 harg7 arg8 harg8 arg9 harg9 arg10 harg10 arg11 harg11 arg2 v80 v149 rowI colI v176 v182 X8 X9
  (w10 arg10 (s3 𝒱 c bd i arg3 harg3 arg4 harg4 arg5 harg5 arg6 harg6 arg7 harg7 arg8 harg8 arg9 harg9 arg10 harg10 arg11 harg11 arg2 v80 v149 v176 v181 X8 X9)) (w10 arg11 (a3 𝒱 c bd i arg3 harg3 arg4 harg4 arg5 harg5 arg6 harg6 arg7 harg7 arg8 harg8 arg9 harg9 arg10 harg10 arg11 harg11 arg2 v80 v149 v176 v181 X8 X9)) (k0_t4_loop i).trips
def s4 := (b4 𝒱 c bd i arg3 harg3 arg4 harg4 arg5 harg5 arg6 harg6 arg7 harg7 arg8 harg8 arg9 harg9 arg10 harg10 arg11 harg11 arg2 v80 v149 v176 v181 v182 X8 X9).1 ++ s3 𝒱 c bd i arg3 harg3 arg4 harg4 arg5 harg5 arg6 harg6 arg7 harg7 arg8 harg8 arg9 harg9 arg10 harg10 arg11 harg11 arg2 v80 v149 v176 v181 X8 X9
def a4 := (b4 𝒱 c bd i arg3 harg3 arg4 harg4 arg5 harg5 arg6 harg6 arg7 harg7 arg8 harg8 arg9 harg9 arg10 harg10 arg11 harg11 arg2 v80 v149 v176 v181 v182 X8 X9).2 ++ a3 𝒱 c bd i arg3 harg3 arg4 harg4 arg5 harg5 arg6 harg6 arg7 harg7 arg8 harg8 arg9 harg9 arg10 harg10 arg11 harg11 arg2 v80 v149 v176 v181 X8 X9
def b5 := pb_k0_t5 (F := Ideal) 𝒱 c bd i arg3 harg3 arg4 harg4 arg5 harg5 arg6 harg6 arg7 harg7 arg8 harg8 arg9 harg9 arg10 harg10 arg11 harg11 arg2 v80 v149 rowI colI v176 v187 X8 X9
  (w10 arg10 (s4 𝒱 c bd i arg3 harg3 arg4 harg4 arg5 harg5 arg6 harg6 arg7 harg7 arg8 harg8 arg9 harg9 arg10 harg10 arg11 harg11 arg2 v80 v149 v176 v181 v182 X8 X9)) (w10 arg11 (a4 𝒱 c bd i arg3 harg3 arg4 harg4 arg5 harg5 arg6 harg6 arg7 harg7 arg8 harg8 arg9 harg9 arg10 harg10 arg11 harg11 arg2 v80 v149 v176 v181 v182 X8 X9)) (k0_t5_loop i).trips
def s5 := (b5 𝒱 c bd i arg3 harg3 arg4 harg4 arg5 harg5 arg6 harg6 arg7 harg7 arg8 harg8 arg9 harg9 arg10 harg10 arg11 harg11 arg2 v80 v149 v176 v181 v182 v187 X8 X9).1 ++ s4 𝒱 c bd i arg3 harg3 arg4 harg4 arg5 harg5 arg6 harg6 arg7 harg7 arg8 harg8 arg9 harg9 arg10 harg10 arg11 harg11 arg2 v80 v149 v176 v181 v182 X8 X9
def a5 := (b5 𝒱 c bd i arg3 harg3 arg4 harg4 arg5 harg5 arg6 harg6 arg7 harg7 arg8 harg8 arg9 harg9 arg10 harg10 arg11 harg11 arg2 v80 v149 v176 v181 v182 v187 X8 X9).2 ++ a4 𝒱 c bd i arg3 harg3 arg4 harg4 arg5 harg5 arg6 harg6 arg7 harg7 arg8 harg8 arg9 harg9 arg10 harg10 arg11 harg11 arg2 v80 v149 v176 v181 v182 X8 X9

/-- The diagonal tile of the first head of the pair. -/
abbrev last0 := stD v80 (tileAt arg8 X8 (k0_off13 i) (k0_off13_inb i)) (tileAt arg9 X9 (k0_off13 i) (k0_off13_inb i))
  (arg10.view.readCov (s5 𝒱 c bd i arg3 harg3 arg4 harg4 arg5 harg5 arg6 harg6 arg7 harg7 arg8 harg8 arg9 harg9 arg10 harg10 arg11 harg11 arg2 v80 v149 v176 v181 v182 v187 X8 X9) slotR0.toLoadRect,
   arg11.view.readCov (a5 𝒱 c bd i arg3 harg3 arg4 harg4 arg5 harg5 arg6 harg6 arg7 harg7 arg8 harg8 arg9 harg9 arg10 harg10 arg11 harg11 arg2 v80 v149 v176 v181 v182 v187 X8 X9) slotR0.toLoadRect)
/-- The diagonal tile of the second head of the pair. -/
abbrev last1 := stD v149 (tileAt arg8 X8 (k0_off14 i) (k0_off14_inb i)) (tileAt arg9 X9 (k0_off14 i) (k0_off14_inb i))
  (arg10.view.readCov (s5 𝒱 c bd i arg3 harg3 arg4 harg4 arg5 harg5 arg6 harg6 arg7 harg7 arg8 harg8 arg9 harg9 arg10 harg10 arg11 harg11 arg2 v80 v149 v176 v181 v182 v187 X8 X9) slotR1.toLoadRect,
   arg11.view.readCov (a5 𝒱 c bd i arg3 harg3 arg4 harg4 arg5 harg5 arg6 harg6 arg7 harg7 arg8 harg8 arg9 harg9 arg10 harg10 arg11 harg11 arg2 v80 v149 v176 v181 v182 v187 X8 X9) slotR1.toLoadRect)

theorem start_good (qm km vm : ℕ → ℕ → ℕ → ℝ) : Good2 arg10 arg11 qm km vm 0 (w10 arg10 start10) (w10 arg11 start11) := by
  have hm : (Named.named κ "mask" 4048155338#32 : Ideal .f32) = (⊥ : EReal) :=
    IdealRules.named_const.ideal_named_scalar _ _ _ _ rfl
  have h10 : ∀ (h : Fin 2) (r : Fin 512) (l : Fin 128), arg10.view.read (Elt Ideal) (w10 arg10 start10) (ix3 h r l) = (⊥ : EReal) := by
    intro h r l
    refine (View.read_writes_cons_unit_of_mem (off' := ![0, 0, 0]) arg10.view _ inb_S2x512x128_S2x512x128_0_0_0 _ [] (ix3 h r l) (ix3 h r l) rfl
      (by intro a; fin_cases a <;> simp [ix3])).trans ?_
    rw [← hm]
    pointwise [k0_pay140]
  have h11 : ∀ (h : Fin 2) (r : Fin 512) (l : Fin 128), arg11.view.read (Elt Ideal) (w10 arg11 start11) (ix3 h r l) = (0 : EReal) := by
    intro h r l
    refine (View.read_writes_cons_unit_of_mem (off' := ![0, 0, 0]) arg11.view _ inb_S2x512x128_S2x512x128_0_0_0 _ [] (ix3 h r l) (ix3 h r l) rfl
      (by intro a; fin_cases a <;> simp [ix3])).trans ?_
    pointwise [k0_pay141]
  exact ⟨fun r => Or.inl ⟨rfl, fun l => by rw [slot0_ix, h10], fun l => by rw [slot0_ix, h11]⟩,
    fun r => Or.inl ⟨rfl, fun l => by rw [slot1_ix, h10], fun l => by rw [slot1_ix, h11]⟩⟩

variable (qm km vm : ℕ → ℕ → ℕ → ℝ)
  (hq0 : ∀ (r : Fin 512) (l : Fin 128), v80 (ix2 r l) = ((qm 0 r l : ℝ) : EReal))
  (hq1 : ∀ (r : Fin 512) (l : Fin 128), v149 (ix2 r l) = ((qm 1 r l : ℝ) : EReal))
  (hK : ∀ (h : Fin 2) (s : Fin 8192) (l : Fin 128), arg8.view.read (Elt Ideal) X8 (ix3 h s l) = ((km h s l : ℝ) : EReal))
  (hV : ∀ (h : Fin 2) (s : Fin 8192) (l : Fin 128), arg9.view.read (Elt Ideal) X9 (ix3 h s l) = ((vm h s l : ℝ) : EReal))
include hq0 hq1 hK hV

omit hq0 hq1 hK hV in
theorem b3_nil (f10 : BufTy.Contents (Elt Ideal) arg10.view.ty) (f11 : BufTy.Contents (Elt Ideal) arg11.view.ty) (n : ℕ) (hn : n = 0) :
    (pb_k0_t3 (F := Ideal) 𝒱 c bd i arg3 harg3 arg4 harg4 arg5 harg5 arg6 harg6 arg7 harg7 arg8 harg8 arg9 harg9 arg10 harg10 arg11 harg11 arg2 v80 v149 rowI colI v176 v181 X8 X9 f10 f11 n).1 = [] ∧ (pb_k0_t3 (F := Ideal) 𝒱 c bd i arg3 harg3 arg4 harg4 arg5 harg5 arg6 harg6 arg7 harg7 arg8 harg8 arg9 harg9 arg10 harg10 arg11 harg11 arg2 v80 v149 rowI colI v176 v181 X8 X9 f10 f11 n).2 = [] := by
  subst hn; exact ⟨rfl, rfl⟩
omit hq0 hq1 hK hV in
theorem b5_nil (f10 : BufTy.Contents (Elt Ideal) arg10.view.ty) (f11 : BufTy.Contents (Elt Ideal) arg11.view.ty) (n : ℕ) (hn : n = 0) :
    (pb_k0_t5 (F := Ideal) 𝒱 c bd i arg3 harg3 arg4 harg4 arg5 harg5 arg6 harg6 arg7 harg7 arg8 harg8 arg9 harg9 arg10 harg10 arg11 harg11 arg2 v80 v149 rowI colI v176 v187 X8 X9 f10 f11 n).1 = [] ∧ (pb_k0_t5 (F := Ideal) 𝒱 c bd i arg3 harg3 arg4 harg4 arg5 harg5 arg6 harg6 arg7 harg7 arg8 harg8 arg9 harg9 arg10 harg10 arg11 harg11 arg2 v80 v149 rowI colI v176 v187 X8 X9 f10 f11 n).2 = [] := by
  subst hn; exact ⟨rfl, rfl⟩

theorem good_s2 : Good2 arg10 arg11 qm km vm (4 * ((i 2).val / 4))
    (w10 arg10 (s2 𝒱 c bd i arg3 harg3 arg4 harg4 arg5 harg5 arg6 harg6 arg7 harg7 arg8 harg8 arg9 harg9 arg10 harg10 arg11 harg11 arg2 v80 v149 v176 X8 X9)) (w10 arg11 (a2 𝒱 c bd i arg3 harg3 arg4 harg4 arg5 harg5 arg6 harg6 arg7 harg7 arg8 harg8 arg9 harg9 arg10 harg10 arg11 harg11 arg2 v80 v149 v176 X8 X9)) := by
  have g2 := loop2_good 𝒱 c bd i arg3 harg3 arg4 harg4 arg5 harg5 arg6 harg6 arg7 harg7 arg8 harg8 arg9 harg9 arg10 harg10 arg11 harg11 arg2 v80 v149 rowI colI v176 X8 X9 (w10 arg10 start10) (w10 arg11 start11) qm km vm hq0 hq1 hK hV
    (start_good arg10 arg11 qm km vm) (k0_t2_loop i).trips le_rfl
  have e : 4 * (k0_t2_loop i).trips = 4 * ((i 2).val / 4) := by rw [trips2]
  rw [e] at g2
  unfold s2 a2 b2
  unfold w10 at g2 ⊢
  rw [View.writes_append, View.writes_append]
  exact g2

theorem good_s3 : Good2 arg10 arg11 qm km vm (4 * ((i 2).val / 4))
    (w10 arg10 (s3 𝒱 c bd i arg3 harg3 arg4 harg4 arg5 harg5 arg6 harg6 arg7 harg7 arg8 harg8 arg9 harg9 arg10 harg10 arg11 harg11 arg2 v80 v149 v176 v181 X8 X9)) (w10 arg11 (a3 𝒱 c bd i arg3 harg3 arg4 harg4 arg5 harg5 arg6 harg6 arg7 harg7 arg8 harg8 arg9 harg9 arg10 harg10 arg11 harg11 arg2 v80 v149 v176 v181 X8 X9)) := by
  have h := good_s2 𝒱 c bd i arg3 harg3 arg4 harg4 arg5 harg5 arg6 harg6 arg7 harg7 arg8 harg8 arg9 harg9 arg10 harg10 arg11 harg11 arg2 v80 v149 v176 X8 X9 qm km vm hq0 hq1 hK hV
  have e := b3_nil 𝒱 c bd i arg3 harg3 arg4 harg4 arg5 harg5 arg6 harg6 arg7 harg7 arg8 harg8 arg9 harg9 arg10 harg10 arg11 harg11 arg2 v80 v149 v176 v181 X8 X9 (w10 arg10 (s2 𝒱 c bd i arg3 harg3 arg4 harg4 arg5 harg5 arg6 harg6 arg7 harg7 arg8 harg8 arg9 harg9 arg10 harg10 arg11 harg11 arg2 v80 v149 v176 X8 X9))
    (w10 arg11 (a2 𝒱 c bd i arg3 harg3 arg4 harg4 arg5 harg5 arg6 harg6 arg7 harg7 arg8 harg8 arg9 harg9 arg10 harg10 arg11 harg11 arg2 v80 v149 v176 X8 X9)) (k0_t3_loop i).trips (trips3 i)
  unfold s3 a3 b3
  rw [e.1, e.2]
  exact h

theorem good_s4 : Good2 arg10 arg11 qm km vm (i 2).val
    (w10 arg10 (s4 𝒱 c bd i arg3 harg3 arg4 harg4 arg5 harg5 arg6 harg6 arg7 harg7 arg8 harg8 arg9 harg9 arg10 harg10 arg11 harg11 arg2 v80 v149 v176 v181 v182 X8 X9)) (w10 arg11 (a4 𝒱 c bd i arg3 harg3 arg4 harg4 arg5 harg5 arg6 harg6 arg7 harg7 arg8 harg8 arg9 harg9 arg10 harg10 arg11 harg11 arg2 v80 v149 v176 v181 v182 X8 X9)) := by
  have g4 := loop4_good 𝒱 c bd i arg3 harg3 arg4 harg4 arg5 harg5 arg6 harg6 arg7 harg7 arg8 harg8 arg9 harg9 arg10 harg10 arg11 harg11 arg2 v80 v149 rowI colI v176 v182 X8 X9 _ _ qm km vm hq0 hq1 hK hV
    (good_s3 𝒱 c bd i arg3 harg3 arg4 harg4 arg5 harg5 arg6 harg6 arg7 harg7 arg8 harg8 arg9 harg9 arg10 harg10 arg11 harg11 arg2 v80 v149 v176 v181 X8 X9 qm km vm hq0 hq1 hK hV) (k0_t4_loop i).trips le_rfl
  have en : 4 * ((i 2).val / 4) + (k0_t4_loop i).trips = (i 2).val := by rw [trips4]; omega
  rw [en] at g4
  unfold s4 a4 b4
  unfold w10 at g4 ⊢
  rw [View.writes_append, View.writes_append]
  exact g4

omit hq0 hq1 hK hV in
theorem s5_eq : s5 𝒱 c bd i arg3 harg3 arg4 harg4 arg5 harg5 arg6 harg6 arg7 harg7 arg8 harg8 arg9 harg9 arg10 harg10 arg11 harg11 arg2 v80 v149 v176 v181 v182 v187 X8 X9 = s4 𝒱 c bd i arg3 harg3 arg4 harg4 arg5 harg5 arg6 harg6 arg7 harg7 arg8 harg8 arg9 harg9 arg10 harg10 arg11 harg11 arg2 v80 v149 v176 v181 v182 X8 X9 := by
  unfold s5 b5
  rw [(b5_nil 𝒱 c bd i arg3 harg3 arg4 harg4 arg5 harg5 arg6 harg6 arg7 harg7 arg8 harg8 arg9 harg9 arg10 harg10 arg11 harg11 arg2 v80 v149 v176 v187 X8 X9 _ _ _ (trips5 i)).1, List.nil_append]

omit hq0 hq1 hK hV in
theorem a5_eq : a5 𝒱 c bd i arg3 harg3 arg4 harg4 arg5 harg5 arg6 harg6 arg7 harg7 arg8 harg8 arg9 harg9 arg10 harg10 arg11 harg11 arg2 v80 v149 v176 v181 v182 v187 X8 X9 = a4 𝒱 c bd i arg3 harg3 arg4 harg4 arg5 harg5 arg6 harg6 arg7 harg7 arg8 harg8 arg9 harg9 arg10 harg10 arg11 harg11 arg2 v80 v149 v176 v181 v182 X8 X9 := by
  unfold a5 b5
  rw [(b5_nil 𝒱 c bd i arg3 harg3 arg4 harg4 arg5 harg5 arg6 harg6 arg7 harg7 arg8 harg8 arg9 harg9 arg10 harg10 arg11 harg11 arg2 v80 v149 v176 v187 X8 X9 _ _ _ (trips5 i)).2, List.nil_append]

theorem loops_good : Good2 arg10 arg11 qm km vm (i 2).val
    (w10 arg10 (s5 𝒱 c bd i arg3 harg3 arg4 harg4 arg5 harg5 arg6 harg6 arg7 harg7 arg8 harg8 arg9 harg9 arg10 harg10 arg11 harg11 arg2 v80 v149 v176 v181 v182 v187 X8 X9)) (w10 arg11 (a5 𝒱 c bd i arg3 harg3 arg4 harg4 arg5 harg5 arg6 harg6 arg7 harg7 arg8 harg8 arg9 harg9 arg10 harg10 arg11 harg11 arg2 v80 v149 v176 v181 v182 v187 X8 X9)) := by
  rw [s5_eq, a5_eq]
  exact good_s4 𝒱 c bd i arg3 harg3 arg4 harg4 arg5 harg5 arg6 harg6 arg7 harg7 arg8 harg8 arg9 harg9 arg10 harg10 arg11 harg11 arg2 v80 v149 v176 v181 v182 X8 X9 qm km vm hq0 hq1 hK hV

theorem last_tiles :
    Good (rowScore (qm 0) (km 0)) (vm 0) (fun r => 512 * (i 2).val + (r + 1)) (last0 𝒱 c bd i arg3 harg3 arg4 harg4 arg5 harg5 arg6 harg6 arg7 harg7 arg8 harg8 arg9 harg9 arg10 harg10 arg11 harg11 arg2 v80 v149 v176 v181 v182 v187 X8 X9).1
      (last0 𝒱 c bd i arg3 harg3 arg4 harg4 arg5 harg5 arg6 harg6 arg7 harg7 arg8 harg8 arg9 harg9 arg10 harg10 arg11 harg11 arg2 v80 v149 v176 v181 v182 v187 X8 X9).2 ∧
    Good (rowScore (qm 1) (km 1)) (vm 1) (fun r => 512 * (i 2).val + (r + 1)) (last1 𝒱 c bd i arg3 harg3 arg4 harg4 arg5 harg5 arg6 harg6 arg7 harg7 arg8 harg8 arg9 harg9 arg10 harg10 arg11 harg11 arg2 v80 v149 v176 v181 v182 v187 X8 X9).1
      (last1 𝒱 c bd i arg3 harg3 arg4 harg4 arg5 harg5 arg6 harg6 arg7 harg7 arg8 harg8 arg9 harg9 arg10 harg10 arg11 harg11 arg2 v80 v149 v176 v181 v182 v187 X8 X9).2 := by
  have h := loops_good 𝒱 c bd i arg3 harg3 arg4 harg4 arg5 harg5 arg6 harg6 arg7 harg7 arg8 harg8 arg9 harg9 arg10 harg10 arg11 harg11 arg2 v80 v149 v176 v181 v182 v187 X8 X9 qm km vm hq0 hq1 hK hV
  have hi := i2_lt i
  exact ⟨stD_good (qm 0) (km 0) (vm 0) _ _ _ _ _ hq0 (fun r l => tileAt_ix _ _ _ _ 0 (i 2).val (off13_eq i) km hK r l)
      (fun r l => tileAt_ix _ _ _ _ 0 (i 2).val (off13_eq i) vm hV r l) h.1,
    stD_good (qm 1) (km 1) (vm 1) _ _ _ _ _ hq1 (fun r l => tileAt_ix _ _ _ _ 1 (i 2).val (off14_eq i) km hK r l)
      (fun r l => tileAt_ix _ _ _ _ 1 (i 2).val (off14_eq i) vm hV r l) h.2⟩

end Tail
end Cert.KernelIdeal.Fox
-- ==== Proof.Body.lean ====
/-
The body of the kernel run to its end from the blocks of a grid point, with the result named.
-/
module

public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import proofs.«01_k».proof.Proof.Common
public import proofs.«01_k».proof.Proof.Tail

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Launch Cert.Fox

local notation "𝕄" => MT nD τ sig Unit (Elt Ideal) ℕ (UR sig nD τ) ℕ

/-- The block of query rows of a grid point, as the kernel loads it. -/
abbrev qBlk (arg3 : Memref sig .tc .vmem S1x512x128 .bf16) (f0 : BufTy.Contents (Elt Ideal) arg3.view.ty) : Vec Ideal S1x512x128 .bf16 :=
  arg3.view.readAt (Elt Ideal) (Rect.unit (s := S1x512x128) ![0, 0, 0] S1x512x128.size inb_S1x512x128_S1x512x128_0_0_0).toLoadRect f0

theorem qBlk_ix (arg3 : Memref sig .tc .vmem S1x512x128 .bf16) (f0 : BufTy.Contents (Elt Ideal) arg3.view.ty) (r : Fin 512) (l : Fin 128) :
    qBlk arg3 f0 (ix3 0 r l) = arg3.view.read (Elt Ideal) f0 (ix3 0 r l) := by
  show View.ld (arg3.view.read (Elt Ideal) f0) (Rect.unit (s := S1x512x128) ![0, 0, 0] S1x512x128.size inb_S1x512x128_S1x512x128_0_0_0) (ix3 0 r l) = _
  exact View.ld_unit_apply_of _ _ _ _ _ _ (by intro a; fin_cases a <;> simp [ix3])

theorem out_read (arg7 : Memref sig .tc .vmem S1x512x128 .bf16) (f4 : BufTy.Contents (Elt Ideal) arg7.view.ty) (p : Vec Ideal S1x512x128 .bf16) :
    arg7.view.read (Elt Ideal) (arg7.view.writes (Elt Ideal) f4
      [⟨Rect.unit (s := S1x512x128) ![0, 0, 0] ![1, 512, 128] inb_S1x512x128_S1x512x128_0_0_0, p⟩]) = p := by
  funext j
  exact View.read_writes_cons_unit_of_mem (off' := ![0, 0, 0]) arg7.view f4 inb_S1x512x128_S1x512x128_0_0_0 p [] j j rfl
    (by intro a; fin_cases a <;> simp)

section Point
variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8192x128 .f32) (harg6 : arg6.IsWhole) (arg7 : Memref sig .tc .vmem S1x512x128 .bf16) (harg7 : arg7.IsWhole) (arg8 : Memref sig .tc .vmem S2x8192x128 .bf16) (harg8 : arg8.IsWhole) (arg9 : Memref sig .tc .vmem S2x8192x128 .bf16) (harg9 : arg9.IsWhole) (arg10 : Memref sig .tc .vmem S2x512x128 .f32) (harg10 : arg10.IsWhole) (arg11 : Memref sig .tc .vmem S2x512x128 .f32) (harg11 : arg11.IsWhole)
  (f0 : BufTy.Contents (Elt Ideal) arg3.view.ty) (f3 : BufTy.Contents (Elt Ideal) arg6.view.ty)
  (qR kR vR cR : ℕ → ℕ → ℝ)
  (hq : ∀ (s : Fin 512) (l : Fin 128), arg3.view.read (Elt Ideal) f0 (ix3 0 s l) = ((qR s l : ℝ) : EReal))
  (hcu : ∀ (s : Fin 8192) (l : Fin 128), arg6.view.read (Elt Ideal) f3 (ix3 0 s l) = ((cR s l : ℝ) : EReal))

/-- The widened query rows of the two heads, as the kernel computes them. -/
abbrev qV0 : FVec Ideal S512x128 .bf16 :=
  k0_pay130 lanes (k0_pay121 (qBlk arg3 f0)) (k0_pay124 i (blkAt arg6 f3 (k0_off4 i) (k0_off4_inb i)))
    (k0_pay126 i (blkAt arg6 f3 (k0_off4 i) (k0_off4_inb i))) (k0_pay127 i (blkAt arg6 f3 (k0_off4 i) (k0_off4_inb i))) k0_pay128 k0_pay129
abbrev qV1 : FVec Ideal S512x128 .bf16 :=
  k0_pay139 lanes (k0_pay137 (k0_pay122 (blkAt arg6 f3 (k0_off4 i) (k0_off4_inb i))) (k0_pay131 (BitVec.ofNat 32 (i 1).val) lanes) k0_pay132)
    (k0_pay138 lanes (k0_pay121 (qBlk arg3 f0)) (k0_pay122 (blkAt arg6 f3 (k0_off4 i) (k0_off4_inb i)))
      (k0_pay131 (BitVec.ofNat 32 (i 1).val) lanes) k0_pay132) 2#32

include hcu in
theorem cBlk (r : Fin 512) (l : Fin 128) :
    blkAt arg6 f3 (k0_off4 i) (k0_off4_inb i) (ix3 0 r l) = ((cR (512 * (i 2).val + r.val) l : ℝ) : EReal) := by
  have hi := i2_lt i
  exact (blkAt_ix _ _ _ _ _ (off4_eq i) r l (by omega)).trans (hcu _ l)

include hq hcu in
theorem qV0_ix (r : Fin 512) (l : Fin 128) :
    qV0 i arg3 arg6 f0 f3 (ix2 r l) = ((qRow 0 (qR r) (cR (512 * (i 2).val + r) (2 * (i 1).val + 0)) l : ℝ) : EReal) :=
  qRow0 (qBlk arg3 f0) (blkAt arg6 f3 (k0_off4 i) (k0_off4_inb i)) r (fun l => qR r l) (fun l => cR (512 * (i 2).val + r.val) l) i
    (fun l => (qBlk_ix arg3 f0 r l).trans (hq r l)) (fun l => cBlk i arg6 f3 cR hcu r l) l

include hq hcu in
theorem qV1_ix (r : Fin 512) (l : Fin 128) :
    qV1 i arg3 arg6 f0 f3 (ix2 r l) = ((qRow 1 (qR r) (cR (512 * (i 2).val + r) (2 * (i 1).val + 1)) l : ℝ) : EReal) :=
  qRow1 (i 1).val (i 1).isLt (qBlk arg3 f0) (blkAt arg6 f3 (k0_off4 i) (k0_off4_inb i)) r (fun l => qR r l) (fun l => cR (512 * (i 2).val + r.val) l)
    (fun l => (qBlk_ix arg3 f0 r l).trans (hq r l)) (fun l => cBlk i arg6 f3 cR hcu r l) l

include hq hcu in
/-- The result block of a grid point, from the widened keys and values. -/
theorem point_out (v176 v181 v182 v187 : BitVec 32)
    (X8 : BufTy.Contents (Elt Ideal) arg8.view.ty) (X9 : BufTy.Contents (Elt Ideal) arg9.view.ty)
    (h8 : arg8.view.read (Elt Ideal) X8 = kmV i kR cR) (h9 : arg9.view.read (Elt Ideal) X9 = vmV vR) :
    k0_pay1 (k0_pay170 lanes
      (last0 Variants.none c none i arg3 harg3 arg4 harg4 arg5 harg5 arg6 harg6 arg7 harg7 arg8 harg8 arg9 harg9 arg10 harg10 arg11 harg11 (BitVec.ofNat 32 (i 2).val) (qV0 i arg3 arg6 f0 f3) (qV1 i arg3 arg6 f0 f3) v176 v181 v182 v187 X8 X9).2
      (last1 Variants.none c none i arg3 harg3 arg4 harg4 arg5 harg5 arg6 harg6 arg7 harg7 arg8 harg8 arg9 harg9 arg10 harg10 arg11 harg11 (BitVec.ofNat 32 (i 2).val) (qV0 i arg3 arg6 f0 f3) (qV1 i arg3 arg6 f0 f3) v176 v181 v182 v187 X8 X9).2) = outV i qR kR vR cR := by
  have h := last_tiles Variants.none c none i arg3 harg3 arg4 harg4 arg5 harg5 arg6 harg6 arg7 harg7 arg8 harg8 arg9 harg9 arg10 harg10 arg11 harg11 (BitVec.ofNat 32 (i 2).val) (qV0 i arg3 arg6 f0 f3) (qV1 i arg3 arg6 f0 f3) v176 v181 v182 v187 X8 X9
    (fun h r => qRow h (qR r) (cR (512 * (i 2).val + r) (2 * (i 1).val + h))) (KM (i 1).val kR cR) (VM vR)
    (qV0_ix i arg3 arg6 f0 f3 qR cR hq hcu) (qV1_ix i arg3 arg6 f0 f3 qR cR hq hcu)
    (fun h s l => by rw [h8]; rfl) (fun h s l => by rw [h9]; rfl)
  funext j
  rw [idx1 j]
  exact last_good (i 1).val (i 2).val qR kR vR cR _ _ _ _ h.1 h.2 _ _

end Point

set_option maxHeartbeats 2000000 in
/-- The body at the first query tile: it fills the widened keys and values. -/
theorem run_A (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8192x128 .f32) (harg6 : arg6.IsWhole) (arg7 : Memref sig .tc .vmem S1x512x128 .bf16) (harg7 : arg7.IsWhole) (arg8 : Memref sig .tc .vmem S2x8192x128 .bf16) (harg8 : arg8.IsWhole) (arg9 : Memref sig .tc .vmem S2x8192x128 .bf16) (harg9 : arg9.IsWhole) (arg10 : Memref sig .tc .vmem S2x512x128 .f32) (harg10 : arg10.IsWhole) (arg11 : Memref sig .tc .vmem S2x512x128 .f32) (harg11 : arg11.IsWhole)
    (x0 : Vec Ideal S1x512x128 .bf16) (x1 : Vec Ideal S1x8192x128 .bf16) (x2 : Vec Ideal S1x8192x128 .bf16) (x3 : Vec Ideal S1x8192x128 .f32)
    (qR kR vR cR : ℕ → ℕ → ℝ)
    (hq : ∀ (s : Fin 512) (l : Fin 128), x0 (ix3 0 s l) = ((qR s l : ℝ) : EReal))
    (hk : ∀ (s : Fin 8192) (l : Fin 128), x1 (ix3 0 s l) = ((kR s l : ℝ) : EReal))
    (hv : ∀ (s : Fin 8192) (l : Fin 128), x2 (ix3 0 s l) = ((vR s l : ℝ) : EReal))
    (hcu : ∀ (s : Fin 8192) (l : Fin 128), x3 (ix3 0 s l) = ((cR s l : ℝ) : EReal))

    (hc0 : cond0_0 i)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outV i qR kR vR cR) ∗ owns (c : Thread nD τ) arg8 fullShare (kmV i kR cR) ∗ owns (c : Thread nD τ) arg9 fullShare (vmV vR) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_fox i arg3 harg3 arg4 harg4 arg5 harg5 arg6 harg6 arg7 harg7 arg8 harg8 arg9 harg9 arg10 harg10 arg11 harg11) K := by
  simp only [cc0_fox_eq_skeleton]; unfold cc0_fox_skel
  simp only [k0_part21_eq_skeleton, k0_part22_eq_skeleton, k0_part23_eq_skeleton, k0_part24_eq_skeleton, k0_part25_eq_skeleton, k0_part26_eq_skeleton, k0_part27_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
  sl_exec (disch := first | sl_exact hc0)
  sl_step
  iapply Hk
  have hq' : ∀ (s : Fin 512) (l : Fin 128), arg3.view.read (Elt Ideal) f0 (ix3 0 s l) = ((qR s l : ℝ) : EReal) := fun s l => by rw [hf0]; exact hq s l
  have hc' : ∀ (s : Fin 8192) (l : Fin 128), arg6.view.read (Elt Ideal) f3 (ix3 0 s l) = ((cR s l : ℝ) : EReal) := fun s l => by rw [hf3]; exact hcu s l
  have hfill := loop1_fill Variants.none c none i arg3 harg3 arg4 harg4 arg5 harg5 arg6 harg6 arg7 harg7 arg8 harg8 arg9 harg9 arg10 harg10 arg11 harg11 hc0 f1 f2 f3 fs0 fs1 (i 1).val (i 1).isLt kR vR cR
    (fun s l => by rw [hf1]; exact hk s l) (fun s l => by rw [hf2]; exact hv s l) hc' k0_t1_loop.trips le_rfl
  have h8 : arg8.view.read (Elt Ideal) (arg8.view.writes (Elt Ideal) fs0 (pb_k0_t1 (F := Ideal) Variants.none c none i arg3 harg3 arg4 harg4 arg5 harg5 arg6 harg6 arg7 harg7 arg8 harg8 arg9 harg9 arg10 harg10 arg11 harg11 (BitVec.ofNat 32 (i 1).val) lanes hc0 f1 f2 f3 k0_t1_loop.trips).1) = kmV i kR cR := by
    funext j; rw [idx2 j]; exact hfill.1 _ _ _ (j 1).isLt
  have h9 : arg9.view.read (Elt Ideal) (arg9.view.writes (Elt Ideal) fs1 (pb_k0_t1 (F := Ideal) Variants.none c none i arg3 harg3 arg4 harg4 arg5 harg5 arg6 harg6 arg7 harg7 arg8 harg8 arg9 harg9 arg10 harg10 arg11 harg11 (BitVec.ofNat 32 (i 1).val) lanes hc0 f1 f2 f3 k0_t1_loop.trips).2) = vmV vR := by
    funext j; rw [idx2 j]; exact hfill.2 _ _ _ (j 1).isLt
  have e0 : run_A.sl.v256 c i arg3 harg3 arg4 harg4 arg5 harg5 arg6 harg6 arg7 harg7 arg8 harg8 arg9 harg9 arg10 harg10 arg11 harg11 hc0 f0 f1 f2 f3 fs0 fs1 = (last0 Variants.none c none i arg3 harg3 arg4 harg4 arg5 harg5 arg6 harg6 arg7 harg7 arg8 harg8 arg9 harg9 arg10 harg10 arg11 harg11 (BitVec.ofNat 32 (i 2).val) (qV0 i arg3 arg6 f0 f3) (qV1 i arg3 arg6 f0 f3) (run_A.sl.v176 i) (run_A.sl.v181 i) (run_A.sl.v182 i) (run_A.sl.v187 i) (arg8.view.writes (Elt Ideal) fs0 (pb_k0_t1 (F := Ideal) Variants.none c none i arg3 harg3 arg4 harg4 arg5 harg5 arg6 harg6 arg7 harg7 arg8 harg8 arg9 harg9 arg10 harg10 arg11 harg11 (BitVec.ofNat 32 (i 1).val) lanes hc0 f1 f2 f3 k0_t1_loop.trips).1) (arg9.view.writes (Elt Ideal) fs1 (pb_k0_t1 (F := Ideal) Variants.none c none i arg3 harg3 arg4 harg4 arg5 harg5 arg6 harg6 arg7 harg7 arg8 harg8 arg9 harg9 arg10 harg10 arg11 harg11 (BitVec.ofNat 32 (i 1).val) lanes hc0 f1 f2 f3 k0_t1_loop.trips).2)).2 := by
    unfold run_A.sl.v256 run_A.sl.HS3_2 run_A.sl.HS3_1_1
    rw [rc_01, rc_00]
    rfl
  have e230 : run_A.sl.v230 c i arg3 harg3 arg4 harg4 arg5 harg5 arg6 harg6 arg7 harg7 arg8 harg8 arg9 harg9 arg10 harg10 arg11 harg11 hc0 f0 f1 f2 f3 fs0 fs1 = arg10.view.readCov (s5 Variants.none c none i arg3 harg3 arg4 harg4 arg5 harg5 arg6 harg6 arg7 harg7 arg8 harg8 arg9 harg9 arg10 harg10 arg11 harg11 (BitVec.ofNat 32 (i 2).val) (qV0 i arg3 arg6 f0 f3) (qV1 i arg3 arg6 f0 f3) (run_A.sl.v176 i) (run_A.sl.v181 i) (run_A.sl.v182 i) (run_A.sl.v187 i) (arg8.view.writes (Elt Ideal) fs0 (pb_k0_t1 (F := Ideal) Variants.none c none i arg3 harg3 arg4 harg4 arg5 harg5 arg6 harg6 arg7 harg7 arg8 harg8 arg9 harg9 arg10 harg10 arg11 harg11 (BitVec.ofNat 32 (i 1).val) lanes hc0 f1 f2 f3 k0_t1_loop.trips).1) (arg9.view.writes (Elt Ideal) fs1 (pb_k0_t1 (F := Ideal) Variants.none c none i arg3 harg3 arg4 harg4 arg5 harg5 arg6 harg6 arg7 harg7 arg8 harg8 arg9 harg9 arg10 harg10 arg11 harg11 (BitVec.ofNat 32 (i 1).val) lanes hc0 f1 f2 f3 k0_t1_loop.trips).2)) slotR1.toLoadRect := by
    unfold run_A.sl.v230 run_A.sl.HS2_1_1
    rw [rc_10]
    rfl
  have e242 : run_A.sl.v242 c i arg3 harg3 arg4 harg4 arg5 harg5 arg6 harg6 arg7 harg7 arg8 harg8 arg9 harg9 arg10 harg10 arg11 harg11 hc0 f0 f1 f2 f3 fs0 fs1 = arg11.view.readCov (a5 Variants.none c none i arg3 harg3 arg4 harg4 arg5 harg5 arg6 harg6 arg7 harg7 arg8 harg8 arg9 harg9 arg10 harg10 arg11 harg11 (BitVec.ofNat 32 (i 2).val) (qV0 i arg3 arg6 f0 f3) (qV1 i arg3 arg6 f0 f3) (run_A.sl.v176 i) (run_A.sl.v181 i) (run_A.sl.v182 i) (run_A.sl.v187 i) (arg8.view.writes (Elt Ideal) fs0 (pb_k0_t1 (F := Ideal) Variants.none c none i arg3 harg3 arg4 harg4 arg5 harg5 arg6 harg6 arg7 harg7 arg8 harg8 arg9 harg9 arg10 harg10 arg11 harg11 (BitVec.ofNat 32 (i 1).val) lanes hc0 f1 f2 f3 k0_t1_loop.trips).1) (arg9.view.writes (Elt Ideal) fs1 (pb_k0_t1 (F := Ideal) Variants.none c none i arg3 harg3 arg4 harg4 arg5 harg5 arg6 harg6 arg7 harg7 arg8 harg8 arg9 harg9 arg10 harg10 arg11 harg11 (BitVec.ofNat 32 (i 1).val) lanes hc0 f1 f2 f3 k0_t1_loop.trips).2)) slotR1.toLoadRect := by
    unfold run_A.sl.v242 run_A.sl.HS3_1_1
    rw [rc_10]
    rfl
  have e1 : run_A.sl.v268 c i arg3 harg3 arg4 harg4 arg5 harg5 arg6 harg6 arg7 harg7 arg8 harg8 arg9 harg9 arg10 harg10 arg11 harg11 hc0 f0 f1 f2 f3 fs0 fs1 = (last1 Variants.none c none i arg3 harg3 arg4 harg4 arg5 harg5 arg6 harg6 arg7 harg7 arg8 harg8 arg9 harg9 arg10 harg10 arg11 harg11 (BitVec.ofNat 32 (i 2).val) (qV0 i arg3 arg6 f0 f3) (qV1 i arg3 arg6 f0 f3) (run_A.sl.v176 i) (run_A.sl.v181 i) (run_A.sl.v182 i) (run_A.sl.v187 i) (arg8.view.writes (Elt Ideal) fs0 (pb_k0_t1 (F := Ideal) Variants.none c none i arg3 harg3 arg4 harg4 arg5 harg5 arg6 harg6 arg7 harg7 arg8 harg8 arg9 harg9 arg10 harg10 arg11 harg11 (BitVec.ofNat 32 (i 1).val) lanes hc0 f1 f2 f3 k0_t1_loop.trips).1) (arg9.view.writes (Elt Ideal) fs1 (pb_k0_t1 (F := Ideal) Variants.none c none i arg3 harg3 arg4 harg4 arg5 harg5 arg6 harg6 arg7 harg7 arg8 harg8 arg9 harg9 arg10 harg10 arg11 harg11 (BitVec.ofNat 32 (i 1).val) lanes hc0 f1 f2 f3 k0_t1_loop.trips).2)).2 := by
    unfold run_A.sl.v268 run_A.sl.HS3_2
    rw [rc_11]
    unfold run_A.sl.r_15 run_A.sl.r_16
    rw [e230, e242]
    rfl
  have e7 : k0_pay1 (run_A.sl.r_17 c i arg3 harg3 arg4 harg4 arg5 harg5 arg6 harg6 arg7 harg7 arg8 harg8 arg9 harg9 arg10 harg10 arg11 harg11 hc0 f0 f1 f2 f3 fs0 fs1) = outV i qR kR vR cR := by
    unfold run_A.sl.r_17
    rw [e0, e1]
    exact point_out c i arg3 harg3 arg4 harg4 arg5 harg5 arg6 harg6 arg7 harg7 arg8 harg8 arg9 harg9 arg10 harg10 arg11 harg11 f0 f3 qR kR vR cR hq' hc' (run_A.sl.v176 i) (run_A.sl.v181 i) (run_A.sl.v182 i) (run_A.sl.v187 i) (arg8.view.writes (Elt Ideal) fs0 (pb_k0_t1 (F := Ideal) Variants.none c none i arg3 harg3 arg4 harg4 arg5 harg5 arg6 harg6 arg7 harg7 arg8 harg8 arg9 harg9 arg10 harg10 arg11 harg11 (BitVec.ofNat 32 (i 1).val) lanes hc0 f1 f2 f3 k0_t1_loop.trips).1) (arg9.view.writes (Elt Ideal) fs1 (pb_k0_t1 (F := Ideal) Variants.none c none i arg3 harg3 arg4 harg4 arg5 harg5 arg6 harg6 arg7 harg7 arg8 harg8 arg9 harg9 arg10 harg10 arg11 harg11 (BitVec.ofNat 32 (i 1).val) lanes hc0 f1 f2 f3 k0_t1_loop.trips).2) h8 h9
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro; rw [e7]; exact out_read arg7 f4 _
  isplitl [HS0]
  · iexists _; isplitr; swap; · iexact HS0
    ipureintro; exact h8
  isplitl [HS1]
  · iexists _; isplitr; swap; · iexact HS1
    ipureintro; exact h9
  isplitl [HS2]
  · iexists _, _; isplitr; swap; · iexact HS2
    ipureintro; rfl
  iexists _, _; isplitr; swap; · iexact HS3
  ipureintro; rfl

set_option maxHeartbeats 2000000 in
/-- The body at a later query tile: the widened keys and values are there. -/
theorem run_B (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8192x128 .f32) (harg6 : arg6.IsWhole) (arg7 : Memref sig .tc .vmem S1x512x128 .bf16) (harg7 : arg7.IsWhole) (arg8 : Memref sig .tc .vmem S2x8192x128 .bf16) (harg8 : arg8.IsWhole) (arg9 : Memref sig .tc .vmem S2x8192x128 .bf16) (harg9 : arg9.IsWhole) (arg10 : Memref sig .tc .vmem S2x512x128 .f32) (harg10 : arg10.IsWhole) (arg11 : Memref sig .tc .vmem S2x512x128 .f32) (harg11 : arg11.IsWhole)
    (x0 : Vec Ideal S1x512x128 .bf16) (x1 : Vec Ideal S1x8192x128 .bf16) (x2 : Vec Ideal S1x8192x128 .bf16) (x3 : Vec Ideal S1x8192x128 .f32)
    (qR kR vR cR : ℕ → ℕ → ℝ)
    (hq : ∀ (s : Fin 512) (l : Fin 128), x0 (ix3 0 s l) = ((qR s l : ℝ) : EReal))
    (hk : ∀ (s : Fin 8192) (l : Fin 128), x1 (ix3 0 s l) = ((kR s l : ℝ) : EReal))
    (hv : ∀ (s : Fin 8192) (l : Fin 128), x2 (ix3 0 s l) = ((vR s l : ℝ) : EReal))
    (hcu : ∀ (s : Fin 8192) (l : Fin 128), x3 (ix3 0 s l) = ((cR s l : ℝ) : EReal))

    (hc0 : ¬ cond0_0 i)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare (kmV i kR cR) ∗ owns (c : Thread nD τ) arg9 fullShare (vmV vR) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outV i qR kR vR cR) ∗ owns (c : Thread nD τ) arg8 fullShare (kmV i kR cR) ∗ owns (c : Thread nD τ) arg9 fullShare (vmV vR) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_fox i arg3 harg3 arg4 harg4 arg5 harg5 arg6 harg6 arg7 harg7 arg8 harg8 arg9 harg9 arg10 harg10 arg11 harg11) K := by
  simp only [cc0_fox_eq_skeleton]; unfold cc0_fox_skel
  simp only [k0_part21_eq_skeleton, k0_part22_eq_skeleton, k0_part23_eq_skeleton, k0_part24_eq_skeleton, k0_part25_eq_skeleton, k0_part26_eq_skeleton, k0_part27_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%ds2, %fs2, -, HS2⟩, ⟨%ds3, %fs3, -, HS3⟩, Hk⟩
  sl_exec (disch := first | sl_exact hc0)
  sl_step
  iapply Hk
  have hq' : ∀ (s : Fin 512) (l : Fin 128), arg3.view.read (Elt Ideal) f0 (ix3 0 s l) = ((qR s l : ℝ) : EReal) := fun s l => by rw [hf0]; exact hq s l
  have hc' : ∀ (s : Fin 8192) (l : Fin 128), arg6.view.read (Elt Ideal) f3 (ix3 0 s l) = ((cR s l : ℝ) : EReal) := fun s l => by rw [hf3]; exact hcu s l
  have h8 := hs0
  have h9 := hs1
  have e0 : run_B.sl.v256 c i arg3 harg3 arg4 harg4 arg5 harg5 arg6 harg6 arg7 harg7 arg8 harg8 arg9 harg9 arg10 harg10 arg11 harg11 f0 f3 fs0 fs1 = (last0 Variants.none c none i arg3 harg3 arg4 harg4 arg5 harg5 arg6 harg6 arg7 harg7 arg8 harg8 arg9 harg9 arg10 harg10 arg11 harg11 (BitVec.ofNat 32 (i 2).val) (qV0 i arg3 arg6 f0 f3) (qV1 i arg3 arg6 f0 f3) (run_B.sl.v176 i) (run_B.sl.v181 i) (run_B.sl.v182 i) (run_B.sl.v187 i) fs0 fs1).2 := by
    unfold run_B.sl.v256 run_B.sl.HS3_2 run_B.sl.HS3_1_1
    rw [rc_01, rc_00]
    rfl
  have e230 : run_B.sl.v230 c i arg3 harg3 arg4 harg4 arg5 harg5 arg6 harg6 arg7 harg7 arg8 harg8 arg9 harg9 arg10 harg10 arg11 harg11 f0 f3 fs0 fs1 = arg10.view.readCov (s5 Variants.none c none i arg3 harg3 arg4 harg4 arg5 harg5 arg6 harg6 arg7 harg7 arg8 harg8 arg9 harg9 arg10 harg10 arg11 harg11 (BitVec.ofNat 32 (i 2).val) (qV0 i arg3 arg6 f0 f3) (qV1 i arg3 arg6 f0 f3) (run_B.sl.v176 i) (run_B.sl.v181 i) (run_B.sl.v182 i) (run_B.sl.v187 i) fs0 fs1) slotR1.toLoadRect := by
    unfold run_B.sl.v230 run_B.sl.HS2_1_1
    rw [rc_10]
    rfl
  have e242 : run_B.sl.v242 c i arg3 harg3 arg4 harg4 arg5 harg5 arg6 harg6 arg7 harg7 arg8 harg8 arg9 harg9 arg10 harg10 arg11 harg11 f0 f3 fs0 fs1 = arg11.view.readCov (a5 Variants.none c none i arg3 harg3 arg4 harg4 arg5 harg5 arg6 harg6 arg7 harg7 arg8 harg8 arg9 harg9 arg10 harg10 arg11 harg11 (BitVec.ofNat 32 (i 2).val) (qV0 i arg3 arg6 f0 f3) (qV1 i arg3 arg6 f0 f3) (run_B.sl.v176 i) (run_B.sl.v181 i) (run_B.sl.v182 i) (run_B.sl.v187 i) fs0 fs1) slotR1.toLoadRect := by
    unfold run_B.sl.v242 run_B.sl.HS3_1_1
    rw [rc_10]
    rfl
  have e1 : run_B.sl.v268 c i arg3 harg3 arg4 harg4 arg5 harg5 arg6 harg6 arg7 harg7 arg8 harg8 arg9 harg9 arg10 harg10 arg11 harg11 f0 f3 fs0 fs1 = (last1 Variants.none c none i arg3 harg3 arg4 harg4 arg5 harg5 arg6 harg6 arg7 harg7 arg8 harg8 arg9 harg9 arg10 harg10 arg11 harg11 (BitVec.ofNat 32 (i 2).val) (qV0 i arg3 arg6 f0 f3) (qV1 i arg3 arg6 f0 f3) (run_B.sl.v176 i) (run_B.sl.v181 i) (run_B.sl.v182 i) (run_B.sl.v187 i) fs0 fs1).2 := by
    unfold run_B.sl.v268 run_B.sl.HS3_2
    rw [rc_11]
    unfold run_B.sl.r_15 run_B.sl.r_16
    rw [e230, e242]
    rfl
  have e7 : k0_pay1 (run_B.sl.r_18 c i arg3 harg3 arg4 harg4 arg5 harg5 arg6 harg6 arg7 harg7 arg8 harg8 arg9 harg9 arg10 harg10 arg11 harg11 f0 f3 fs0 fs1) = outV i qR kR vR cR := by
    unfold run_B.sl.r_18
    rw [e0, e1]
    exact point_out c i arg3 harg3 arg4 harg4 arg5 harg5 arg6 harg6 arg7 harg7 arg8 harg8 arg9 harg9 arg10 harg10 arg11 harg11 f0 f3 qR kR vR cR hq' hc' (run_B.sl.v176 i) (run_B.sl.v181 i) (run_B.sl.v182 i) (run_B.sl.v187 i) fs0 fs1 h8 h9
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro; rw [e7]; exact out_read arg7 f4 _
  isplitl [HS0]
  · iexists _; isplitr; swap; · iexact HS0
    ipureintro; exact h8
  isplitl [HS1]
  · iexists _; isplitr; swap; · iexact HS1
    ipureintro; exact h9
  isplitl [HS2]
  · iexists _, _; isplitr; swap; · iexact HS2
    ipureintro; rfl
  iexists _, _; isplitr; swap; · iexact HS3
  ipureintro; rfl

end Cert.KernelIdeal.Fox
-- ==== Proof.Blocks.lean ====
module
public import Idealize.ShloMosaic.Lib.Pipeline.ValueKit
public import proofs.«01_k».proof.Proof.Common
public import proofs.«01_k».proof.Proof.Tail
/-!
# The blocks of a grid point, read off the arrays

The point `(b, hp, i)` of the grid works at sequence `b`, heads `2 hp` and `2 hp + 1`, query rows `512 i` and on.
-/
@[expose] public section
set_option maxRecDepth 16384
noncomputable section
namespace Cert.KernelIdeal.Fox
open Idealize.ShloMosaic Idealize.ShloMosaic.TcCoe Cert.KernelIdeal.Gen Cert.KernelIdeal.Launch Cert.Fox

/-- An entry of the queries, keys and values as a real number. -/
def at0 (A : Vec Ideal S4x8192x1536 .bf16) (b s l : ℕ) : ℝ :=
  if h : b < 4 ∧ s < 8192 ∧ l < 1536 then
    EReal.toReal (A (ix3 (⟨b, h.1⟩ : Fin 4) (⟨s, h.2.1⟩ : Fin 8192) (⟨l, h.2.2⟩ : Fin 1536))) else 0
/-- An entry of the cumulated log forget gates as a real number. -/
def at1 (C : Vec Ideal S4x8192x128 .f32) (b s l : ℕ) : ℝ :=
  if h : b < 4 ∧ s < 8192 ∧ l < 128 then
    EReal.toReal (C (ix3 (⟨b, h.1⟩ : Fin 4) (⟨s, h.2.1⟩ : Fin 8192) (⟨l, h.2.2⟩ : Fin 128))) else 0

variable (m : (ℓ : Loc nD τ sig) → Buf (Elt Ideal) ℓ)

/-- Every entry of the two arguments is a real number. -/
structure RealArgs (A : Vec Ideal S4x8192x1536 .bf16) (C : Vec Ideal S4x8192x128 .f32) : Prop where
  real0 : ∀ j, A j = ((EReal.toReal (A j) : ℝ) : EReal)
  real1 : ∀ j, C j = ((EReal.toReal (C j) : ℝ) : EReal)

abbrev argA (c : Dev nD) : Vec Ideal S4x8192x1536 .bf16 := m ((c : Thread nD τ).loc main_arg0)
abbrev argC (c : Dev nD) : Vec Ideal S4x8192x128 .f32 := m ((c : Thread nD τ).loc main_arg1)

theorem at0_ix {A : Vec Ideal S4x8192x1536 .bf16} {C : Vec Ideal S4x8192x128 .f32} (h : RealArgs A C) (b : Fin 4) (s : Fin 8192) (l : Fin 1536) :
    A (ix3 b s l) = ((at0 A b s l : ℝ) : EReal) := by
  unfold at0
  rw [dif_pos ⟨b.isLt, s.isLt, l.isLt⟩]
  exact h.real0 _
theorem at1_ix {A : Vec Ideal S4x8192x1536 .bf16} {C : Vec Ideal S4x8192x128 .f32} (h : RealArgs A C) (b : Fin 4) (s : Fin 8192) (l : Fin 128) :
    C (ix3 b s l) = ((at1 C b s l : ℝ) : EReal) := by
  unfold at1
  rw [dif_pos ⟨b.isLt, s.isLt, l.isLt⟩]
  exact h.real1 _

theorem co0 (t : Fin cfg0.N) : (grid0.coords t 0).val = t.val / 64 % 4 := Pipeline.Grid.coords_val t 0 (by decide) rfl
theorem co1 (t : Fin cfg0.N) : (grid0.coords t 1).val = t.val / 16 % 4 := Pipeline.Grid.coords_val t 1 (by decide) rfl
theorem co2 (t : Fin cfg0.N) : (grid0.coords t 2).val = t.val % 16 :=
  (Pipeline.Grid.coords_val t 2 (by decide) rfl : _ = t.val / 1 % 16).trans (by rw [Nat.div_one])

theorem idx (t : Fin cfg0.N) :
    win0_0.index t = ![t.val / 64 % 4, t.val % 16, t.val / 16 % 4] ∧
    win0_1.index t = ![t.val / 64 % 4, 0, 4 + t.val / 16 % 4] ∧
    win0_2.index t = ![t.val / 64 % 4, 0, 8 + t.val / 16 % 4] ∧
    win0_3.index t = ![t.val / 64 % 4, 0, 0] ∧
    win0_4.index t = ![t.val / 64 % 4, t.val % 16, t.val / 16 % 4] := by
  have e0 := co0 t
  have e1 := co1 t
  have e2 := co2 t
  have hb : ∀ n : ℕ, n < 4 → (Scalar.addi 4#32 (BitVec.ofNat 32 n)).toNat = 4 + n := by decide
  have hb' : ∀ n : ℕ, n < 4 → (Scalar.addi 8#32 (BitVec.ofNat 32 n)).toNat = 8 + n := by decide
  have hn : ∀ n : ℕ, n < 16 → (BitVec.ofNat 32 n).toNat = n := by decide
  refine ⟨?_, ?_, ?_, ?_, ?_⟩
  · show cc0_transform_0 (grid0.coords t) = _
    unfold cc0_transform_0
    simp only [e0, e1, e2, hn _ (show t.val / 64 % 4 < 16 by omega), hn _ (show t.val / 16 % 4 < 16 by omega), hn _ (show t.val % 16 < 16 by omega)]
  · show cc0_transform_1 (grid0.coords t) = _
    unfold cc0_transform_1
    simp only [e0, e1, hn _ (show t.val / 64 % 4 < 16 by omega), hb _ (show t.val / 16 % 4 < 4 by omega)]
    rfl
  · show cc0_transform_2 (grid0.coords t) = _
    unfold cc0_transform_2
    simp only [e0, e1, hn _ (show t.val / 64 % 4 < 16 by omega), hb' _ (show t.val / 16 % 4 < 4 by omega)]
    rfl
  · show cc0_transform_3 (grid0.coords t) = _
    unfold cc0_transform_3
    simp only [e0, hn _ (show t.val / 64 % 4 < 16 by omega)]
    rfl
  · show cc0_transform_4 (grid0.coords t) = _
    unfold cc0_transform_4
    simp only [e0, e1, e2, hn _ (show t.val / 64 % 4 < 16 by omega), hn _ (show t.val / 16 % 4 < 16 by omega), hn _ (show t.val % 16 < 16 by omega)]

section Rows
variable (c : Dev nD) (t : Fin cfg0.N)
/-- The rows of a grid point: queries, keys, values, gate sums. -/
def qR (r l : ℕ) : ℝ := at0 (argA m c) (t.val / 64 % 4) (512 * (t.val % 16) + r) (128 * (t.val / 16 % 4) + l)
def kR (s l : ℕ) : ℝ := at0 (argA m c) (t.val / 64 % 4) s (512 + 128 * (t.val / 16 % 4) + l)
def vR (s l : ℕ) : ℝ := at0 (argA m c) (t.val / 64 % 4) s (1024 + 128 * (t.val / 16 % 4) + l)
def cR (s l : ℕ) : ℝ := at1 (argC m c) (t.val / 64 % 4) s l

variable (h : RealArgs (argA m c) (argC m c))
include h

theorem blk0 (r : Fin 512) (l : Fin 128) : (iblk m c 0 t : Vec Ideal S1x512x128 .bf16) (ix3 0 r l) = ((qR m c t r l : ℝ) : EReal) := by
  have e : (iblk m c 0 t : Vec Ideal S1x512x128 .bf16) (ix3 0 r l)
      = argA m c (ix3 (⟨t.val / 64 % 4, by omega⟩ : Fin 4) (⟨512 * (t.val % 16) + r.val, by omega⟩ : Fin 8192)
          (⟨128 * (t.val / 16 % 4) + l.val, by omega⟩ : Fin 1536)) := by
    have hi := (idx t).1
    blk_ext [iblk, V, hi]
  exact e.trans (at0_ix h _ _ _)

theorem blk1 (s : Fin 8192) (l : Fin 128) : (iblk m c 1 t : Vec Ideal S1x8192x128 .bf16) (ix3 0 s l) = ((kR m c t s l : ℝ) : EReal) := by
  have e : (iblk m c 1 t : Vec Ideal S1x8192x128 .bf16) (ix3 0 s l)
      = argA m c (ix3 (⟨t.val / 64 % 4, by omega⟩ : Fin 4) s (⟨512 + 128 * (t.val / 16 % 4) + l.val, by omega⟩ : Fin 1536)) := by
    have hi := (idx t).2.1
    blk_ext [iblk, V, hi]
  exact e.trans (at0_ix h _ _ _)

theorem blk2 (s : Fin 8192) (l : Fin 128) : (iblk m c 2 t : Vec Ideal S1x8192x128 .bf16) (ix3 0 s l) = ((vR m c t s l : ℝ) : EReal) := by
  have e : (iblk m c 2 t : Vec Ideal S1x8192x128 .bf16) (ix3 0 s l)
      = argA m c (ix3 (⟨t.val / 64 % 4, by omega⟩ : Fin 4) s (⟨1024 + 128 * (t.val / 16 % 4) + l.val, by omega⟩ : Fin 1536)) := by
    have hi := (idx t).2.2.1
    blk_ext [iblk, V, hi]
  exact e.trans (at0_ix h _ _ _)

theorem blk3 (s : Fin 8192) (l : Fin 128) : (iblk m c 3 t : Vec Ideal S1x8192x128 .f32) (ix3 0 s l) = ((cR m c t s l : ℝ) : EReal) := by
  have e : (iblk m c 3 t : Vec Ideal S1x8192x128 .f32) (ix3 0 s l) = argC m c (ix3 (⟨t.val / 64 % 4, by omega⟩ : Fin 4) s l) := by
    have hi := (idx t).2.2.2.1
    blk_ext [iblk, V, hi]
  exact e.trans (at1_ix h _ _ _)

end Rows

/-- The attention of a place: of sequence `b`, query row `s`, lane `l` of the eight heads of 64 lanes. -/
def foxR (A : Vec Ideal S4x8192x1536 .bf16) (C : Vec Ideal S4x8192x128 .f32) (b s l : ℕ) : ℝ :=
  mean (s + 1) (fun u => ∑ d ∈ Finset.range 64, at0 A b s (64 * (l / 64) + d) * at0 A b u (512 + 64 * (l / 64) + d)
    + (at1 C b s (l / 64) - at1 C b u (l / 64)) * L2) (fun u => at0 A b u (1024 + l))

/-- The result array. -/
def foxV (A : Vec Ideal S4x8192x1536 .bf16) (C : Vec Ideal S4x8192x128 .f32) : Vec Ideal S4x8192x512 .bf16 :=
  fun j => ((foxR A C (j 0).val (j 1).val (j 2).val : ℝ) : EReal)

theorem outR_eq (c : Dev nD) (t : Fin cfg0.N) (r l : ℕ) (hl : l < 128) :
    outR (grid0.coords t 1).val (grid0.coords t 2).val (qR m c t) (kR m c t) (vR m c t) (cR m c t) r l
      = foxR (argA m c) (argC m c) (t.val / 64 % 4) (512 * (t.val % 16) + r) (128 * (t.val / 16 % 4) + l) := by
  have e0 : (128 * (t.val / 16 % 4) + l) / 64 = 2 * (t.val / 16 % 4) + l / 64 := by omega
  unfold outR foxR score
  rw [co1, co2, e0]
  unfold qR kR vR cR
  congr 1
  · funext u
    congr 1
    refine Finset.sum_congr rfl fun d _ => ?_
    congr 2 <;> omega
  · funext u
    congr 1
    omega

end Cert.KernelIdeal.Fox
-- ==== Proof.LaunchV.lean ====
/-
The launch of the idealised kernel with its result named: between the points of one pair of heads the scratch
holds the widened keys and values of that pair.
-/
module

public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import proofs.«01_k».proof.Proof.Body
public import proofs.«01_k».proof.Proof.Blocks

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Launch Cert.Fox

local notation "𝕄" => MT nD τ sig Unit (Elt Ideal) ℕ (UR sig nD τ) ℕ

variable (m : (ℓ : Loc nD τ sig) → Buf (Elt Ideal) ℓ) (ρ : Dev nD → PrngReg)

/-- The coordinates of the pair of heads that the scratch belongs to before point `n`: those of the point before. -/
def prevPt (n : ℕ) : Fin cfg0.N := ⟨(n - 1) % 256, Nat.lt_of_lt_of_eq (Nat.mod_lt _ (by norm_num)) N_0.symm⟩

/-- Before the first query tile of a pair the scratch holds anything; before the others the widened keys and
    values of the pair. -/
def scrOf (c : Dev nD) (n : ℕ) : sProp 𝕄 :=
  if n % 16 = 0 then Pipeline.ΦA spec0 c
  else iprop(iprop(owns (c : Thread nD τ) scM0_0 fullShare (kmV (grid0.coords (prevPt n)) (kR m c (prevPt n)) (cR m c (prevPt n)))
      ∗ owns (c : Thread nD τ) scM0_1 fullShare (vmV (vR m c (prevPt n)))
      ∗ (∃ d, owns (c : Thread nD τ) scM0_2 fullShare d) ∗ (∃ d, owns (c : Thread nD τ) scM0_3 fullShare d)) ∗ (∃ r, prngReg c r))

/-- The pipeline's proof data: each input's block stays, the output buffer holds the result block. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outV (grid0.coords t) (qR m c t) (kR m c t) (vR m c t) (cR m c t)
  Φ n := scrOf m c n.val
  q w := Pipeline.shareOf spec0 w
  owed _ := 0

theorem A_eqV (c : Dev nD) (w : Fin cfg0.W) : (datsV m 0 c).A w = V m c (Pipeline.arrRef spec0 w) := by
  dsimp only [datsV]

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = iblk m c 3 t := by dsimp only [datsV]
theorem afterV_4 (c : Dev nD) (t : Fin cfg0.N) :
    (datsV m 0 c).after 4 t = outV (grid0.coords t) (qR m c t) (kR m c t) (vR m c t) (cR m c t) := by dsimp only [datsV]

theorem beforeV_0 (c : Dev nD) (t : Fin cfg0.N) (d) : (datsV m 0 c).before 0 t d = iblk m c 0 t :=
  before0_0_of m (datsV m 0 c) (A_eqV m c 0) (afterV_0 m c) t d
theorem beforeV_1 (c : Dev nD) (t : Fin cfg0.N) (d) : (datsV m 0 c).before 1 t d = iblk m c 1 t :=
  before0_1_of m (datsV m 0 c) (A_eqV m c 1) (afterV_1 m c) t d
theorem beforeV_2 (c : Dev nD) (t : Fin cfg0.N) (d) : (datsV m 0 c).before 2 t d = iblk m c 2 t :=
  before0_2_of m (datsV m 0 c) (A_eqV m c 2) (afterV_2 m c) t d
theorem beforeV_3 (c : Dev nD) (t : Fin cfg0.N) (d) : (datsV m 0 c).before 3 t d = iblk m c 3 t :=
  before0_3_of m (datsV m 0 c) (A_eqV m c 3) (afterV_3 m c) t d

/-- What the body is called with at point `t`, the windows one by one, -/
def preV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d)))

/-- and what it returns. -/
def postV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t)
    ∗ owns (c : Thread nD τ) (ms0_3 t) fullShare ((datsV m 0 c).after 3 t)
    ∗ owns (c : Thread nD τ) (ms0_4 t) fullShare ((datsV m 0 c).after 4 t))

/-- The scratch after point `t`, when it holds the widened keys and values of the point's pair. -/
theorem scr_succ (c : Dev nD) (t : Fin cfg0.N) :
    iprop(iprop(owns (c : Thread nD τ) scM0_0 fullShare (kmV (grid0.coords t) (kR m c t) (cR m c t))
      ∗ owns (c : Thread nD τ) scM0_1 fullShare (vmV (vR m c t))
      ∗ (∃ d, owns (c : Thread nD τ) scM0_2 fullShare d) ∗ (∃ d, owns (c : Thread nD τ) scM0_3 fullShare d)) ∗ (∃ r, prngReg c r))
      ⊢ scrOf m c (t.val + 1) := by
  unfold scrOf
  split_ifs with h
  · rw [PhiA0_eq]
    iintro ⟨⟨H0, H1, H2, H3⟩, Hg⟩
    isplitl [H0 H1 H2 H3]
    · isplitl [H0]; · iexists _; iexact H0
      isplitl [H1]; · iexists _; iexact H1
      isplitl [H2]; · iexact H2
      iexact H3
    iexact Hg
  · have e : prevPt (t.val + 1) = t := Fin.ext (by
      have ht : t.val < 256 := Nat.lt_of_lt_of_eq t.isLt N_0
      show (t.val + 1 - 1) % 256 = t.val
      omega)
    rw [e]

/-- The scratch before a point that is not the first of its pair: the widened keys and values of the pair are the point's own. -/
theorem scr_cast (c : Dev nD) (t : Fin cfg0.N) (h : ¬ t.val % 16 = 0) :
    scrOf m c t.val = iprop(iprop(owns (c : Thread nD τ) scM0_0 fullShare (kmV (grid0.coords t) (kR m c t) (cR m c t))
      ∗ owns (c : Thread nD τ) scM0_1 fullShare (vmV (vR m c t))
      ∗ (∃ d, owns (c : Thread nD τ) scM0_2 fullShare d) ∗ (∃ d, owns (c : Thread nD τ) scM0_3 fullShare d)) ∗ (∃ r, prngReg c r)) := by
  have ht : t.val < 256 := Nat.lt_of_lt_of_eq t.isLt N_0
  have ep : (prevPt t.val).val = t.val - 1 := by
    show (t.val - 1) % 256 = t.val - 1
    omega
  have e64 : (prevPt t.val).val / 64 % 4 = t.val / 64 % 4 := by rw [ep]; omega
  have e16 : (prevPt t.val).val / 16 % 4 = t.val / 16 % 4 := by rw [ep]; omega
  have ek : kR m c (prevPt t.val) = kR m c t := by funext s l; unfold kR; rw [e64, e16]
  have ev : vR m c (prevPt t.val) = vR m c t := by funext s l; unfold vR; rw [e64, e16]
  have ec : cR m c (prevPt t.val) = cR m c t := by funext s l; unfold cR; rw [e64]
  have em : kmV (grid0.coords (prevPt t.val)) = kmV (grid0.coords t) := by
    funext a b j; unfold kmV; rw [co1, co1, e16]
  unfold scrOf
  rw [if_neg h, ek, ev, ec, em]

variable (hr : ∀ c, RealArgs (argA m c) (argC m c))
include hr

set_option maxHeartbeats 6400000 in
/-- The body at any point. -/
theorem soundV (c : Dev nD) (t : Fin cfg0.N) :
    preV m c t ⊢ wp frame (wpE (defs₀ (F := Ideal)) Variants.none c none) Set.univ (bodyAt0 t) (fun _ => postV m c t) := by
  unfold preV postV bodyAt0
  simp only [beforeV_0, beforeV_1, beforeV_2, beforeV_3]
  rw [show (datsV m 0 c).owesAt () t.succ = (datsV m 0 c).owesAt () t.castSucc from rfl,
    afterV_0, afterV_1, afterV_2, afterV_3, afterV_4]
  rw [show (datsV m 0 c).Φ t.succ = scrOf m c (t.val + 1) from rfl, show (datsV m 0 c).Φ t.castSucc = scrOf m c t.val from rfl]
  by_cases h16 : t.val % 16 = 0
  · rw [show scrOf m c t.val = Pipeline.ΦA spec0 c from if_pos h16, PhiA0_eq]
    iintro ⟨⟨⟨HS0, HS1, HS2, HS3⟩, Hg⟩, Ho, ⟨%d0, H0⟩, ⟨%d1, H1⟩, ⟨%d2, H2⟩, ⟨%d3, H3⟩, ⟨%d4, H4⟩⟩
    iapply (run_A c (grid0.coords t) _ _ _ _ _ _ _ _ _ _ _ _ _ _ _ _ _ _ (iblk m c 0 t) (iblk m c 1 t) (iblk m c 2 t) (iblk m c 3 t)
      (qR m c t) (kR m c t) (vR m c t) (cR m c t) (blk0 m c t (hr c)) (blk1 m c t (hr c)) (blk2 m c t (hr c)) (blk3 m c t (hr c))
      ((hcond0_0 t).mpr h16) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · iapply (scr_succ m c t)
      isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    iexact H4
  · rw [scr_cast m c t h16]
    iintro ⟨⟨⟨HS0, HS1, HS2, HS3⟩, Hg⟩, Ho, ⟨%d0, H0⟩, ⟨%d1, H1⟩, ⟨%d2, H2⟩, ⟨%d3, H3⟩, ⟨%d4, H4⟩⟩
    iapply (run_B c (grid0.coords t) _ _ _ _ _ _ _ _ _ _ _ _ _ _ _ _ _ _ (iblk m c 0 t) (iblk m c 1 t) (iblk m c 2 t) (iblk m c 3 t)
      (qR m c t) (kR m c t) (vR m c t) (cR m c t) (blk0 m c t (hr c)) (blk1 m c t (hr c)) (blk2 m c t (hr c)) (blk3 m c t (hr c))
      (fun hc => h16 ((hcond0_0 t).mp hc)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · iapply (scr_succ m c t)
      isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    iexact H4

omit hr in
theorem row_eq (t : Fin cfg0.N) :
    defs₀ (F := Ideal) .tc cfg0.body (cfg0.bodyArgs t (cfg0.slots t)) = bodyAt0 t := by
  unfold defs₀; rw [Defs.onTc_tc]

theorem obligationV (c : Dev nD) : BodyObligation (datsV m 0 c) (defs₀ (F := Ideal)) Variants.none () Set.univ := fun t => by
  rw [bigSep_W0, bigSep_W0, row_eq]
  exact triple_restated (soundV m hr c t) rfl .rfl fun _ => .rfl

omit hr in
theorem hinV (c : Dev nD) : Pipeline.ΦA spec0 c ⊢ (datsV m 0 c).Φ 0 := by
  have e : scrOf m c 0 = Pipeline.ΦA spec0 c := if_pos rfl
  show _ ⊢ scrOf m c 0
  rw [e]

omit hr in
theorem houtV (c : Dev nD) : (datsV m 0 c).Φ (Fin.last cfg0.N) ⊢ Pipeline.ΦA spec0 c := by
  have e : scrOf m c cfg0.N = Pipeline.ΦA spec0 c := if_pos (by rw [show cfg0.N = 256 from N_0])
  show scrOf m c cfg0.N ⊢ _
  rw [e]

set_option backward.isDefEq.respectTransparency.types false in
/-- The launch. -/
theorem runV : θ_run defs (onTc (τ := τ) (main (F := Ideal))) (s₀ m ρ) (Pipeline.FramePost cfgs (datsV m) 0 (V m)) :=
  Pipeline.θ_run_frame_track_shared cfgs (datsV m) (0 : Fin 1) launch₀0 defs₀ Variants.none m ρ main
    (hbody := fun c => (obligationV m hr c).loose) (hq := fun _ _ _ => rfl)
    (howed := fun _ _ => rfl) (V := V m) (hmain := hmain m Variants.none) (hA := A_eqV m) (hin := hinV m) (hout := houtV m)

omit hr in
/-- The result array: the blocks of the points tile it. -/
theorem result_array (c : Dev nD) : (datsV m 0 c).arrAt 4 (cfgs 0).N = foxV (argA m c) (argC m c) := by
  refine (datsV m 0 c).arrAt_eq_of_covers 4 _ (by decide +kernel) fun t hf y => ?_
  have hi := (idx t).2.2.2.2
  blk_simp
  rw [afterV_4]
  have hN : t.val < 256 := N_0 ▸ t.isLt
  have h1 : (y 1).val < 512 := (y 1).isLt
  have h2 : (y 2).val < 128 := (y 2).isLt
  have h0 : (y 0).val < 1 := (y 0).isLt
  have e0 : (((win0_4.blk t).view.emb y) 0).val = t.val / 64 % 4 := by blk_simp [hi]
  have e1 : (((win0_4.blk t).view.emb y) 1).val = 512 * (t.val % 16) + (y 1).val := by blk_simp [hi]; omega
  have e2 : (((win0_4.blk t).view.emb y) 2).val = 128 * (t.val / 16 % 4) + (y 2).val := by blk_simp [hi]; omega
  show ((_ : ℝ) : EReal) = ((_ : ℝ) : EReal)
  rw [e0, e1, e2]
  exact congrArg _ (outR_eq m c t _ _ h2)

/-- The run of the idealised kernel: its result is the attention, its arguments are unchanged. -/
theorem kernel_value : θ_run defs (onTc (τ := τ) (main (F := Ideal))) ⟨m, fun _ => 0, ρ⟩ (fun r => ∀ c : Dev nD,
      r.2.mem ((c.tc : Thread nD τ).loc main_v0) = foxV (argA m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 4).trans (result_array m c),
      ((h c).1 2).trans (((datsV m 0 c).arrAt_in 2 rfl _).trans ((A_eqV m c 2).trans (V_main_arg0 m c))),
      ((h c).1 3).trans (((datsV m 0 c).arrAt_in 3 rfl _).trans ((A_eqV m c 3).trans (V_main_arg1 m c)))⟩) (runV m ρ hr)

end Cert.KernelIdeal.Fox

end
-- ==== Proof.Ref.lean ====
module
public import proofs.«01_k».proof.Proof.Gen.ReferenceIdeal.Run
public import Idealize.ShloMosaic.Lib.Pointwise
public import proofs.«01_k».proof.Proof.Words
/-!
# The reference, in stages

The reference's result is one long term; the stages below are its parts, each read at an index.
-/
@[expose] public section
set_option maxRecDepth 16384
noncomputable section
namespace Cert.ReferenceIdeal.Fox
open Cert.ReferenceIdeal Cert.ReferenceIdeal.Gen Idealize.ShloMosaic

/-- The queries, `[b, h, s, d]`. -/
def rQ (A : FVec Ideal S4x8192x1536 .bf16) : FVec Ideal S4x8x8192x64 .f32 :=
  transpose S4x8x8192x64 [0, 2, 1, 3] (shapeCast _ (extractStridedSlice S4x8192x512 ![0, 0, 0] (extf .f32 A bitsLt_bf16_f32) slices_S4x8192x1536_S4x8192x512_0_0_0) shapeCasts_S4x8192x512_S4x8192x8x64) transposes_S4x8192x8x64_S4x8x8192x64_0_2_1_3

/-- The keys. -/
def rK (A : FVec Ideal S4x8192x1536 .bf16) : FVec Ideal S4x8x8192x64 .f32 :=
  transpose S4x8x8192x64 [0, 2, 1, 3] (shapeCast _ (extractStridedSlice S4x8192x512 ![0, 0, 512] (extf .f32 A bitsLt_bf16_f32) slices_S4x8192x1536_S4x8192x512_0_0_512) shapeCasts_S4x8192x512_S4x8192x8x64) transposes_S4x8192x8x64_S4x8x8192x64_0_2_1_3

/-- The values. -/
def rV (A : FVec Ideal S4x8192x1536 .bf16) : FVec Ideal S4x8x8192x64 .f32 :=
  transpose S4x8x8192x64 [0, 2, 1, 3] (shapeCast _ (extractStridedSlice S4x8192x512 ![0, 0, 1024] (extf .f32 A bitsLt_bf16_f32) slices_S4x8192x1536_S4x8192x512_0_0_1024) shapeCasts_S4x8192x512_S4x8192x8x64) transposes_S4x8192x8x64_S4x8x8192x64_0_2_1_3

/-- The gate sums, `[b, h, s]`. -/
def rC (C : FVec Ideal S4x8192x128 .f32) : FVec Ideal S4x8x8192 .f32 :=
  transpose S4x8x8192 [0, 2, 1] (extractStridedSlice S4x8192x8 ![0, 0, 0] C slices_S4x8192x128_S4x8192x8_0_0_0) transposes_S4x8192x8_S4x8x8192_0_2_1

/-- The causal mask. -/
def rB : IVec S8192x8192 1 :=
  cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))

/-- The scores before the mask. -/
def rT (Q K : FVec Ideal S4x8x8192x64 .f32) (g : FVec Ideal S4x8x8192 .f32) : FVec Ideal S4x8x8192x8192 .f32 :=
  subf (addf (mulf (Host.dotGeneral dot_S4x8x8192x64_S4x8x8192x64_S4x8x8192x8192_3_3_2_2_01_01 none Q K) (broadcastInDim S4x8x8192x8192 ![] bcast_S_S4x8x8192x8192 (Host.log (constant S_ .f32 0x40000000#32)))) (broadcastInDim S4x8x8192x8192 ![0, 1, 2, 3] bcast_S4x8x8192x1_S4x8x8192x8192_0_1_2_3 (broadcastInDim S4x8x8192x1 ![0, 1, 2] bcast_S4x8x8192_S4x8x8192x1_0_1_2 g))) (broadcastInDim S4x8x8192x8192 ![0, 1, 2, 3] bcast_S4x8x1x8192_S4x8x8192x8192_0_1_2_3 (broadcastInDim S4x8x1x8192 ![0, 1, 3] bcast_S4x8x8192_S4x8x1x8192_0_1_3 g))

/-- The masked scores. -/
def rS (T : FVec Ideal S4x8x8192x8192 .f32) : FVec Ideal S4x8x8192x8192 .f32 :=
  select (broadcastInDim S4x8x8192x8192 ![2, 3] bcast_S8192x8192_S4x8x8192x8192_2_3 rB) T (broadcastInDim S4x8x8192x8192 ![] bcast_S_S4x8x8192x8192 (id (constant S_ .f32 0xFF800000#32)))

/-- The row maxima. -/
def rM (S : FVec Ideal S4x8x8192x8192 .f32) : FVec Ideal S4x8x8192 .f32 :=
  maximumf (broadcastInDim S4x8x8192 ![] bcast_S_S4x8x8192 (constant S_ .f32 0xFF800000#32)) (Host.reduce FloatOps.maximumf S (constant S_ .f32 0xFF800000#32) reducesTo_S4x8x8192x8192_S4x8x8192_d3 h_S_)

/-- The exponentials. -/
def rE (S : FVec Ideal S4x8x8192x8192 .f32) (M : FVec Ideal S4x8x8192 .f32) : FVec Ideal S4x8x8192x8192 .f32 :=
  Host.exp (subf S (broadcastInDim S4x8x8192x8192 ![0, 1, 2, 3] bcast_S4x8x8192x1_S4x8x8192x8192_0_1_2_3 (broadcastInDim S4x8x8192x1 ![0, 1, 2] bcast_S4x8x8192_S4x8x8192x1_0_1_2 M)))

/-- The row sums. -/
def rD (E : FVec Ideal S4x8x8192x8192 .f32) : FVec Ideal S4x8x8192 .f32 :=
  Host.reduceAdd E (constant S_ .f32 0x00000000#32) reducesTo_S4x8x8192x8192_S4x8x8192_d3 h_S_

/-- The attention weights. -/
def rP (E : FVec Ideal S4x8x8192x8192 .f32) (D : FVec Ideal S4x8x8192 .f32) : FVec Ideal S4x8x8192x8192 .f32 :=
  Host.divf E (broadcastInDim S4x8x8192x8192 ![0, 1, 2, 3] bcast_S4x8x8192x1_S4x8x8192x8192_0_1_2_3 (broadcastInDim S4x8x8192x1 ![0, 1, 2] bcast_S4x8x8192_S4x8x8192x1_0_1_2 D))

/-- The weighted values. -/
def rO (P : FVec Ideal S4x8x8192x8192 .f32) (V : FVec Ideal S4x8x8192x64 .f32) : FVec Ideal S4x8x8192x64 .f32 :=
  Host.dotGeneral dot_S4x8x8192x8192_S4x8x8192x64_S4x8x8192x64_3_2_2_3_01_01 none P V

/-- The result, `[b, s, 64 h + d]`. -/
def rR (O : FVec Ideal S4x8x8192x64 .f32) : FVec Ideal S4x8192x512 .bf16 :=
  truncf .bf16 (shapeCast _ (transpose S4x8192x8x64 [0, 2, 1, 3] O transposes_S4x8x8192x64_S4x8192x8x64_0_2_1_3) shapeCasts_S4x8192x8x64_S4x8192x512) bitsLt_bf16_f32

/-- The masked scores of the arguments. -/
def rSc (A : FVec Ideal S4x8192x1536 .bf16) (C : FVec Ideal S4x8192x128 .f32) : FVec Ideal S4x8x8192x8192 .f32 :=
  rS (rT (rQ A) (rK A) (rC C))

/-- The exponentials of the arguments. -/
def rEx (A : FVec Ideal S4x8192x1536 .bf16) (C : FVec Ideal S4x8192x128 .f32) : FVec Ideal S4x8x8192x8192 .f32 :=
  rE (rSc A C) (rM (rSc A C))

/-- The whole. -/
def refV (A : FVec Ideal S4x8192x1536 .bf16) (C : FVec Ideal S4x8192x128 .f32) : FVec Ideal S4x8192x512 .bf16 :=
  rR (rO (rP (rEx A C) (rD (rEx A C))) (rV A))

theorem res_eq (m : (ℓ : Loc nD τ sig) → Buf (Elt Ideal) ℓ) (c : Dev nD) :
    Value.res_main_v43 m c = refV (m ((c.tc : Thread nD τ).loc main_arg0)) (m ((c.tc : Thread nD τ).loc main_arg1)) := by
  unfold Value.res_main_v43
  rfl

theorem rC_ix (C : FVec Ideal S4x8192x128 .f32) (b : Fin 4) (h : Fin 8) (s : Fin 8192) :
    rC C (ix3 b h s) = C (ix3 b s (⟨h.val, by omega⟩ : Fin 128)) := by
  pointwise [rC]

theorem rQ_ix (A : FVec Ideal S4x8192x1536 .bf16) (b : Fin 4) (h : Fin 8) (s : Fin 8192) (d : Fin 64) :
    rQ A (ix4 b h s d) = A (ix3 b s (⟨64 * h.val + d.val, by omega⟩ : Fin 1536)) := by
  pointwise [rQ, Nat.mul_comm 64 h.val]

theorem rK_ix (A : FVec Ideal S4x8192x1536 .bf16) (b : Fin 4) (h : Fin 8) (s : Fin 8192) (d : Fin 64) :
    rK A (ix4 b h s d) = A (ix3 b s (⟨512 + 64 * h.val + d.val, by omega⟩ : Fin 1536)) := by
  pointwise [rK, Nat.mul_comm 64 h.val, Nat.add_assoc]

theorem rV_ix (A : FVec Ideal S4x8192x1536 .bf16) (b : Fin 4) (h : Fin 8) (s : Fin 8192) (d : Fin 64) :
    rV A (ix4 b h s d) = A (ix3 b s (⟨1024 + 64 * h.val + d.val, by omega⟩ : Fin 1536)) := by
  pointwise [rV, Nat.mul_comm 64 h.val, Nat.add_assoc]

theorem rT_ix (Q K : FVec Ideal S4x8x8192x64 .f32) (g : FVec Ideal S4x8x8192 .f32) (b : Fin 4) (h : Fin 8) (s u : Fin 8192) :
    rT Q K g (ix4 b h s u) = (∑ d : Fin 64, Q (ix4 b h s d) * K (ix4 b h u d)) * Ideal.log (Ideal.ofBits FTy.f32 0x40000000#32)
      + g (ix3 b h s) - g (ix3 b h u) := by
  pointwise [rT]

theorem rS_ix (T : FVec Ideal S4x8x8192x8192 .f32) (b : Fin 4) (h : Fin 8) (s u : Fin 8192) :
    rS T (ix4 b h s u) = if u.val ≤ s.val then T (ix4 b h s u) else ⊥ := by
  have hc : IntOp.cmpi .sle (BitVec.ofNat 32 u.val) (BitVec.ofNat 32 s.val) = BitVec.ofBool (decide (u.val ≤ s.val)) :=
    Cert.Fox.cmpi_sle_nat (by omega) (by omega)
  have hb : (Ideal.ofBits FTy.f32 4286578688#32 : EReal) = ⊥ := by simp [Ideal.ofBits, Ideal.ieee]
  have e : rS T (ix4 b h s u) = Scalar.select (IntOp.cmpi .sle (BitVec.ofNat 32 u.val) (BitVec.ofNat 32 s.val)) (T (ix4 b h s u))
      (Ideal.ofBits FTy.f32 4286578688#32) := by
    pointwise [rS, rB]
    rfl
  rw [e, hc, hb]
  by_cases hu : u.val ≤ s.val
  · rw [if_pos hu, decide_eq_true hu]; rfl
  · rw [if_neg hu, decide_eq_false hu]; rfl

/-- A maximum over entries below `+∞`, one of them above `-∞`, is a real number. -/
theorem max_real {s t u : Shape} {axes : List (Fin s.rank)} (S : FVec Ideal s .f32) (I : FVec Ideal t .f32)
    (i₀ : FVec Ideal u .f32) (h : s.ReducesTo axes t) (hu : 0 < u.numel) (j : t.Idx) (hI : I j = (⊥ : EReal))
    (hi : ∀ a, i₀ a = (⊥ : EReal)) (hS : ∀ i, S i < (⊤ : EReal)) (i : s.Idx) (hj : h.drop i = j) (hb : (⊥ : EReal) < S i) :
    ∃ μ : ℝ, maximumf I (Host.reduce FloatOps.maximumf S i₀ h hu) j = (μ : EReal) := by
  have e : maximumf I (Host.reduce FloatOps.maximumf S i₀ h hu) j
      = max (I j) (Host.reduce (max : EReal → EReal → EReal) S i₀ h hu j) := rfl
  rw [e, hI, Host.reduce_eq_fold, hi]
  have hbot : (⊥ : EReal) < (Finset.univ.filter fun i => h.drop i = j).fold max ⊥ S :=
    (Finset.lt_fold_max _).2 (Or.inr ⟨i, Finset.mem_filter.2 ⟨Finset.mem_univ _, hj⟩, hb⟩)
  have htop : (Finset.univ.filter fun i => h.drop i = j).fold max ⊥ S < ⊤ :=
    (Finset.fold_max_lt _).2 ⟨bot_lt_top, fun c _ => hS c⟩
  exact ⟨_, (max_eq_right bot_le).trans (EReal.coe_toReal htop.ne hbot.ne').symm⟩

theorem drop_ix (b : Fin 4) (h : Fin 8) (s u : Fin 8192) :
    reducesTo_S4x8x8192x8192_S4x8x8192_d3.drop (ix4 b h s u) = ix3 b h s := by
  funext a
  apply Fin.ext
  rw [Shape.ReducesTo.drop_apply_val]
  match a with
  | ⟨0, _⟩ => rfl
  | ⟨1, _⟩ => rfl
  | ⟨2, _⟩ => rfl

theorem rM_real (S : FVec Ideal S4x8x8192x8192 .f32) (b : Fin 4) (h : Fin 8) (s : Fin 8192)
    (hS : ∀ i, S i < (⊤ : EReal)) (u : Fin 8192) (hu : (⊥ : EReal) < S (ix4 b h s u)) :
    ∃ μ : ℝ, rM S (ix3 b h s) = (μ : EReal) := by
  have hb : (Ideal.ofBits FTy.f32 4286578688#32 : EReal) = ⊥ := by simp [Ideal.ofBits, Ideal.ieee]
  unfold rM
  exact max_real S _ _ _ _ _ hb (fun _ => hb) hS (ix4 b h s u) (drop_ix b h s u) hu

theorem rE_ix (S : FVec Ideal S4x8x8192x8192 .f32) (M : FVec Ideal S4x8x8192 .f32) (b : Fin 4) (h : Fin 8) (s u : Fin 8192) :
    rE S M (ix4 b h s u) = Ideal.exp (S (ix4 b h s u) - M (ix3 b h s)) := by
  pointwise [rE]

theorem rD_ix (E : FVec Ideal S4x8x8192x8192 .f32) (b : Fin 4) (h : Fin 8) (s : Fin 8192) :
    rD E (ix3 b h s) = ∑ u : Fin 8192, E (ix4 b h s u) := by
  pointwise [rD]

theorem rP_ix (E : FVec Ideal S4x8x8192x8192 .f32) (D : FVec Ideal S4x8x8192 .f32) (b : Fin 4) (h : Fin 8) (s u : Fin 8192) :
    rP E D (ix4 b h s u) = Ideal.div (E (ix4 b h s u)) (D (ix3 b h s)) := by
  pointwise [rP]

theorem rO_ix (P : FVec Ideal S4x8x8192x8192 .f32) (V : FVec Ideal S4x8x8192x64 .f32) (b : Fin 4) (h : Fin 8) (s : Fin 8192) (d : Fin 64) :
    rO P V (ix4 b h s d) = ∑ u : Fin 8192, P (ix4 b h s u) * V (ix4 b h u d) := by
  pointwise [rO]

theorem rR_ix (O : FVec Ideal S4x8x8192x64 .f32) (b : Fin 4) (s : Fin 8192) (l : Fin 512) :
    rR O (ix3 b s l) = O (ix4 b (⟨l.val / 64, by omega⟩ : Fin 8) s (⟨l.val % 64, by omega⟩ : Fin 64)) := by
  pointwise [rR]

end Cert.ReferenceIdeal.Fox

end
-- ==== Proof.RefValue.lean ====
module
public import proofs.«01_k».proof.Proof.Ref
public import proofs.«01_k».proof.Proof.Blocks
/-!
# The reference's value

For real arguments the reference's scores are `log 2` times the kernel's, so its exponentials are the kernel's
powers of two; the row maximum cancels in the quotient, and what is left is the weighted mean `foxR`.
-/
@[expose] public section
set_option maxRecDepth 16384
noncomputable section
namespace Cert.ReferenceIdeal.Fox
open Cert.ReferenceIdeal Cert.ReferenceIdeal.Gen Idealize.ShloMosaic Cert.Fox
open Cert.KernelIdeal.Fox (at0 at1 RealArgs foxR foxV mean mean_shift at0_ix at1_ix coe_sum')

/-- The kernel's score, of the base two. -/
def scR (A : FVec Ideal S4x8192x1536 .bf16) (C : FVec Ideal S4x8192x128 .f32) (b h s u : ℕ) : ℝ :=
  ∑ d ∈ Finset.range 64, at0 A b s (64 * h + d) * at0 A b u (512 + 64 * h + d) + (at1 C b s h - at1 C b u h) * L2

/-- The sum over the keys up to `s`. -/
theorem sum_upto (N s : ℕ) (hs : s < N) (f : ℕ → ℝ) :
    ∑ u : Fin N, ((if u.val ≤ s then f u.val else 0 : ℝ) : EReal) = ((∑ u ∈ Finset.range (s + 1), f u : ℝ) : EReal) := by
  rw [← coe_sum', Fin.sum_univ_eq_sum_range (fun u => if u ≤ s then f u else 0) N]
  refine congrArg _ ?_
  rw [← Finset.sum_filter]
  refine Finset.sum_congr ?_ fun _ _ => rfl
  ext u
  simp only [Finset.mem_filter, Finset.mem_range]
  omega

theorem two_pow (x μ : ℝ) : Real.exp (x * Real.log 2 - μ) = (2 : ℝ) ^ (x - μ * L2) := by
  have h : Real.log 2 ≠ 0 := (Real.log_pos (by norm_num)).ne'
  rw [Real.rpow_def_of_pos (by norm_num)]
  refine congrArg _ ?_
  unfold L2
  field_simp

theorem log_two : Ideal.log (Ideal.ofBits FTy.f32 0x40000000#32) = ((Real.log 2 : ℝ) : EReal) := by
  have e : (Ideal.ofBits FTy.f32 0x40000000#32 : EReal) = ((2 : ℝ) : EReal) := by
    simp [Ideal.ofBits, Ideal.ieee]
    rw [← EReal.coe_mul]
    norm_num
  rw [e, Ideal.log_coe, if_neg (by norm_num)]

variable {A : FVec Ideal S4x8192x1536 .bf16} {C : FVec Ideal S4x8192x128 .f32} (hr : RealArgs A C)
include hr

theorem sc_ix (b : Fin 4) (h : Fin 8) (s u : Fin 8192) :
    rSc A C (ix4 b h s u) = if u.val ≤ s.val then ((scR A C b h s u * Real.log 2 : ℝ) : EReal) else ⊥ := by
  unfold rSc
  rw [rS_ix]
  refine if_congr Iff.rfl ?_ rfl
  have hL : Real.log 2 ≠ 0 := (Real.log_pos (by norm_num)).ne'
  have e1 : ∑ d : Fin 64, rQ A (ix4 b h s d) * rK A (ix4 b h u d)
      = ((∑ d ∈ Finset.range 64, at0 A b s (64 * h + d) * at0 A b u (512 + 64 * h + d) : ℝ) : EReal) := by
    rw [← Fin.sum_univ_eq_sum_range (fun d => at0 A b s (64 * h + d) * at0 A b u (512 + 64 * h + d)) 64, coe_sum']
    refine Finset.sum_congr rfl fun d _ => ?_
    rw [rQ_ix, rK_ix, at0_ix hr, at0_ix hr, EReal.coe_mul]
  rw [rT_ix, e1, rC_ix, rC_ix, at1_ix hr, at1_ix hr, log_two, ← EReal.coe_mul, ← EReal.coe_add, ← EReal.coe_sub]
  refine congrArg _ ?_
  unfold scR L2
  field_simp
  ring

theorem max_ix (b : Fin 4) (h : Fin 8) (s : Fin 8192) : ∃ μ : ℝ, rM (rSc A C) (ix3 b h s) = (μ : EReal) := by
  refine rM_real _ b h s (fun i => ?_) (⟨0, by norm_num⟩ : Fin 8192) ?_
  · rw [ValueIdx.eq_ix4 i]
    refine lt_of_eq_of_lt (sc_ix hr (i 0) (i 1) (i 2) (i 3)) ?_
    split
    · exact EReal.coe_lt_top _
    · exact bot_lt_top
  · rw [sc_ix hr, if_pos (Nat.zero_le _)]
    exact EReal.bot_lt_coe _

theorem ex_ix (b : Fin 4) (h : Fin 8) (s : Fin 8192) (μ : ℝ) (hμ : rM (rSc A C) (ix3 b h s) = (μ : EReal)) (u : Fin 8192) :
    rEx A C (ix4 b h s u) = ((if u.val ≤ s.val then (2 : ℝ) ^ (scR A C b h s u - μ * L2) else 0 : ℝ) : EReal) := by
  unfold rEx
  rw [rE_ix, hμ, sc_ix hr]
  by_cases hu : u.val ≤ s.val
  · rw [if_pos hu, if_pos hu, ← EReal.coe_sub, Ideal.exp_coe, two_pow]
  · rw [if_neg hu, if_neg hu, EReal.bot_sub]
    exact Ideal.exp_bot

/-- The weighted values of a row are the mean. -/
theorem out_ix (b : Fin 4) (h : Fin 8) (s : Fin 8192) (d : Fin 64) :
    rO (rP (rEx A C) (rD (rEx A C))) (rV A) (ix4 b h s d)
      = ((mean (s.val + 1) (fun u => scR A C b h s u) (fun u => at0 A b u (1024 + 64 * h + d)) : ℝ) : EReal) := by
  obtain ⟨μ, hμ⟩ := max_ix hr b h s
  have hx := ex_ix hr b h s μ hμ
  have hd : rD (rEx A C) (ix3 b h s) = ((∑ u ∈ Finset.range (s.val + 1), (2 : ℝ) ^ (scR A C b h s u - μ * L2) : ℝ) : EReal) := by
    rw [rD_ix, Finset.sum_congr rfl fun u _ => hx u]
    exact sum_upto 8192 s.val s.isLt fun u => (2 : ℝ) ^ (scR A C b h s u - μ * L2)
  have hpos : (0 : ℝ) < ∑ u ∈ Finset.range (s.val + 1), (2 : ℝ) ^ (scR A C b h s u - μ * L2) :=
    Finset.sum_pos (fun u _ => Real.rpow_pos_of_pos (by norm_num) _) ⟨0, Finset.mem_range.2 (Nat.succ_pos _)⟩
  generalize hD : ∑ u ∈ Finset.range (s.val + 1), (2 : ℝ) ^ (scR A C b h s u - μ * L2) = D at hd hpos
  have ht : ∀ u : Fin 8192, rP (rEx A C) (rD (rEx A C)) (ix4 b h s u) * rV A (ix4 b h u d)
      = ((if u.val ≤ s.val then (2 : ℝ) ^ (scR A C b h s u - μ * L2) * (1 / D) * at0 A b u (1024 + 64 * h + d) else 0 : ℝ) : EReal) := by
    intro u
    rw [rP_ix, hd, hx u, Ideal.div_coe hpos.ne', rV_ix, at0_ix hr, ← EReal.coe_mul, ← EReal.coe_mul]
    refine congrArg _ ?_
    split
    · rfl
    · ring
  rw [rO_ix, Finset.sum_congr rfl fun u _ => ht u,
    sum_upto 8192 s.val s.isLt fun u => (2 : ℝ) ^ (scR A C b h s u - μ * L2) * (1 / D) * at0 A b u (1024 + 64 * h + d)]
  refine congrArg _ ?_
  rw [← mean_shift _ _ _ (μ * L2), hD, Finset.sum_mul]
  exact Finset.sum_congr rfl fun u _ => by ring

/-- The reference's result is the kernel's. -/
theorem ref_value : refV A C = foxV A C := by
  funext j
  rw [ValueIdx.eq_ix3 j]
  unfold refV
  refine (rR_ix _ (j 0) (j 1) (j 2)).trans ((out_ix hr _ _ _ _).trans ?_)
  show ((_ : ℝ) : EReal) = ((foxR A C (j 0).val (j 1).val (j 2).val : ℝ) : EReal)
  refine congrArg _ ?_
  unfold foxR scR
  refine congrArg _ ?_
  funext u
  refine congrArg _ ?_
  show 1024 + 64 * ((j 2).val / 64) + (j 2).val % 64 = 1024 + (j 2).val
  omega

end Cert.ReferenceIdeal.Fox

end
-- ==== Proof.Finite.lean ====
module
public import proofs.«01_k».proof.Defs
public import proofs.«01_k».proof.Proof.Gen.Pre_finite
public import proofs.«01_k».proof.Proof.Blocks
public import Idealize.ShloMosaic.Lib.ReduceAll
/-!
# The precondition, read

`finite` says that the magnitude of every entry is below `+∞`; so every entry is a real number.
-/
@[expose] public section
set_option maxRecDepth 16384
noncomputable section
namespace Cert.KernelIdeal.Fox
open Idealize.ShloMosaic Cert.Pre_finite

theorem inf_word : (Ideal.ofBits FTy.f32 0x7F800000#32 : EReal) = ⊤ := by simp [Ideal.ofBits, Ideal.ieee]

/-- A magnitude below `+∞` is a real number's. -/
theorem real_of_abs (x : EReal) (h : FloatOps.cmpf (F := Ideal) (φ := .f32) .olt (FloatOps.hostAbsf (F := Ideal) (φ := .f32) x) (Ideal.ofBits FTy.f32 0x7F800000#32) = 1#1) :
    x = ((EReal.toReal x : ℝ) : EReal) := by
  rw [inf_word] at h
  have hlt : max x (-x) < (⊤ : EReal) := by
    by_contra hn
    have e : FloatOps.cmpf (F := Ideal) (φ := .f32) .olt (FloatOps.hostAbsf (F := Ideal) (φ := .f32) x) (⊤ : EReal)
        = BitVec.ofBool (decide (max x (-x) < (⊤ : EReal))) := rfl
    rw [e, decide_eq_false hn] at h
    exact absurd h (by decide)
  obtain ⟨h1, h2⟩ := max_lt_iff.1 hlt
  refine (EReal.coe_toReal h1.ne fun hb => ?_).symm
  rw [hb, EReal.neg_bot] at h2
  exact lt_irrefl _ h2

theorem real_args (A : FVec Ideal S4x8192x1536 .bf16) (C : FVec Ideal S4x8192x128 .f32)
    (h : Cert.Pre_finite.fn (F := Ideal) A C = fun _ => 1#1) : RealArgs A C := by
  have h0 := congrFun h (fun a => a.elim0)
  dsimp only [fn] at h0
  obtain ⟨ha, hc⟩ := IntOp.andi_eq_one.1 h0
  constructor
  · intro i
    have e := Host.reduce_andi_all _ _ _ _ _ ha i
    exact real_of_abs _ e
  · intro i
    have e := Host.reduce_andi_all _ _ _ _ _ hc i
    exact real_of_abs _ e

end Cert.KernelIdeal.Fox

end
-- ==== Proof.Rows.lean ====
module
public import Idealize.ShloMosaic.Lib.Pointwise
/-!
# One row of the layer's projections

The formulas of one row (one position of one sequence), over the extended reals. Both programs, tiled and whole, are
read against them.
-/
@[expose] public section
noncomputable section
namespace Cert.Rows
open Idealize.ShloMosaic

/-- A vector times a matrix. -/
def vm {n k : ℕ} (x : Fin n → EReal) (w : Fin n → Fin k → EReal) (j : Fin k) : EReal := ∑ l : Fin n, x l * w l j

/-- The reciprocal root of the mean square of a row of 1024, the small constant added to the mean. -/
def rs (x : Fin 1024 → EReal) : EReal :=
  Ideal.rsqrt (Ideal.div (∑ l : Fin 1024, x l * x l) (Ideal.ofBits FTy.f32 0x44800000#32) + Ideal.ofBits FTy.f32 0x358637BD#32)

/-- The row over its root mean square, times a gain. -/
def rms (x g : Fin 1024 → EReal) (j : Fin 1024) : EReal := x j * rs x * g j

/-- The row normalised, scaled by one plus `sc` and shifted. -/
def modl (x g sc sh : Fin 1024 → EReal) (j : Fin 1024) : EReal :=
  rms x g j * (Ideal.ofBits FTy.f32 0x3F800000#32 + sc j) + sh j

/-- The two attentions' outputs projected, gated, added and projected again. -/
def mix (ya yb : Fin 512 → EReal) (ga gb : Fin 1024 → EReal) (wa wb : Fin 512 → Fin 1024 → EReal)
    (wo : Fin 1024 → Fin 1024 → EReal) : Fin 1024 → EReal :=
  vm (fun k => ga k * vm ya wa k + gb k * vm yb wb k) wo

/-- The residual with the normalised, gated row added. -/
def resid (x gt y g : Fin 1024 → EReal) (j : Fin 1024) : EReal := x j + gt j * rms y g j

/-- The output projection's arguments: the two attentions' outputs, the gates, the residual, the three modulations, the two
    gains, the four matrices. -/
structure Out where
  ya : FVec Ideal ⟨3, ![4, 8192, 512]⟩ .bf16
  yb : FVec Ideal ⟨3, ![4, 8192, 512]⟩ .bf16
  gate : FVec Ideal ⟨3, ![4, 8192, 2048]⟩ .f32
  x : FVec Ideal ⟨3, ![4, 8192, 1024]⟩ .f32
  gt : FVec Ideal ⟨3, ![4, 1, 1024]⟩ .f32
  sc : FVec Ideal ⟨3, ![4, 1, 1024]⟩ .f32
  sh : FVec Ideal ⟨3, ![4, 1, 1024]⟩ .f32
  gm : FVec Ideal ⟨2, ![1, 1024]⟩ .f32
  gf : FVec Ideal ⟨2, ![1, 1024]⟩ .f32
  wa : FVec Ideal ⟨2, ![512, 1024]⟩ .bf16
  wb : FVec Ideal ⟨2, ![512, 1024]⟩ .bf16
  wo : FVec Ideal ⟨2, ![1024, 1024]⟩ .bf16
  wq : FVec Ideal ⟨2, ![1024, 2048]⟩ .bf16

namespace Out
variable (O : Out) (b : Fin 4) (s : Fin 8192)

/-- The mixed row. -/
def y : Fin 1024 → EReal :=
  mix (fun l => O.ya (ix3 b s l)) (fun l => O.yb (ix3 b s l)) (fun k => O.gate (ix3 b s (⟨k.val, by omega⟩ : Fin 2048)))
    (fun k => O.gate (ix3 b s (⟨1024 + k.val, by omega⟩ : Fin 2048)))
    (fun l j => O.wa (ix2 l j)) (fun l j => O.wb (ix2 l j)) (fun l j => O.wo (ix2 l j))
/-- The new residual. -/
def x1 : Fin 1024 → EReal := resid (fun j => O.x (ix3 b s j)) (fun j => O.gt (ix3 b 0 j)) (O.y b s) (fun j => O.gm (ix2 0 j))
/-- The modulated row. -/
def h2 : Fin 1024 → EReal := modl (O.x1 b s) (fun j => O.gf (ix2 0 j)) (fun j => O.sc (ix3 b 0 j)) (fun j => O.sh (ix3 b 0 j))
/-- The query. -/
def q : Fin 2048 → EReal := vm (O.h2 b s) (fun l j => O.wq (ix2 l j))

/-- The three results. -/
def R0 : FVec Ideal ⟨3, ![4, 8192, 1024]⟩ .f32 := fun i => O.x1 (i 0) (i 1) (i 2)
def R1 : FVec Ideal ⟨2, ![1024, 32768]⟩ .bf16 := fun i =>
  O.h2 (⟨(i 1).val / 8192, by have h : (i 1).val < 32768 := (i 1).isLt; omega⟩ : Fin 4) (⟨(i 1).val % 8192, by omega⟩ : Fin 8192) (i 0)
def R2 : FVec Ideal ⟨3, ![4, 8192, 2048]⟩ .f32 := fun i => O.q (i 0) (i 1) (i 2)
end Out

/-- The logistic function. -/
def sg (z : EReal) : EReal := Ideal.div 1 (1 + Ideal.exp (-z))

/-- `log (1 + exp z)`, written with the larger of `z` and zero taken out. -/
def sp (z : EReal) : EReal := max z 0 + Ideal.log (1 + Ideal.exp (-max z (-z)))

/-- The input projection's arguments: the layer's input, the two modulations, the gain, the four matrices, the two biases
    and the row of log rates. -/
structure Inp where
  x : FVec Ideal ⟨3, ![4, 8192, 1024]⟩ .f32
  sc : FVec Ideal ⟨3, ![4, 1, 1024]⟩ .f32
  sh : FVec Ideal ⟨3, ![4, 1, 1024]⟩ .f32
  g : FVec Ideal ⟨2, ![1, 1024]⟩ .f32
  wf : FVec Ideal ⟨2, ![1024, 1536]⟩ .bf16
  wg : FVec Ideal ⟨2, ![1024, 2048]⟩ .bf16
  wz : FVec Ideal ⟨2, ![1024, 2048]⟩ .bf16
  ws : FVec Ideal ⟨2, ![1024, 128]⟩ .bf16
  bz : FVec Ideal ⟨2, ![1, 2048]⟩ .f32
  bs : FVec Ideal ⟨2, ![1, 128]⟩ .f32
  al : FVec Ideal ⟨2, ![1, 128]⟩ .f32

/-- The 128 small lanes: eight log forget gates, four write gates, then the decays. -/
def lanes (z al : Fin 128 → EReal) (j : Fin 128) : EReal :=
  if j.val < 8 then -sp (-z j) else if j.val < 12 then sg (z j) else -Ideal.exp (al j) * sp (z j)

/-- The queries scaled, the keys and values as they are. -/
def qkv (f : Fin 1536 → EReal) (j : Fin 1536) : EReal :=
  if j.val < 512 then f j * (((8 * Real.log 2)⁻¹ : ℝ) : EReal) else f j

namespace Inp
variable (O : Inp) (b : Fin 4) (s : Fin 8192)

/-- The modulated row. -/
def h : Fin 1024 → EReal := modl (fun j => O.x (ix3 b s j)) (fun j => O.g (ix2 0 j)) (fun j => O.sc (ix3 b 0 j)) (fun j => O.sh (ix3 b 0 j))
/-- Its projections. -/
def f : Fin 1536 → EReal := qkv (vm (O.h b s) fun l j => O.wf (ix2 l j))
def p : Fin 2048 → EReal := vm (O.h b s) fun l j => O.wg (ix2 l j)
def z (j : Fin 2048) : EReal := sg (vm (O.h b s) (fun l j => O.wz (ix2 l j)) j + O.bz (ix2 0 j))
def u : Fin 128 → EReal := lanes (fun j => vm (O.h b s) (fun l j => O.ws (ix2 l j)) j + O.bs (ix2 0 j)) (fun j => O.al (ix2 0 j))

/-- The five results. -/
def R0 : FVec Ideal ⟨3, ![4, 8192, 1536]⟩ .bf16 := fun i => O.f (i 0) (i 1) (i 2)
def R1 : FVec Ideal ⟨3, ![4, 8192, 1536]⟩ .f32 := fun i =>
  O.p (i 0) (i 1) (⟨(i 2).val, by have h : (i 2).val < 1536 := (i 2).isLt; omega⟩ : Fin 2048)
def R2 : FVec Ideal ⟨3, ![4, 8192, 512]⟩ .f32 := fun i =>
  O.p (i 0) (i 1) (⟨1536 + (i 2).val, by have h : (i 2).val < 512 := (i 2).isLt; omega⟩ : Fin 2048)
def R3 : FVec Ideal ⟨3, ![4, 8192, 2048]⟩ .f32 := fun i => O.z (i 0) (i 1) (i 2)
def R4 : FVec Ideal ⟨3, ![4, 8192, 128]⟩ .f32 := fun i => O.u (i 0) (i 1) (i 2)
end Inp

end Cert.Rows
end
-- ==== Proof.Out2.lean ====
module
public import Idealize.ShloMosaic.Lib.Pipeline.ValueKit
public import Idealize.ShloMosaic.Lib.Pipeline.Value
public import proofs.«01_k».proof.Proof.Gen.Kernel2Ideal.Frame
public import proofs.«01_k».proof.Proof.Words
public import proofs.«01_k».proof.Proof.Rows
/-!
# One tile of the input projection

What the body of the input projection computes, row by row.
-/
@[expose] public section
set_option maxRecDepth 16384
noncomputable section
namespace Cert.Kernel2Ideal.Proj
open Idealize.ShloMosaic Idealize.ShloMosaic.TcCoe Cert.Kernel2Ideal Cert.Kernel2Ideal.Gen Cert.Rows

/-- A row of a tile. -/
abbrev row {n : ℕ} {f : FTy} (X : FVec Ideal ⟨3, ![1, 512, n]⟩ f) (r : Fin 512) (l : Fin n) : EReal := X (ix3 0 r l)
/-- A matrix. -/
abbrev mat {n k : ℕ} {f : FTy} (X : FVec Ideal ⟨2, ![n, k]⟩ f) (l : Fin n) (j : Fin k) : EReal := X (ix2 l j)

theorem neg0 (x : EReal) : 0 - x = -x := by rw [sub_eq_add_neg, zero_add]

/-- A choice by a lane number below a bound. -/
theorem sel_slt {n k : ℕ} (hn : n < 2147483648) (hk : k < 2147483648) (a b : EReal) :
    Scalar.select (IntOp.cmpi CmpIPredicate.slt (BitVec.ofNat 32 n) (BitVec.ofNat 32 k)) a b = if n < k then a else b := by
  rw [Cert.Fox.cmpi_slt_nat hn hk]
  by_cases h : n < k
  · rw [if_pos h, decide_eq_true h]; rfl
  · rw [if_neg h, decide_eq_false h]; rfl

theorem pay2_ix (v0 : FVec Ideal S1x512x1024 .f32) (v2 : FVec Ideal S1x1024 .f32) (v15 v21 : FVec Ideal S1x1x1024 .f32) (r : Fin 512) (j : Fin 1024) :
    k0_pay2 (F := Ideal) v0 v2 v15 v21 (ix2 r j)
      = modl (row v0 r) (fun j => v2 (ix2 0 j)) (fun j => v15 (ix3 0 0 j)) (fun j => v21 (ix3 0 0 j)) j := by
  pointwise [k0_pay2, modl, rms, rs, row]

theorem pay3_ix (v0 : FVec Ideal S1x512x1024 .f32) (v2 : FVec Ideal S1x1024 .f32) (v15 v21 : FVec Ideal S1x1x1024 .f32) (w : FVec Ideal S1024x1536 .bf16)
    (r : Fin 512) (h : Fin 1024 → EReal) (hh : ∀ j, k0_pay2 (F := Ideal) v0 v2 v15 v21 (ix2 r j) = h j) (j : Fin 1536) :
    k0_pay3 (F := Ideal) v0 v2 v15 v21 w (ix2 r j) = qkv (vm h (mat w)) j := by
  pointwise [k0_pay3, hh]
  have hk : (Named.named κ "qscale" 1043900987#32 : Ideal .f32) = (((8 * Real.log 2)⁻¹ : ℝ) : EReal) :=
    IdealRules.named_const.ideal_named_scalar _ _ _ _ rfl
  rw [hk]
  exact sel_slt (by omega) (by norm_num) _ _

theorem pay5_ix (v25 : FVec Ideal S512x1024 .bf16) (w : FVec Ideal S1024x2048 .bf16)
    (r : Fin 512) (h : Fin 1024 → EReal) (hh : ∀ j, v25 (ix2 r j) = h j) (j : Fin 2048) :
    k0_pay5 (F := Ideal) v25 w (ix2 r j) = vm h (mat w) j := by
  pointwise [k0_pay5, hh, vm, mat]

theorem pay8_ix (v25 : FVec Ideal S512x1024 .bf16) (w : FVec Ideal S1024x2048 .bf16) (v52 : FVec Ideal S1x2048 .f32)
    (r : Fin 512) (h : Fin 1024 → EReal) (hh : ∀ j, v25 (ix2 r j) = h j) (j : Fin 2048) :
    k0_pay8 (F := Ideal) v25 w v52 (ix3 0 r j) = sg (vm h (mat w) j + v52 (ix2 0 j)) := by
  pointwise [k0_pay8, hh, vm, mat, sg]
  rw [neg0]

theorem pay10_ix (v25 : FVec Ideal S512x1024 .bf16) (w : FVec Ideal S1024x128 .bf16) (v67 : FVec Ideal S1x128 .f32)
    (r : Fin 512) (h : Fin 1024 → EReal) (hh : ∀ j, v25 (ix2 r j) = h j) (j : Fin 128) :
    k0_pay10 (F := Ideal) (k0_pay9 v25 w) v67 (ix2 r j) = vm h (mat w) j + v67 (ix2 0 j) := by
  pointwise [k0_pay10, k0_pay9, hh, vm, mat]

theorem pay1_ix (v66 : FVec Ideal S512x128 .f32) (v67 al : FVec Ideal S1x128 .f32)
    (r : Fin 512) (z : Fin 128 → EReal) (hz : ∀ j, k0_pay10 (F := Ideal) v66 v67 (ix2 r j) = z j) (j : Fin 128) :
    k0_pay1 (F := Ideal) (k0_pay11 al) k0_pay12 (k0_pay13 v66 v67) k0_pay14 (k0_pay15 v66 v67) (k0_pay16 v66 v67) (ix3 0 r j)
      = lanes z (fun j => al (ix2 0 j)) j := by
  pointwise [k0_pay1, k0_pay11, k0_pay12, k0_pay13, k0_pay14, k0_pay15, k0_pay16, hz]
  have ha : ∀ x : EReal, FloatOps.absf (F := Ideal) (φ := FTy.f32) x = max x (-x) := fun _ => rfl
  rw [show (12#32 : BitVec 32) = BitVec.ofNat 32 12 from rfl, show (8#32 : BitVec 32) = BitVec.ofNat 32 8 from rfl,
    sel_slt (by omega) (by norm_num), sel_slt (by omega) (by norm_num)]
  simp only [neg0, lanes, sp, sg]
  rfl
end Cert.Kernel2Ideal.Proj
end
-- ==== Proof.Val2.lean ====
module
public import proofs.«01_k».proof.Proof.Gen.Kernel2Ideal.Value
public import proofs.«01_k».proof.Proof.Out2
/-!
# The input projection's run

The point `(b, i)` of the grid works at sequence `b`, rows `512 i` and on.
-/
@[expose] public section
set_option maxRecDepth 16384
noncomputable section
namespace Cert.Kernel2Ideal.Proj
open Idealize.ShloMosaic Idealize.ShloMosaic.TcCoe Idealize.SL.Sem Cert.Kernel2Ideal Cert.Kernel2Ideal.Gen Cert.Rows

section Tile
variable (x0 : FVec Ideal S1x512x1024 .f32) (x1 : FVec Ideal S1x1x1024 .f32) (x2 : FVec Ideal S1x1x1024 .f32) (x3 : FVec Ideal S1x1024 .f32) (x4 : FVec Ideal S1024x1536 .bf16) (x5 : FVec Ideal S1024x2048 .bf16) (x6 : FVec Ideal S1024x2048 .bf16) (x7 : FVec Ideal S1024x128 .bf16) (x8 : FVec Ideal S1x2048 .f32) (x9 : FVec Ideal S1x128 .f32) (x10 : FVec Ideal S1x128 .f32)

/-- The modulated row of a tile. -/
abbrev hT (r : Fin 512) : Fin 1024 → EReal :=
  modl (row x0 r) (fun j => x3 (ix2 0 j)) (fun j => x1 (ix3 0 0 j)) (fun j => x2 (ix3 0 0 j))

theorem out11_ix (r : Fin 512) (j : Fin 1536) :
    out0_11 (F := Ideal) x0 x1 x2 x3 x4 x5 x6 x7 x8 x9 x10 (ix3 0 r j) = qkv (vm (hT x0 x1 x2 x3 r) (mat x4)) j := by
  have e : out0_11 (F := Ideal) x0 x1 x2 x3 x4 x5 x6 x7 x8 x9 x10 = k0_pay4 (F := Ideal) (k0_pay3 x0 x3 x1 x2 x4) := by
    unfold_out out0_11
    frame_out
  rw [e]
  refine Eq.trans ?_ (pay3_ix x0 x3 x1 x2 x4 r _ (pay2_ix x0 x3 x1 x2 r) j)
  pointwise [k0_pay4]

theorem out12_ix (r : Fin 512) (j : Fin 1536) :
    out0_12 (F := Ideal) x0 x1 x2 x3 x4 x5 x6 x7 x8 x9 x10 (ix3 0 r j) = vm (hT x0 x1 x2 x3 r) (mat x5) (⟨j.val, by omega⟩ : Fin 2048) := by
  have e : out0_12 (F := Ideal) x0 x1 x2 x3 x4 x5 x6 x7 x8 x9 x10 = k0_pay6 (F := Ideal) (k0_pay2 x0 x3 x1 x2) x5 := by
    unfold_out out0_12
    frame_out
  rw [e]
  refine Eq.trans ?_ (pay5_ix (k0_pay2 x0 x3 x1 x2) x5 r _ (pay2_ix x0 x3 x1 x2 r) _)
  pointwise [k0_pay6]

theorem out13_ix (r : Fin 512) (j : Fin 512) :
    out0_13 (F := Ideal) x0 x1 x2 x3 x4 x5 x6 x7 x8 x9 x10 (ix3 0 r j) = vm (hT x0 x1 x2 x3 r) (mat x5) (⟨1536 + j.val, by omega⟩ : Fin 2048) := by
  have e : out0_13 (F := Ideal) x0 x1 x2 x3 x4 x5 x6 x7 x8 x9 x10 = k0_pay7 (F := Ideal) (k0_pay2 x0 x3 x1 x2) x5 := by
    unfold_out out0_13
    frame_out
  rw [e]
  refine Eq.trans ?_ (pay5_ix (k0_pay2 x0 x3 x1 x2) x5 r _ (pay2_ix x0 x3 x1 x2 r) _)
  pointwise [k0_pay7]

theorem out14_ix (r : Fin 512) (j : Fin 2048) :
    out0_14 (F := Ideal) x0 x1 x2 x3 x4 x5 x6 x7 x8 x9 x10 (ix3 0 r j) = sg (vm (hT x0 x1 x2 x3 r) (mat x6) j + x8 (ix2 0 j)) := by
  have e : out0_14 (F := Ideal) x0 x1 x2 x3 x4 x5 x6 x7 x8 x9 x10 = k0_pay8 (F := Ideal) (k0_pay2 x0 x3 x1 x2) x6 x8 := by
    unfold_out out0_14
    frame_out
  rw [e]
  exact pay8_ix (k0_pay2 x0 x3 x1 x2) x6 x8 r _ (pay2_ix x0 x3 x1 x2 r) j

theorem out15_ix (r : Fin 512) (j : Fin 128) :
    out0_15 (F := Ideal) x0 x1 x2 x3 x4 x5 x6 x7 x8 x9 x10 (ix3 0 r j) = lanes (fun j => vm (hT x0 x1 x2 x3 r) (mat x7) j + x9 (ix2 0 j)) (fun j => x10 (ix2 0 j)) j := by
  have e : out0_15 (F := Ideal) x0 x1 x2 x3 x4 x5 x6 x7 x8 x9 x10 = k0_pay1 (F := Ideal) (k0_pay11 x10) k0_pay12 (k0_pay13 (k0_pay9 (k0_pay2 x0 x3 x1 x2) x7) x9) k0_pay14 (k0_pay15 (k0_pay9 (k0_pay2 x0 x3 x1 x2) x7) x9) (k0_pay16 (k0_pay9 (k0_pay2 x0 x3 x1 x2) x7) x9) := by
    unfold_out out0_15
    frame_out
  rw [e]
  exact pay1_ix (k0_pay9 (k0_pay2 x0 x3 x1 x2) x7) x9 x10 r _ (pay10_ix (k0_pay2 x0 x3 x1 x2) x7 x9 r _ (pay2_ix x0 x3 x1 x2 r)) j

end Tile

variable (m : (ℓ : Loc nD τ sig) → Buf (Elt Ideal) ℓ) (ρ : Dev nD → PrngReg)

/-- The arguments. -/
def ops (c : Dev nD) : Inp :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10)⟩

theorem idx0 (t : Fin cfg0.N) : win0_0.index t = ![t.val / 16 % 4, t.val % 16, 0] :=
  (by decide +kernel : ∀ t : Fin grid0.N, win0_0.index t = ![t.val / 16 % 4, t.val % 16, 0]) t
theorem idx1 (t : Fin cfg0.N) : win0_1.index t = ![t.val / 16 % 4, 0, 0] :=
  (by decide +kernel : ∀ t : Fin grid0.N, win0_1.index t = ![t.val / 16 % 4, 0, 0]) t
theorem idx2 (t : Fin cfg0.N) : win0_2.index t = ![t.val / 16 % 4, 0, 0] :=
  (by decide +kernel : ∀ t : Fin grid0.N, win0_2.index t = ![t.val / 16 % 4, 0, 0]) t
theorem idx3 (t : Fin cfg0.N) : win0_3.index t = ![0, 0] :=
  (by decide +kernel : ∀ t : Fin grid0.N, win0_3.index t = ![0, 0]) t
theorem idx4 (t : Fin cfg0.N) : win0_4.index t = ![0, 0] :=
  (by decide +kernel : ∀ t : Fin grid0.N, win0_4.index t = ![0, 0]) t
theorem idx5 (t : Fin cfg0.N) : win0_5.index t = ![0, 0] :=
  (by decide +kernel : ∀ t : Fin grid0.N, win0_5.index t = ![0, 0]) t
theorem idx6 (t : Fin cfg0.N) : win0_6.index t = ![0, 0] :=
  (by decide +kernel : ∀ t : Fin grid0.N, win0_6.index t = ![0, 0]) t
theorem idx7 (t : Fin cfg0.N) : win0_7.index t = ![0, 0] :=
  (by decide +kernel : ∀ t : Fin grid0.N, win0_7.index t = ![0, 0]) t
theorem idx8 (t : Fin cfg0.N) : win0_8.index t = ![0, 0] :=
  (by decide +kernel : ∀ t : Fin grid0.N, win0_8.index t = ![0, 0]) t
theorem idx9 (t : Fin cfg0.N) : win0_9.index t = ![0, 0] :=
  (by decide +kernel : ∀ t : Fin grid0.N, win0_9.index t = ![0, 0]) t
theorem idx10 (t : Fin cfg0.N) : win0_10.index t = ![0, 0] :=
  (by decide +kernel : ∀ t : Fin grid0.N, win0_10.index t = ![0, 0]) t
theorem idx11 (t : Fin cfg0.N) : win0_11.index t = ![t.val / 16 % 4, t.val % 16, 0] :=
  (by decide +kernel : ∀ t : Fin grid0.N, win0_11.index t = ![t.val / 16 % 4, t.val % 16, 0]) t
theorem idx12 (t : Fin cfg0.N) : win0_12.index t = ![t.val / 16 % 4, t.val % 16, 0] :=
  (by decide +kernel : ∀ t : Fin grid0.N, win0_12.index t = ![t.val / 16 % 4, t.val % 16, 0]) t
theorem idx13 (t : Fin cfg0.N) : win0_13.index t = ![t.val / 16 % 4, t.val % 16, 0] :=
  (by decide +kernel : ∀ t : Fin grid0.N, win0_13.index t = ![t.val / 16 % 4, t.val % 16, 0]) t
theorem idx14 (t : Fin cfg0.N) : win0_14.index t = ![t.val / 16 % 4, t.val % 16, 0] :=
  (by decide +kernel : ∀ t : Fin grid0.N, win0_14.index t = ![t.val / 16 % 4, t.val % 16, 0]) t
theorem idx15 (t : Fin cfg0.N) : win0_15.index t = ![t.val / 16 % 4, t.val % 16, 0] :=
  (by decide +kernel : ∀ t : Fin grid0.N, win0_15.index t = ![t.val / 16 % 4, t.val % 16, 0]) t

section Block
variable (c : Dev nD) (t : Fin cfg0.N)
/-- The sequence and the row of a point. -/
def bT : Fin 4 := ⟨t.val / 16 % 4, by omega⟩
def sT (r : Fin 512) : Fin 8192 := ⟨512 * (t.val % 16) + r.val, by omega⟩

theorem blk0 (r : Fin 512) (l : Fin 1024) : (iblk m c 0 t : FVec Ideal S1x512x1024 .f32) (ix3 0 r l) = (ops m c).x (ix3 (bT t) (sT t r) l) := by
  have hi := idx0 t
  unfold ops bT sT
  blk_ext [iblk, V, hi]
theorem blk1 (l : Fin 1024) : (iblk m c 1 t : FVec Ideal S1x1x1024 .f32) (ix3 0 0 l) = (ops m c).sc (ix3 (bT t) 0 l) := by
  have hi := idx1 t
  unfold ops bT
  blk_ext [iblk, V, hi]
theorem blk2 (l : Fin 1024) : (iblk m c 2 t : FVec Ideal S1x1x1024 .f32) (ix3 0 0 l) = (ops m c).sh (ix3 (bT t) 0 l) := by
  have hi := idx2 t
  unfold ops bT
  blk_ext [iblk, V, hi]
theorem blk3 (l : Fin 1024) : (iblk m c 3 t : FVec Ideal S1x1024 .f32) (ix2 0 l) = (ops m c).g (ix2 0 l) := by
  have hi := idx3 t
  unfold ops
  blk_ext [iblk, V, hi]
theorem blk4 (l : Fin 1024) (j : Fin 1536) : (iblk m c 4 t : FVec Ideal S1024x1536 .bf16) (ix2 l j) = (ops m c).wf (ix2 l j) := by
  have hi := idx4 t
  unfold ops
  blk_ext [iblk, V, hi]
theorem blk5 (l : Fin 1024) (j : Fin 2048) : (iblk m c 5 t : FVec Ideal S1024x2048 .bf16) (ix2 l j) = (ops m c).wg (ix2 l j) := by
  have hi := idx5 t
  unfold ops
  blk_ext [iblk, V, hi]
theorem blk6 (l : Fin 1024) (j : Fin 2048) : (iblk m c 6 t : FVec Ideal S1024x2048 .bf16) (ix2 l j) = (ops m c).wz (ix2 l j) := by
  have hi := idx6 t
  unfold ops
  blk_ext [iblk, V, hi]
theorem blk7 (l : Fin 1024) (j : Fin 128) : (iblk m c 7 t : FVec Ideal S1024x128 .bf16) (ix2 l j) = (ops m c).ws (ix2 l j) := by
  have hi := idx7 t
  unfold ops
  blk_ext [iblk, V, hi]
theorem blk8 (l : Fin 2048) : (iblk m c 8 t : FVec Ideal S1x2048 .f32) (ix2 0 l) = (ops m c).bz (ix2 0 l) := by
  have hi := idx8 t
  unfold ops
  blk_ext [iblk, V, hi]
theorem blk9 (l : Fin 128) : (iblk m c 9 t : FVec Ideal S1x128 .f32) (ix2 0 l) = (ops m c).bs (ix2 0 l) := by
  have hi := idx9 t
  unfold ops
  blk_ext [iblk, V, hi]
theorem blk10 (l : Fin 128) : (iblk m c 10 t : FVec Ideal S1x128 .f32) (ix2 0 l) = (ops m c).al (ix2 0 l) := by
  have hi := idx10 t
  unfold ops
  blk_ext [iblk, V, hi]

theorem h_eq (r : Fin 512) : hT (iblk m c 0 t) (iblk m c 1 t) (iblk m c 2 t) (iblk m c 3 t) r = (ops m c).h (bT t) (sT t r) := by
  unfold Inp.h hT row
  simp only [blk0, blk1, blk2, blk3]
theorem f_eq (r : Fin 512) (j : Fin 1536) : qkv (vm (hT (iblk m c 0 t) (iblk m c 1 t) (iblk m c 2 t) (iblk m c 3 t) r) (mat (f := .bf16) (iblk m c 4 t))) j = (ops m c).f (bT t) (sT t r) j := by
  unfold Inp.f mat
  rw [h_eq]
  simp only [blk4]
theorem p_eq (r : Fin 512) (j : Fin 2048) : vm (hT (iblk m c 0 t) (iblk m c 1 t) (iblk m c 2 t) (iblk m c 3 t) r) (mat (f := .bf16) (iblk m c 5 t)) j = (ops m c).p (bT t) (sT t r) j := by
  unfold Inp.p mat
  rw [h_eq]
  simp only [blk5]
theorem z_eq (r : Fin 512) (j : Fin 2048) : sg (vm (hT (iblk m c 0 t) (iblk m c 1 t) (iblk m c 2 t) (iblk m c 3 t) r) (mat (f := .bf16) (iblk m c 6 t)) j + ((iblk m c 8 t : FVec Ideal S1x2048 .f32) (ix2 0 j))) = (ops m c).z (bT t) (sT t r) j := by
  unfold Inp.z mat
  rw [h_eq]
  simp only [blk6, blk8]
theorem u_eq (r : Fin 512) (j : Fin 128) : lanes (fun j => vm (hT (iblk m c 0 t) (iblk m c 1 t) (iblk m c 2 t) (iblk m c 3 t) r) (mat (f := .bf16) (iblk m c 7 t)) j + ((iblk m c 9 t : FVec Ideal S1x128 .f32) (ix2 0 j))) (fun j => ((iblk m c 10 t : FVec Ideal S1x128 .f32) (ix2 0 j))) j = (ops m c).u (bT t) (sT t r) j := by
  unfold Inp.u mat
  rw [h_eq]
  simp only [blk7, blk9, blk10]
end Block

theorem result0 (c : Dev nD) : (dats m 0 c).arrAt 11 (cfgs 0).N = (ops m c).R0 := by
  refine (dats m 0 c).arrAt_eq_of_covers 11 _ (by decide +kernel) fun t hf y => ?_
  have hi := idx11 t
  blk_simp
  rw [after0_11]
  have h0 : (y 0).val < 1 := (y 0).isLt
  have h1 : (y 1).val < 512 := (y 1).isLt
  have h2 : (y 2).val < 1536 := (y 2).isLt
  have ey : y = ix3 0 (⟨(y 1).val, h1⟩ : Fin 512) (⟨(y 2).val, h2⟩ : Fin 1536) := by
    funext a; match a with | ⟨0, _⟩ => exact Fin.ext (show (y 0).val = 0 from by omega) | ⟨1, _⟩ => rfl | ⟨2, _⟩ => rfl
  have e0 : (((win0_11.blk t).view.emb y) 0) = bT t := Fin.ext (by unfold bT; blk_simp [hi])
  have v1 : (((win0_11.blk t).view.emb y) 1).val = 512 * (t.val % 16) + (y 1).val := by blk_simp [hi]; omega
  have e1 : (((win0_11.blk t).view.emb y) 1) = sT t ⟨(y 1).val, h1⟩ := Fin.ext v1
  have e2 : (((win0_11.blk t).view.emb y) 2) = (⟨(y 2).val, h2⟩ : Fin 1536) := Fin.ext (by blk_simp [hi])
  show _ = (ops m c).f (((win0_11.blk t).view.emb y) 0) (((win0_11.blk t).view.emb y) 1) (((win0_11.blk t).view.emb y) 2)
  rw [e0, e1, e2, ← f_eq]
  exact (congrArg _ ey).trans (out11_ix (iblk m c 0 t) (iblk m c 1 t) (iblk m c 2 t) (iblk m c 3 t) (iblk m c 4 t) (iblk m c 5 t) (iblk m c 6 t) (iblk m c 7 t) (iblk m c 8 t) (iblk m c 9 t) (iblk m c 10 t) _ _)

theorem result1 (c : Dev nD) : (dats m 0 c).arrAt 12 (cfgs 0).N = (ops m c).R1 := by
  refine (dats m 0 c).arrAt_eq_of_covers 12 _ (by decide +kernel) fun t hf y => ?_
  have hi := idx12 t
  blk_simp
  rw [after0_12]
  have h0 : (y 0).val < 1 := (y 0).isLt
  have h1 : (y 1).val < 512 := (y 1).isLt
  have h2 : (y 2).val < 1536 := (y 2).isLt
  have ey : y = ix3 0 (⟨(y 1).val, h1⟩ : Fin 512) (⟨(y 2).val, h2⟩ : Fin 1536) := by
    funext a; match a with | ⟨0, _⟩ => exact Fin.ext (show (y 0).val = 0 from by omega) | ⟨1, _⟩ => rfl | ⟨2, _⟩ => rfl
  have e0 : (((win0_12.blk t).view.emb y) 0) = bT t := Fin.ext (by unfold bT; blk_simp [hi])
  have v1 : (((win0_12.blk t).view.emb y) 1).val = 512 * (t.val % 16) + (y 1).val := by blk_simp [hi]; omega
  have e1 : (((win0_12.blk t).view.emb y) 1) = sT t ⟨(y 1).val, h1⟩ := Fin.ext v1
  have v2 : ((((win0_12.blk t).view.emb y) 2)).val = (y 2).val := by blk_simp [hi]
  have e2 : ∀ h, (⟨((((win0_12.blk t).view.emb y) 2)).val, h⟩ : Fin 2048) = ⟨(y 2).val, by omega⟩ := fun h => Fin.ext (by show ((((win0_12.blk t).view.emb y) 2)).val = (y 2).val; rw [v2])
  show _ = (ops m c).p (((win0_12.blk t).view.emb y) 0) (((win0_12.blk t).view.emb y) 1) (⟨((((win0_12.blk t).view.emb y) 2)).val, _⟩ : Fin 2048)
  rw [e0, e1, e2, ← p_eq]
  exact (congrArg _ ey).trans (out12_ix (iblk m c 0 t) (iblk m c 1 t) (iblk m c 2 t) (iblk m c 3 t) (iblk m c 4 t) (iblk m c 5 t) (iblk m c 6 t) (iblk m c 7 t) (iblk m c 8 t) (iblk m c 9 t) (iblk m c 10 t) _ _)

theorem result2 (c : Dev nD) : (dats m 0 c).arrAt 13 (cfgs 0).N = (ops m c).R2 := by
  refine (dats m 0 c).arrAt_eq_of_covers 13 _ (by decide +kernel) fun t hf y => ?_
  have hi := idx13 t
  blk_simp
  rw [after0_13]
  have h0 : (y 0).val < 1 := (y 0).isLt
  have h1 : (y 1).val < 512 := (y 1).isLt
  have h2 : (y 2).val < 512 := (y 2).isLt
  have ey : y = ix3 0 (⟨(y 1).val, h1⟩ : Fin 512) (⟨(y 2).val, h2⟩ : Fin 512) := by
    funext a; match a with | ⟨0, _⟩ => exact Fin.ext (show (y 0).val = 0 from by omega) | ⟨1, _⟩ => rfl | ⟨2, _⟩ => rfl
  have e0 : (((win0_13.blk t).view.emb y) 0) = bT t := Fin.ext (by unfold bT; blk_simp [hi])
  have v1 : (((win0_13.blk t).view.emb y) 1).val = 512 * (t.val % 16) + (y 1).val := by blk_simp [hi]; omega
  have e1 : (((win0_13.blk t).view.emb y) 1) = sT t ⟨(y 1).val, h1⟩ := Fin.ext v1
  have v2 : ((((win0_13.blk t).view.emb y) 2)).val = (y 2).val := by blk_simp [hi]
  have e2 : ∀ h, (⟨1536 + ((((win0_13.blk t).view.emb y) 2)).val, h⟩ : Fin 2048) = ⟨1536 + (y 2).val, by omega⟩ := fun h => Fin.ext (by show 1536 + ((((win0_13.blk t).view.emb y) 2)).val = 1536 + (y 2).val; rw [v2])
  show _ = (ops m c).p (((win0_13.blk t).view.emb y) 0) (((win0_13.blk t).view.emb y) 1) (⟨1536 + ((((win0_13.blk t).view.emb y) 2)).val, _⟩ : Fin 2048)
  rw [e0, e1, e2, ← p_eq]
  exact (congrArg _ ey).trans (out13_ix (iblk m c 0 t) (iblk m c 1 t) (iblk m c 2 t) (iblk m c 3 t) (iblk m c 4 t) (iblk m c 5 t) (iblk m c 6 t) (iblk m c 7 t) (iblk m c 8 t) (iblk m c 9 t) (iblk m c 10 t) _ _)

theorem result3 (c : Dev nD) : (dats m 0 c).arrAt 14 (cfgs 0).N = (ops m c).R3 := by
  refine (dats m 0 c).arrAt_eq_of_covers 14 _ (by decide +kernel) fun t hf y => ?_
  have hi := idx14 t
  blk_simp
  rw [after0_14]
  have h0 : (y 0).val < 1 := (y 0).isLt
  have h1 : (y 1).val < 512 := (y 1).isLt
  have h2 : (y 2).val < 2048 := (y 2).isLt
  have ey : y = ix3 0 (⟨(y 1).val, h1⟩ : Fin 512) (⟨(y 2).val, h2⟩ : Fin 2048) := by
    funext a; match a with | ⟨0, _⟩ => exact Fin.ext (show (y 0).val = 0 from by omega) | ⟨1, _⟩ => rfl | ⟨2, _⟩ => rfl
  have e0 : (((win0_14.blk t).view.emb y) 0) = bT t := Fin.ext (by unfold bT; blk_simp [hi])
  have v1 : (((win0_14.blk t).view.emb y) 1).val = 512 * (t.val % 16) + (y 1).val := by blk_simp [hi]; omega
  have e1 : (((win0_14.blk t).view.emb y) 1) = sT t ⟨(y 1).val, h1⟩ := Fin.ext v1
  have e2 : (((win0_14.blk t).view.emb y) 2) = (⟨(y 2).val, h2⟩ : Fin 2048) := Fin.ext (by blk_simp [hi])
  show _ = (ops m c).z (((win0_14.blk t).view.emb y) 0) (((win0_14.blk t).view.emb y) 1) (((win0_14.blk t).view.emb y) 2)
  rw [e0, e1, e2, ← z_eq]
  exact (congrArg _ ey).trans (out14_ix (iblk m c 0 t) (iblk m c 1 t) (iblk m c 2 t) (iblk m c 3 t) (iblk m c 4 t) (iblk m c 5 t) (iblk m c 6 t) (iblk m c 7 t) (iblk m c 8 t) (iblk m c 9 t) (iblk m c 10 t) _ _)

theorem result4 (c : Dev nD) : (dats m 0 c).arrAt 15 (cfgs 0).N = (ops m c).R4 := by
  refine (dats m 0 c).arrAt_eq_of_covers 15 _ (by decide +kernel) fun t hf y => ?_
  have hi := idx15 t
  blk_simp
  rw [after0_15]
  have h0 : (y 0).val < 1 := (y 0).isLt
  have h1 : (y 1).val < 512 := (y 1).isLt
  have h2 : (y 2).val < 128 := (y 2).isLt
  have ey : y = ix3 0 (⟨(y 1).val, h1⟩ : Fin 512) (⟨(y 2).val, h2⟩ : Fin 128) := by
    funext a; match a with | ⟨0, _⟩ => exact Fin.ext (show (y 0).val = 0 from by omega) | ⟨1, _⟩ => rfl | ⟨2, _⟩ => rfl
  have e0 : (((win0_15.blk t).view.emb y) 0) = bT t := Fin.ext (by unfold bT; blk_simp [hi])
  have v1 : (((win0_15.blk t).view.emb y) 1).val = 512 * (t.val % 16) + (y 1).val := by blk_simp [hi]; omega
  have e1 : (((win0_15.blk t).view.emb y) 1) = sT t ⟨(y 1).val, h1⟩ := Fin.ext v1
  have e2 : (((win0_15.blk t).view.emb y) 2) = (⟨(y 2).val, h2⟩ : Fin 128) := Fin.ext (by blk_simp [hi])
  show _ = (ops m c).u (((win0_15.blk t).view.emb y) 0) (((win0_15.blk t).view.emb y) 1) (((win0_15.blk t).view.emb y) 2)
  rw [e0, e1, e2, ← u_eq]
  exact (congrArg _ ey).trans (out15_ix (iblk m c 0 t) (iblk m c 1 t) (iblk m c 2 t) (iblk m c 3 t) (iblk m c 4 t) (iblk m c 5 t) (iblk m c 6 t) (iblk m c 7 t) (iblk m c 8 t) (iblk m c 9 t) (iblk m c 10 t) _ _)

/-- The run of the idealised input projection: its five results row by row, its arguments unchanged. -/
theorem kernel_value : θ_run defs (onTc (τ := τ) (main (F := Ideal))) ⟨m, fun _ => 0, ρ⟩ (fun r => ∀ c : Dev nD,
      r.2.mem ((c.tc : Thread nD τ).loc main_v0_0) = (ops m c).R0
      ∧ r.2.mem ((c.tc : Thread nD τ).loc main_v0_1) = (ops m c).R1
      ∧ r.2.mem ((c.tc : Thread nD τ).loc main_v0_2) = (ops m c).R2
      ∧ r.2.mem ((c.tc : Thread nD τ).loc main_v0_3) = (ops m c).R3
      ∧ r.2.mem ((c.tc : Thread nD τ).loc main_v0_4) = (ops m c).R4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (result0 m c), (h c).2.1.trans (result1 m c), (h c).2.2.1.trans (result2 m c),
      (h c).2.2.2.1.trans (result3 m c), (h c).2.2.2.2.1.trans (result4 m c), (h c).2.2.2.2.2⟩)
    (Value.run_blocks m ρ)
end Cert.Kernel2Ideal.Proj
end
-- ==== Proof.Ref2.lean ====
module
public import proofs.«01_k».proof.Proof.Gen.Reference2Ideal.Run
public import Idealize.ShloMosaic.Lib.Pointwise
public import proofs.«01_k».proof.Proof.Rows
/-!
# The input projection's reference, in stages

Each stage is a part of the reference's result, read at an index.
-/
@[expose] public section
set_option maxRecDepth 16384
noncomputable section
namespace Cert.Reference2Ideal.Proj
open Cert.Reference2Ideal Cert.Reference2Ideal.Gen Idealize.ShloMosaic Cert.Rows

/-- The reciprocal root mean squares. -/
def rS (Y : FVec Ideal S4x8192x1024 .f32) : FVec Ideal S4x8192x1 .f32 :=
  Host.rsqrt (addf (Host.divf (broadcastInDim S4x8192x1 ![0, 1] bcast_S4x8192_S4x8192x1_0_1 (Host.reduceAdd (mulf Y Y) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))

/-- The modulated rows. -/
def rH (O : Inp) : FVec Ideal S4x8192x1024 .f32 :=
  addf (mulf (mulf (mulf O.x (broadcastInDim S4x8192x1024 ![0, 1, 2] bcast_S4x8192x1_S4x8192x1024_0_1_2 (rS O.x))) (broadcastInDim S4x8192x1024 ![0, 1, 2] bcast_S1x1x1024_S4x8192x1024_0_1_2 (broadcastInDim S1x1x1024 ![1, 2] bcast_S1x1024_S1x1x1024_1_2 O.g))) (broadcastInDim S4x8192x1024 ![0, 1, 2] bcast_S4x1x1024_S4x8192x1024_0_1_2 (addf (broadcastInDim S4x1x1024 ![] bcast_S_S4x1x1024 (constant S_ .f32 0x3F800000#32)) O.sc))) (broadcastInDim S4x8192x1024 ![0, 1, 2] bcast_S4x1x1024_S4x8192x1024_0_1_2 O.sh)

/-- The product that gives queries, keys and values. -/
def rF (O : Inp) : FVec Ideal S4x8192x1536 .f32 := Host.dotGeneral dot_S4x8192x1024_S1024x1536_S4x8192x1536_2_0_01_1_n_n none (rH O) (extf .f32 O.wf bitsLt_bf16_f32)

/-- The scaled queries beside the keys and values. -/
def rFq (F : FVec Ideal S4x8192x1536 .f32) : FVec Ideal S4x8192x1536 .bf16 :=
  truncf .bf16 (concatenate S4x8192x1536 2 [⟨S4x8192x512, (Host.divf (mulf (extractStridedSlice S4x8192x512 ![0, 0, 0] F slices_S4x8192x1536_S4x8192x512_0_0_0) (broadcastInDim S4x8192x512 ![] bcast_S_S4x8192x512 (constant S_ .f32 0x3E000000#32))) (broadcastInDim S4x8192x512 ![] bcast_S_S4x8192x512 (Host.log (constant S_ .f32 0x40000000#32))))⟩, ⟨S4x8192x1024, (extractStridedSlice S4x8192x1024 ![0, 0, 512] F slices_S4x8192x1536_S4x8192x1024_0_0_512)⟩] concatenates_S4x8192x512_S4x8192x1024_S4x8192x1536_d2) bitsLt_bf16_f32

/-- The product that feeds the recurrence. -/
def rP (O : Inp) : FVec Ideal S4x8192x2048 .f32 := Host.dotGeneral dot_S4x8192x1024_S1024x2048_S4x8192x2048_2_0_01_1_n_n none (rH O) (extf .f32 O.wg bitsLt_bf16_f32)
def rP1 (P : FVec Ideal S4x8192x2048 .f32) : FVec Ideal S4x8192x1536 .f32 := extractStridedSlice S4x8192x1536 ![0, 0, 0] P slices_S4x8192x2048_S4x8192x1536_0_0_0
def rP2 (P : FVec Ideal S4x8192x2048 .f32) : FVec Ideal S4x8192x512 .f32 := extractStridedSlice S4x8192x512 ![0, 0, 1536] P slices_S4x8192x2048_S4x8192x512_0_0_1536

/-- The gates. -/
def rZ (O : Inp) : FVec Ideal S4x8192x2048 .f32 :=
  Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf (addf (Host.dotGeneral dot_S4x8192x1024_S1024x2048_S4x8192x2048_2_0_01_1_n_n none (rH O) (extf .f32 O.wz bitsLt_bf16_f32)) (broadcastInDim S4x8192x2048 ![0, 1, 2] bcast_S1x1x2048_S4x8192x2048_0_1_2 (broadcastInDim S1x1x2048 ![1, 2] bcast_S1x2048_S1x1x2048_1_2 O.bz))))))

/-- The small lanes before their functions. -/
def rU (O : Inp) : FVec Ideal S4x8192x128 .f32 :=
  addf (Host.dotGeneral dot_S4x8192x1024_S1024x128_S4x8192x128_2_0_01_1_n_n none (rH O) (extf .f32 O.ws bitsLt_bf16_f32)) (broadcastInDim S4x8192x128 ![0, 1, 2] bcast_S1x1x128_S4x8192x128_0_1_2 (broadcastInDim S1x1x128 ![1, 2] bcast_S1x128_S1x1x128_1_2 O.bs))

/-- `log (1 + exp z)` of eight lanes, and of the last ones. -/
def rA (Z : FVec Ideal S4x8192x8 .f32) : FVec Ideal S4x8192x8 .f32 :=
  select (cmpf .une (subf Z (broadcastInDim S4x8192x8 ![] bcast_S_S4x8192x8 (constant S_ .f32 0x00000000#32))) (subf Z (broadcastInDim S4x8192x8 ![] bcast_S_S4x8192x8 (constant S_ .f32 0x00000000#32)))) (addf Z (broadcastInDim S4x8192x8 ![] bcast_S_S4x8192x8 (constant S_ .f32 0x00000000#32))) (addf (maximumf Z (broadcastInDim S4x8192x8 ![] bcast_S_S4x8192x8 (constant S_ .f32 0x00000000#32))) (Host.log1p (Host.exp (Host.negf (Host.absf (subf Z (broadcastInDim S4x8192x8 ![] bcast_S_S4x8192x8 (constant S_ .f32 0x00000000#32))))))))
def rC (Z : FVec Ideal S4x8192x116 .f32) : FVec Ideal S4x8192x116 .f32 :=
  select (cmpf .une (subf Z (broadcastInDim S4x8192x116 ![] bcast_S_S4x8192x116 (constant S_ .f32 0x00000000#32))) (subf Z (broadcastInDim S4x8192x116 ![] bcast_S_S4x8192x116 (constant S_ .f32 0x00000000#32)))) (addf Z (broadcastInDim S4x8192x116 ![] bcast_S_S4x8192x116 (constant S_ .f32 0x00000000#32))) (addf (maximumf Z (broadcastInDim S4x8192x116 ![] bcast_S_S4x8192x116 (constant S_ .f32 0x00000000#32))) (Host.log1p (Host.exp (Host.negf (Host.absf (subf Z (broadcastInDim S4x8192x116 ![] bcast_S_S4x8192x116 (constant S_ .f32 0x00000000#32))))))))

/-- The three groups of lanes. -/
def rL0 (U : FVec Ideal S4x8192x128 .f32) : FVec Ideal S4x8192x8 .f32 :=
  Host.negf (rA (Host.negf (extractStridedSlice S4x8192x8 ![0, 0, 0] U slices_S4x8192x128_S4x8192x8_0_0_0)))
def rL1 (U : FVec Ideal S4x8192x128 .f32) : FVec Ideal S4x8192x4 .f32 :=
  Host.divf (broadcastInDim S4x8192x4 ![] bcast_S_S4x8192x4 (constant S_ .f32 0x3F800000#32)) (addf (broadcastInDim S4x8192x4 ![] bcast_S_S4x8192x4 (constant S_ .f32 0x3F800000#32)) (Host.exp (Host.negf (extractStridedSlice S4x8192x4 ![0, 0, 8] U slices_S4x8192x128_S4x8192x4_0_0_8))))
def rL2 (U : FVec Ideal S4x8192x128 .f32) (al : FVec Ideal S1x128 .f32) : FVec Ideal S4x8192x116 .f32 :=
  mulf (broadcastInDim S4x8192x116 ![0, 1, 2] bcast_S1x1x116_S4x8192x116_0_1_2 (broadcastInDim S1x1x116 ![1, 2] bcast_S1x116_S1x1x116_1_2 (Host.negf (Host.exp (extractStridedSlice S1x116 ![0, 12] al slices_S1x128_S1x116_0_12))))) (rC (extractStridedSlice S4x8192x116 ![0, 0, 12] U slices_S4x8192x128_S4x8192x116_0_0_12))

/-- The lanes side by side. -/
def rL (a : FVec Ideal S4x8192x8 .f32) (b : FVec Ideal S4x8192x4 .f32) (c : FVec Ideal S4x8192x116 .f32) : FVec Ideal S4x8192x128 .f32 :=
  concatenate S4x8192x128 2 [⟨S4x8192x8, a⟩, ⟨S4x8192x4, b⟩, ⟨S4x8192x116, c⟩] concatenates_S4x8192x8_S4x8192x4_S4x8192x116_S4x8192x128_d2

theorem rH_ix (O : Inp) (b : Fin 4) (s : Fin 8192) (j : Fin 1024) : rH O (ix3 b s j) = O.h b s j := by
  pointwise [rH, rS, Inp.h, modl, rms, rs]

theorem rF_ix (O : Inp) (b : Fin 4) (s : Fin 8192) (j : Fin 1536) : rF O (ix3 b s j) = vm (O.h b s) (fun l j => O.wf (ix2 l j)) j := by
  unfold vm
  simp only [← rH_ix]
  pointwise [rF]

/-- Dividing by eight, then by the logarithm of two. -/
theorem scale_eq (z : EReal) :
    Ideal.div (z * Ideal.ofBits FTy.f32 0x3E000000#32) (Ideal.log (Ideal.ofBits FTy.f32 0x40000000#32)) = z * (((8 * Real.log 2)⁻¹ : ℝ) : EReal) := by
  have e8 : Ideal.ofBits FTy.f32 0x3E000000#32 = ((1 / 8 : ℝ) : EReal) := by
    simp [Ideal.ofBits, Ideal.ieee]
    rw [← EReal.coe_mul]; norm_num
  have e2 : Ideal.ofBits FTy.f32 0x40000000#32 = ((2 : ℝ) : EReal) := by
    simp [Ideal.ofBits, Ideal.ieee]
    rw [← EReal.coe_mul]; norm_num
  have hl : Real.log 2 ≠ 0 := (Real.log_pos one_lt_two).ne'
  rw [e8, e2, Ideal.log_coe, if_neg (by norm_num), Ideal.div_coe hl, mul_assoc, ← EReal.coe_mul]
  congr 2
  field_simp

theorem rFq_ix (F : FVec Ideal S4x8192x1536 .f32) (b : Fin 4) (s : Fin 8192) (j : Fin 1536) :
    rFq F (ix3 b s j) = qkv (fun j => F (ix3 b s j)) j := by
  by_cases hj : j.val < 512
  · have e : rFq F (ix3 b s j) = Ideal.div (F (ix3 b s j) * Ideal.ofBits FTy.f32 0x3E000000#32) (Ideal.log (Ideal.ofBits FTy.f32 0x40000000#32)) := by
      pointwise [rFq, hj]
    rw [e, scale_eq]
    unfold qkv
    rw [if_pos hj]
  · unfold qkv
    rw [if_neg hj]
    pointwise [rFq, hj]
    exact congrArg (fun i => F (ix3 b s i)) (Fin.ext (by show 512 + (j.val - 512) = j.val; omega))

theorem rP_ix (O : Inp) (b : Fin 4) (s : Fin 8192) (j : Fin 2048) : rP O (ix3 b s j) = O.p b s j := by
  unfold Inp.p vm
  simp only [← rH_ix]
  pointwise [rP]
theorem rP1_ix (P : FVec Ideal S4x8192x2048 .f32) (b : Fin 4) (s : Fin 8192) (j : Fin 1536) :
    rP1 P (ix3 b s j) = P (ix3 b s (⟨j.val, by omega⟩ : Fin 2048)) := by
  pointwise [rP1]
theorem rP2_ix (P : FVec Ideal S4x8192x2048 .f32) (b : Fin 4) (s : Fin 8192) (j : Fin 512) :
    rP2 P (ix3 b s j) = P (ix3 b s (⟨1536 + j.val, by omega⟩ : Fin 2048)) := by
  pointwise [rP2]

theorem rZ_ix (O : Inp) (b : Fin 4) (s : Fin 8192) (j : Fin 2048) : rZ O (ix3 b s j) = O.z b s j := by
  unfold Inp.z vm sg
  simp only [← rH_ix]
  pointwise [rZ]

theorem rU_ix (O : Inp) (b : Fin 4) (s : Fin 8192) (j : Fin 128) :
    rU O (ix3 b s j) = vm (O.h b s) (fun l j => O.ws (ix2 l j)) j + O.bs (ix2 0 j) := by
  unfold vm
  simp only [← rH_ix]
  pointwise [rU]

/-- The written form of `log (1 + exp z)`. -/
theorem sp_eq (z : EReal) :
    (if z ≠ z then z else max z 0 + Ideal.log1p (Ideal.exp (-FloatOps.absf (F := Ideal) (φ := FTy.f32) z))) = sp z := by
  rw [if_neg (fun h => h rfl)]
  rfl

theorem rA_ix (Z : FVec Ideal S4x8192x8 .f32) (b : Fin 4) (s : Fin 8192) (j : Fin 8) : rA Z (ix3 b s j) = sp (Z (ix3 b s j)) := by
  refine Eq.trans ?_ (sp_eq _)
  pointwise [rA]
theorem rC_ix (Z : FVec Ideal S4x8192x116 .f32) (b : Fin 4) (s : Fin 8192) (j : Fin 116) : rC Z (ix3 b s j) = sp (Z (ix3 b s j)) := by
  refine Eq.trans ?_ (sp_eq _)
  pointwise [rC]

theorem rL0_ix (U : FVec Ideal S4x8192x128 .f32) (b : Fin 4) (s : Fin 8192) (j : Fin 8) :
    rL0 U (ix3 b s j) = -sp (-U (ix3 b s (⟨j.val, by omega⟩ : Fin 128))) := by
  have e : rL0 U (ix3 b s j) = -rA (Host.negf (extractStridedSlice S4x8192x8 ![0, 0, 0] U slices_S4x8192x128_S4x8192x8_0_0_0)) (ix3 b s j) := by
    pointwise [rL0]
  rw [e, rA_ix]
  pointwise []
theorem rL1_ix (U : FVec Ideal S4x8192x128 .f32) (b : Fin 4) (s : Fin 8192) (j : Fin 4) :
    rL1 U (ix3 b s j) = sg (U (ix3 b s (⟨8 + j.val, by omega⟩ : Fin 128))) := by
  pointwise [rL1, sg]
theorem rL2_ix (U : FVec Ideal S4x8192x128 .f32) (al : FVec Ideal S1x128 .f32) (b : Fin 4) (s : Fin 8192) (j : Fin 116) :
    rL2 U al (ix3 b s j) = -Ideal.exp (al (ix2 0 (⟨12 + j.val, by omega⟩ : Fin 128))) * sp (U (ix3 b s (⟨12 + j.val, by omega⟩ : Fin 128))) := by
  have e : rL2 U al (ix3 b s j) = -Ideal.exp (al (ix2 0 (⟨12 + j.val, by omega⟩ : Fin 128))) * rC (extractStridedSlice S4x8192x116 ![0, 0, 12] U slices_S4x8192x128_S4x8192x116_0_0_12) (ix3 b s j) := by
    pointwise [rL2]
  rw [e, rC_ix]
  pointwise []

theorem rL_ix0 (a : FVec Ideal S4x8192x8 .f32) (p : FVec Ideal S4x8192x4 .f32) (c : FVec Ideal S4x8192x116 .f32) (b : Fin 4) (s : Fin 8192) (j : Fin 128)
    (hj : j.val < 8) : rL a p c (ix3 b s j) = a (ix3 b s ⟨j.val, hj⟩) := by
  pointwise [rL, hj]
theorem rL_ix1 (a : FVec Ideal S4x8192x8 .f32) (p : FVec Ideal S4x8192x4 .f32) (c : FVec Ideal S4x8192x116 .f32) (b : Fin 4) (s : Fin 8192) (j : Fin 128)
    (hj : ¬ j.val < 8) (hk : j.val < 12) : rL a p c (ix3 b s j) = p (ix3 b s ⟨j.val - 8, by omega⟩) := by
  have hk' : j.val - 8 < 4 := by omega
  pointwise [rL, hj, hk']
theorem rL_ix2 (a : FVec Ideal S4x8192x8 .f32) (p : FVec Ideal S4x8192x4 .f32) (c : FVec Ideal S4x8192x116 .f32) (b : Fin 4) (s : Fin 8192) (j : Fin 128)
    (hj : ¬ j.val < 8) (hk : ¬ j.val < 12) : rL a p c (ix3 b s j) = c (ix3 b s ⟨j.val - 12, by omega⟩) := by
  have hk' : ¬ j.val - 8 < 4 := by omega
  pointwise [rL, hj, hk']
  exact congrArg (fun i => c (ix3 b s i)) (Fin.ext (by show j.val - 8 - 4 = j.val - 12; omega))

/-- The lanes of the reference. -/
theorem rL_ix (U : FVec Ideal S4x8192x128 .f32) (al : FVec Ideal S1x128 .f32) (b : Fin 4) (s : Fin 8192) (j : Fin 128) :
    rL (rL0 U) (rL1 U) (rL2 U al) (ix3 b s j) = lanes (fun j => U (ix3 b s j)) (fun j => al (ix2 0 j)) j := by
  unfold lanes
  by_cases hj : j.val < 8
  · rw [if_pos hj, rL_ix0 _ _ _ b s j hj, rL0_ix]
  · rw [if_neg hj]
    by_cases hk : j.val < 12
    · rw [if_pos hk, rL_ix1 _ _ _ b s j hj hk, rL1_ix]
      have e : (⟨8 + (j.val - 8), by omega⟩ : Fin 128) = j := Fin.ext (by show 8 + (j.val - 8) = j.val; omega)
      exact congrArg (fun i => sg (U (ix3 b s i))) e
    · rw [if_neg hk, rL_ix2 _ _ _ b s j hj hk, rL2_ix]
      have e : (⟨12 + (j.val - 12), by omega⟩ : Fin 128) = j := Fin.ext (by show 12 + (j.val - 12) = j.val; omega)
      exact congrArg (fun i => -Ideal.exp (al (ix2 0 i)) * sp (U (ix3 b s i))) e

theorem rFq_eq (O : Inp) : rFq (rF O) = O.R0 := by
  funext i
  have e : i = ix3 (i 0 : Fin 4) (i 1 : Fin 8192) (i 2 : Fin 1536) := by
    funext a; match a with | ⟨0, _⟩ => rfl | ⟨1, _⟩ => rfl | ⟨2, _⟩ => rfl
  refine (congrArg _ e).trans ?_
  exact (rFq_ix (rF O) _ _ _).trans (congrArg (fun f => qkv f _) (funext fun j => rF_ix O _ _ j))
theorem rP1_eq (O : Inp) : rP1 (rP O) = O.R1 := by
  funext i
  have e : i = ix3 (i 0 : Fin 4) (i 1 : Fin 8192) (i 2 : Fin 1536) := by
    funext a; match a with | ⟨0, _⟩ => rfl | ⟨1, _⟩ => rfl | ⟨2, _⟩ => rfl
  refine (congrArg _ e).trans ?_
  exact (rP1_ix (rP O) _ _ _).trans (rP_ix O _ _ _)
theorem rP2_eq (O : Inp) : rP2 (rP O) = O.R2 := by
  funext i
  have e : i = ix3 (i 0 : Fin 4) (i 1 : Fin 8192) (i 2 : Fin 512) := by
    funext a; match a with | ⟨0, _⟩ => rfl | ⟨1, _⟩ => rfl | ⟨2, _⟩ => rfl
  refine (congrArg _ e).trans ?_
  exact (rP2_ix (rP O) _ _ _).trans (rP_ix O _ _ _)
theorem rZ_eq (O : Inp) : rZ O = O.R3 := by
  funext i
  have e : i = ix3 (i 0 : Fin 4) (i 1 : Fin 8192) (i 2 : Fin 2048) := by
    funext a; match a with | ⟨0, _⟩ => rfl | ⟨1, _⟩ => rfl | ⟨2, _⟩ => rfl
  refine (congrArg _ e).trans ?_
  exact rZ_ix O _ _ _
theorem rL_eq (O : Inp) : rL (rL0 (rU O)) (rL1 (rU O)) (rL2 (rU O) O.al) = O.R4 := by
  funext i
  have e : i = ix3 (i 0 : Fin 4) (i 1 : Fin 8192) (i 2 : Fin 128) := by
    funext a; match a with | ⟨0, _⟩ => rfl | ⟨1, _⟩ => rfl | ⟨2, _⟩ => rfl
  refine (congrArg _ e).trans ?_
  exact (rL_ix (rU O) O.al _ _ _).trans (congrArg (fun f => lanes f (fun j => O.al (ix2 0 j)) _) (funext fun j => rU_ix O _ _ j))

variable (m : (ℓ : Loc nD τ sig) → Buf (Elt Ideal) ℓ) (ρ : Dev nD → PrngReg)

/-- The arguments. -/
def ops (c : Dev nD) : Inp :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10)⟩

theorem res4_eq (c : Dev nD) : Value.res_out4 m c = (ops m c).R4 := by
  refine Eq.trans ?_ (rL_eq (ops m c))
  unfold Value.res_out4 Value.res_main_v67
  rfl

open Idealize.SL.Sem in
/-- The reference's run: its five results row by row, its arguments unchanged. -/
theorem ref_value : θ_run defs (onTc (τ := τ) (main (F := Ideal))) ⟨m, fun _ => 0, ρ⟩ (fun r => ∀ c : Dev nD,
      r.2.mem ((c.tc : Thread nD τ).loc main_v32) = (ops m c).R0
      ∧ r.2.mem ((c.tc : Thread nD τ).loc main_v65) = (ops m c).R1
      ∧ r.2.mem ((c.tc : Thread nD τ).loc main_v66) = (ops m c).R2
      ∧ r.2.mem ((c.tc : Thread nD τ).loc main_v43) = (ops m c).R3
      ∧ r.2.mem ((c.tc : Thread nD τ).loc main_v67) = (ops m c).R4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (rFq_eq (ops m c)), (h c).2.1.trans (rP1_eq (ops m c)), (h c).2.2.1.trans (rP2_eq (ops m c)),
      (h c).2.2.2.1.trans (rZ_eq (ops m c)), (h c).2.2.2.2.1.trans (res4_eq m c), (h c).2.2.2.2.2⟩)
    (Value.run m ρ)
end Cert.Reference2Ideal.Proj
end
-- ==== Proof.Out3.lean ====
module
public import Idealize.ShloMosaic.Lib.Pipeline.ValueKit
public import Idealize.ShloMosaic.Lib.Pipeline.Value
public import proofs.«01_k».proof.Proof.Gen.Kernel3Ideal.Frame
public import proofs.«01_k».proof.Proof.Rows
/-!
# One tile of the output projection

What the body of the output projection computes, row by row.
-/
@[expose] public section
set_option maxRecDepth 16384
noncomputable section
namespace Cert.Kernel3Ideal.Proj
open Idealize.ShloMosaic Idealize.ShloMosaic.TcCoe Cert.Kernel3Ideal Cert.Kernel3Ideal.Gen Cert.Rows

/-- A row of a tile. -/
abbrev row {n : ℕ} {f : FTy} (X : FVec Ideal ⟨3, ![1, 512, n]⟩ f) (r : Fin 512) (l : Fin n) : EReal := X (ix3 0 r l)
/-- A matrix. -/
abbrev mat {n k : ℕ} {f : FTy} (X : FVec Ideal ⟨2, ![n, k]⟩ f) (l : Fin n) (j : Fin k) : EReal := X (ix2 l j)

theorem pay2_ix (v0 : FVec Ideal S1x512x512 .bf16) (v2 : FVec Ideal S512x1024 .bf16) (v4 : FVec Ideal S1x512x512 .bf16)
    (v6 : FVec Ideal S512x1024 .bf16) (v8 : FVec Ideal S1x512x2048 .f32) (v16 : FVec Ideal S1024x1024 .bf16) (r : Fin 512) (j : Fin 1024) :
    k0_pay2 (F := Ideal) v0 v2 v4 v6 v8 v16 (ix2 r j)
      = mix (row v0 r) (row v4 r) (fun k => v8 (ix3 0 r (⟨k.val, by omega⟩ : Fin 2048))) (fun k => v8 (ix3 0 r (⟨1024 + k.val, by omega⟩ : Fin 2048)))
          (mat v2) (mat v6) (mat v16) j := by
  pointwise [k0_pay2, mix, vm, row, mat]

theorem pay5_ix (v0 : FVec Ideal S1x512x512 .bf16) (v2 : FVec Ideal S512x1024 .bf16) (v4 : FVec Ideal S1x512x512 .bf16)
    (v6 : FVec Ideal S512x1024 .bf16) (v8 : FVec Ideal S1x512x2048 .f32) (v16 : FVec Ideal S1024x1024 .bf16) (r : Fin 512)
    (y : Fin 1024 → EReal) (hy : ∀ j, k0_pay2 (F := Ideal) v0 v2 v4 v6 v8 v16 (ix2 r j) = y j) :
    Ideal.rsqrt (k0_pay5 (F := Ideal) v0 v2 v4 v6 v8 v16 (ix2 r 0) + k0_pay6 (F := Ideal) (ix2 r 0)) = rs y := by
  pointwise [k0_pay5, k0_pay6, rs, hy]

theorem pay7_ix (v17 v19 : FVec Ideal S512x1024 .f32) (v21 v22 : FVec Ideal S1x1024 .f32) (v27 v28 : FVec Ideal S512x1 .f32) (r : Fin 512)
    (y : Fin 1024 → EReal) (hy : ∀ j, v17 (ix2 r j) = y j) (hs : Ideal.rsqrt (v27 (ix2 r 0) + v28 (ix2 r 0)) = rs y) (j : Fin 1024) :
    k0_pay7 (F := Ideal) v17 v19 v21 v22 v27 v28 (ix2 r j)
      = resid (fun j => v19 (ix2 r j)) (fun j => v21 (ix2 0 j)) y (fun j => v22 (ix2 0 j)) j := by
  rw [resid, rms, ← hs, ← hy]
  pointwise [k0_pay7]

theorem pay9_ix (v17 v19 : FVec Ideal S512x1024 .f32) (v21 v22 : FVec Ideal S1x1024 .f32) (v27 v28 : FVec Ideal S512x1 .f32)
    (v41 : FVec Ideal S1x1024 .f32) (v54 v60 : FVec Ideal S1x1x1024 .f32) (r : Fin 512)
    (x : Fin 1024 → EReal) (hx : ∀ j, k0_pay7 (F := Ideal) v17 v19 v21 v22 v27 v28 (ix2 r j) = x j) (j : Fin 1024) :
    k0_pay9 (F := Ideal) v17 v19 v21 v22 v27 v28 v41 v54 v60 (ix2 r j)
      = modl x (fun j => v41 (ix2 0 j)) (fun j => v54 (ix3 0 0 j)) (fun j => v60 (ix3 0 0 j)) j := by
  rw [modl, rms, rs]
  simp only [← hx]
  pointwise [k0_pay9]

theorem pay1_ix (v67 : FVec Ideal S512x1024 .bf16) (v68 : FVec Ideal S1024x2048 .bf16) (r : Fin 512)
    (h : Fin 1024 → EReal) (hh : ∀ j, v67 (ix2 r j) = h j) (j : Fin 2048) :
    k0_pay1 (F := Ideal) v67 v68 (ix3 0 r j) = vm h (mat v68) j := by
  rw [vm]
  simp only [← hh]
  pointwise [k0_pay1, mat]
end Cert.Kernel3Ideal.Proj
end
-- ==== Proof.Val3.lean ====
module
public import proofs.«01_k».proof.Proof.Gen.Kernel3Ideal.Value
public import proofs.«01_k».proof.Proof.Out3
/-!
# The output projection's run

The point `(b, i)` of the grid works at sequence `b`, rows `512 i` and on.
-/
@[expose] public section
set_option maxRecDepth 16384
noncomputable section
namespace Cert.Kernel3Ideal.Proj
open Idealize.ShloMosaic Idealize.ShloMosaic.TcCoe Idealize.SL.Sem Cert.Kernel3Ideal Cert.Kernel3Ideal.Gen Cert.Rows

section Tile
variable (x0 : FVec Ideal S1x512x512 .bf16) (x1 : FVec Ideal S1x512x512 .bf16) (x2 : FVec Ideal S1x512x2048 .f32) (x3 : FVec Ideal S1x512x1024 .f32) (x4 : FVec Ideal S1x1x1024 .f32) (x5 : FVec Ideal S1x1x1024 .f32) (x6 : FVec Ideal S1x1x1024 .f32) (x7 : FVec Ideal S1x1024 .f32) (x8 : FVec Ideal S1x1024 .f32) (x9 : FVec Ideal S512x1024 .bf16) (x10 : FVec Ideal S512x1024 .bf16) (x11 : FVec Ideal S1024x1024 .bf16) (x12 : FVec Ideal S1024x2048 .bf16)

/-- The mixed row of a tile. -/
abbrev yT (r : Fin 512) : Fin 1024 → EReal :=
  mix (row x0 r) (row x1 r) (fun k => x2 (ix3 0 r (⟨k.val, by omega⟩ : Fin 2048))) (fun k => x2 (ix3 0 r (⟨1024 + k.val, by omega⟩ : Fin 2048)))
    (mat x9) (mat x10) (mat x11)
/-- The new residual's row. -/
abbrev xT (r : Fin 512) : Fin 1024 → EReal :=
  resid (row x3 r) (fun j => x4 (ix3 0 0 j)) (yT x0 x1 x2 x9 x10 x11 r) (fun j => x7 (ix2 0 j))
/-- The modulated row. -/
abbrev hT (r : Fin 512) : Fin 1024 → EReal :=
  modl (xT x0 x1 x2 x3 x4 x7 x9 x10 x11 r) (fun j => x8 (ix2 0 j)) (fun j => x5 (ix3 0 0 j)) (fun j => x6 (ix3 0 0 j))

theorem p7 (r : Fin 512) (j : Fin 1024) :
    k0_pay7 (F := Ideal) (k0_pay2 x0 x9 x1 x10 x2 x11) (k0_pay3 x3) (k0_pay4 x4) x7 (k0_pay5 x0 x9 x1 x10 x2 x11) k0_pay6 (ix2 r j)
      = xT x0 x1 x2 x3 x4 x7 x9 x10 x11 r j := by
  refine (pay7_ix _ _ _ _ _ _ r _ (pay2_ix x0 x9 x1 x10 x2 x11 r) (pay5_ix x0 x9 x1 x10 x2 x11 r _ (pay2_ix x0 x9 x1 x10 x2 x11 r)) j).trans ?_
  have e3 : (fun j : Fin 1024 => k0_pay3 (F := Ideal) x3 (ix2 r j)) = row x3 r := by funext j; pointwise [k0_pay3, row]
  have e4 : (fun j : Fin 1024 => k0_pay4 (F := Ideal) x4 (ix2 0 j)) = fun j => x4 (ix3 0 0 j) := by funext j; pointwise [k0_pay4]
  rw [e3, e4]

theorem p9 (r : Fin 512) (j : Fin 1024) :
    k0_pay9 (F := Ideal) (k0_pay2 x0 x9 x1 x10 x2 x11) (k0_pay3 x3) (k0_pay4 x4) x7 (k0_pay5 x0 x9 x1 x10 x2 x11) k0_pay6 x8 x5 x6 (ix2 r j)
      = hT x0 x1 x2 x3 x4 x5 x6 x7 x8 x9 x10 x11 r j :=
  pay9_ix _ _ _ _ _ _ _ _ _ r _ (p7 x0 x1 x2 x3 x4 x7 x9 x10 x11 r) j

theorem out13_ix (r : Fin 512) (j : Fin 1024) :
    out0_13 (F := Ideal) x0 x1 x2 x3 x4 x5 x6 x7 x8 x9 x10 x11 x12 (ix3 0 r j) = xT x0 x1 x2 x3 x4 x7 x9 x10 x11 r j := by
  refine Eq.trans ?_ (p7 x0 x1 x2 x3 x4 x7 x9 x10 x11 r j)
  have e : out0_13 (F := Ideal) x0 x1 x2 x3 x4 x5 x6 x7 x8 x9 x10 x11 x12 = k0_pay8 (F := Ideal) (k0_pay2 x0 x9 x1 x10 x2 x11) (k0_pay3 x3) (k0_pay4 x4) x7 (k0_pay5 x0 x9 x1 x10 x2 x11) k0_pay6 := by
    unfold_out out0_13
    frame_out
  rw [e]
  pointwise [k0_pay8]

theorem out14_ix (r : Fin 512) (j : Fin 1024) :
    out0_14 (F := Ideal) x0 x1 x2 x3 x4 x5 x6 x7 x8 x9 x10 x11 x12 (ix2 j r) = hT x0 x1 x2 x3 x4 x5 x6 x7 x8 x9 x10 x11 r j := by
  refine Eq.trans ?_ (p9 x0 x1 x2 x3 x4 x5 x6 x7 x8 x9 x10 x11 r j)
  have e : out0_14 (F := Ideal) x0 x1 x2 x3 x4 x5 x6 x7 x8 x9 x10 x11 x12 = k0_pay10 (F := Ideal) (k0_pay2 x0 x9 x1 x10 x2 x11) (k0_pay3 x3) (k0_pay4 x4) x7 (k0_pay5 x0 x9 x1 x10 x2 x11) k0_pay6 x8 x5 x6 := by
    unfold_out out0_14
    frame_out
  rw [e]
  pointwise [k0_pay10]

theorem out15_ix (r : Fin 512) (j : Fin 2048) :
    out0_15 (F := Ideal) x0 x1 x2 x3 x4 x5 x6 x7 x8 x9 x10 x11 x12 (ix3 0 r j) = vm (hT x0 x1 x2 x3 x4 x5 x6 x7 x8 x9 x10 x11 r) (mat x12) j := by
  have e : out0_15 (F := Ideal) x0 x1 x2 x3 x4 x5 x6 x7 x8 x9 x10 x11 x12 = k0_pay1 (F := Ideal) (k0_pay11 (k0_pay2 x0 x9 x1 x10 x2 x11) (k0_pay3 x3) (k0_pay4 x4) x7 (k0_pay5 x0 x9 x1 x10 x2 x11) k0_pay6 x8 x5 x6) x12 := by
    unfold_out out0_15
    frame_out
  rw [e]
  refine pay1_ix _ _ r _ (fun k => ?_) j
  refine Eq.trans ?_ (p9 x0 x1 x2 x3 x4 x5 x6 x7 x8 x9 x10 x11 r k)
  pointwise [k0_pay11]
end Tile

variable (m : (ℓ : Loc nD τ sig) → Buf (Elt Ideal) ℓ) (ρ : Dev nD → PrngReg)

/-- The arguments. -/
def ops (c : Dev nD) : Out :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12)⟩

theorem co0 (t : Fin cfg0.N) : (grid0.coords t 0).val = t.val / 16 % 4 := Pipeline.Grid.coords_val t 0 (by decide) rfl
theorem co1 (t : Fin cfg0.N) : (grid0.coords t 1).val = t.val % 16 :=
  (Pipeline.Grid.coords_val t 1 (by decide) rfl : _ = t.val / 1 % 16).trans (by rw [Nat.div_one])

theorem idx0 (t : Fin cfg0.N) : win0_0.index t = ![t.val / 16 % 4, t.val % 16, 0] :=
  (by decide +kernel : ∀ t : Fin grid0.N, win0_0.index t = ![t.val / 16 % 4, t.val % 16, 0]) t
theorem idx1 (t : Fin cfg0.N) : win0_1.index t = ![t.val / 16 % 4, t.val % 16, 0] :=
  (by decide +kernel : ∀ t : Fin grid0.N, win0_1.index t = ![t.val / 16 % 4, t.val % 16, 0]) t
theorem idx2 (t : Fin cfg0.N) : win0_2.index t = ![t.val / 16 % 4, t.val % 16, 0] :=
  (by decide +kernel : ∀ t : Fin grid0.N, win0_2.index t = ![t.val / 16 % 4, t.val % 16, 0]) t
theorem idx3 (t : Fin cfg0.N) : win0_3.index t = ![t.val / 16 % 4, t.val % 16, 0] :=
  (by decide +kernel : ∀ t : Fin grid0.N, win0_3.index t = ![t.val / 16 % 4, t.val % 16, 0]) t
theorem idx4 (t : Fin cfg0.N) : win0_4.index t = ![t.val / 16 % 4, 0, 0] :=
  (by decide +kernel : ∀ t : Fin grid0.N, win0_4.index t = ![t.val / 16 % 4, 0, 0]) t
theorem idx5 (t : Fin cfg0.N) : win0_5.index t = ![t.val / 16 % 4, 0, 0] :=
  (by decide +kernel : ∀ t : Fin grid0.N, win0_5.index t = ![t.val / 16 % 4, 0, 0]) t
theorem idx6 (t : Fin cfg0.N) : win0_6.index t = ![t.val / 16 % 4, 0, 0] :=
  (by decide +kernel : ∀ t : Fin grid0.N, win0_6.index t = ![t.val / 16 % 4, 0, 0]) t
theorem idx7 (t : Fin cfg0.N) : win0_7.index t = ![0, 0] :=
  (by decide +kernel : ∀ t : Fin grid0.N, win0_7.index t = ![0, 0]) t
theorem idx8 (t : Fin cfg0.N) : win0_8.index t = ![0, 0] :=
  (by decide +kernel : ∀ t : Fin grid0.N, win0_8.index t = ![0, 0]) t
theorem idx9 (t : Fin cfg0.N) : win0_9.index t = ![0, 0] :=
  (by decide +kernel : ∀ t : Fin grid0.N, win0_9.index t = ![0, 0]) t
theorem idx10 (t : Fin cfg0.N) : win0_10.index t = ![0, 0] :=
  (by decide +kernel : ∀ t : Fin grid0.N, win0_10.index t = ![0, 0]) t
theorem idx11 (t : Fin cfg0.N) : win0_11.index t = ![0, 0] :=
  (by decide +kernel : ∀ t : Fin grid0.N, win0_11.index t = ![0, 0]) t
theorem idx12 (t : Fin cfg0.N) : win0_12.index t = ![0, 0] :=
  (by decide +kernel : ∀ t : Fin grid0.N, win0_12.index t = ![0, 0]) t
theorem idx13 (t : Fin cfg0.N) : win0_13.index t = ![t.val / 16 % 4, t.val % 16, 0] :=
  (by decide +kernel : ∀ t : Fin grid0.N, win0_13.index t = ![t.val / 16 % 4, t.val % 16, 0]) t
theorem idx14 (t : Fin cfg0.N) : win0_14.index t = ![0, t.val / 16 % 4 * 16 + t.val % 16] :=
  (by decide +kernel : ∀ t : Fin grid0.N, win0_14.index t = ![0, t.val / 16 % 4 * 16 + t.val % 16]) t
theorem idx15 (t : Fin cfg0.N) : win0_15.index t = ![t.val / 16 % 4, t.val % 16, 0] :=
  (by decide +kernel : ∀ t : Fin grid0.N, win0_15.index t = ![t.val / 16 % 4, t.val % 16, 0]) t

section Block
variable (c : Dev nD) (t : Fin cfg0.N)
/-- The sequence and the row of a point. -/
def bT : Fin 4 := ⟨t.val / 16 % 4, by omega⟩
def sT (r : Fin 512) : Fin 8192 := ⟨512 * (t.val % 16) + r.val, by omega⟩

theorem blk0 (r : Fin 512) (l : Fin 512) : (iblk m c 0 t : FVec Ideal S1x512x512 .bf16) (ix3 0 r l) = (ops m c).ya (ix3 (bT t) (sT t r) l) := by
  have hi := idx0 t
  unfold ops bT sT
  blk_ext [iblk, V, hi]
theorem blk1 (r : Fin 512) (l : Fin 512) : (iblk m c 1 t : FVec Ideal S1x512x512 .bf16) (ix3 0 r l) = (ops m c).yb (ix3 (bT t) (sT t r) l) := by
  have hi := idx1 t
  unfold ops bT sT
  blk_ext [iblk, V, hi]
theorem blk2 (r : Fin 512) (l : Fin 2048) : (iblk m c 2 t : FVec Ideal S1x512x2048 .f32) (ix3 0 r l) = (ops m c).gate (ix3 (bT t) (sT t r) l) := by
  have hi := idx2 t
  unfold ops bT sT
  blk_ext [iblk, V, hi]
theorem blk3 (r : Fin 512) (l : Fin 1024) : (iblk m c 3 t : FVec Ideal S1x512x1024 .f32) (ix3 0 r l) = (ops m c).x (ix3 (bT t) (sT t r) l) := by
  have hi := idx3 t
  unfold ops bT sT
  blk_ext [iblk, V, hi]
theorem blk4 (l : Fin 1024) : (iblk m c 4 t : FVec Ideal S1x1x1024 .f32) (ix3 0 0 l) = (ops m c).gt (ix3 (bT t) 0 l) := by
  have hi := idx4 t
  unfold ops bT
  blk_ext [iblk, V, hi]
theorem blk5 (l : Fin 1024) : (iblk m c 5 t : FVec Ideal S1x1x1024 .f32) (ix3 0 0 l) = (ops m c).sc (ix3 (bT t) 0 l) := by
  have hi := idx5 t
  unfold ops bT
  blk_ext [iblk, V, hi]
theorem blk6 (l : Fin 1024) : (iblk m c 6 t : FVec Ideal S1x1x1024 .f32) (ix3 0 0 l) = (ops m c).sh (ix3 (bT t) 0 l) := by
  have hi := idx6 t
  unfold ops bT
  blk_ext [iblk, V, hi]
theorem blk7 (l : Fin 1024) : (iblk m c 7 t : FVec Ideal S1x1024 .f32) (ix2 0 l) = (ops m c).gm (ix2 0 l) := by
  have hi := idx7 t
  unfold ops
  blk_ext [iblk, V, hi]
theorem blk8 (l : Fin 1024) : (iblk m c 8 t : FVec Ideal S1x1024 .f32) (ix2 0 l) = (ops m c).gf (ix2 0 l) := by
  have hi := idx8 t
  unfold ops
  blk_ext [iblk, V, hi]
theorem blk9 (l : Fin 512) (j : Fin 1024) : (iblk m c 9 t : FVec Ideal S512x1024 .bf16) (ix2 l j) = (ops m c).wa (ix2 l j) := by
  have hi := idx9 t
  unfold ops
  blk_ext [iblk, V, hi]
theorem blk10 (l : Fin 512) (j : Fin 1024) : (iblk m c 10 t : FVec Ideal S512x1024 .bf16) (ix2 l j) = (ops m c).wb (ix2 l j) := by
  have hi := idx10 t
  unfold ops
  blk_ext [iblk, V, hi]
theorem blk11 (l : Fin 1024) (j : Fin 1024) : (iblk m c 11 t : FVec Ideal S1024x1024 .bf16) (ix2 l j) = (ops m c).wo (ix2 l j) := by
  have hi := idx11 t
  unfold ops
  blk_ext [iblk, V, hi]
theorem blk12 (l : Fin 1024) (j : Fin 2048) : (iblk m c 12 t : FVec Ideal S1024x2048 .bf16) (ix2 l j) = (ops m c).wq (ix2 l j) := by
  have hi := idx12 t
  unfold ops
  blk_ext [iblk, V, hi]

theorem x_eq (r : Fin 512) : xT (iblk m c 0 t) (iblk m c 1 t) (iblk m c 2 t) (iblk m c 3 t) (iblk m c 4 t) (iblk m c 7 t) (iblk m c 9 t) (iblk m c 10 t) (iblk m c 11 t) r = (ops m c).x1 (bT t) (sT t r) := by
  unfold Out.x1 Out.y xT yT row mat
  simp only [blk0, blk1, blk2, blk3, blk4, blk7, blk9, blk10, blk11]

theorem h_eq (r : Fin 512) : hT (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r = (ops m c).h2 (bT t) (sT t r) := by
  unfold Out.h2 hT
  rw [x_eq]
  simp only [blk5, blk6, blk8]

theorem q_eq (r : Fin 512) (j : Fin 2048) : vm (hT (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r) (mat (f := .bf16) (iblk m c 12 t)) j = (ops m c).q (bT t) (sT t r) j := by
  unfold Out.q mat
  rw [h_eq]
  simp only [blk12]
end Block

theorem result0 (c : Dev nD) : (dats m 0 c).arrAt 13 (cfgs 0).N = (ops m c).R0 := by
  refine (dats m 0 c).arrAt_eq_of_covers 13 _ (by decide +kernel) fun t hf y => ?_
  have hi := idx13 t
  blk_simp
  rw [after0_13]
  have h0 : (y 0).val < 1 := (y 0).isLt
  have h1 : (y 1).val < 512 := (y 1).isLt
  have h2 : (y 2).val < 1024 := (y 2).isLt
  have ey : y = ix3 0 (⟨(y 1).val, h1⟩ : Fin 512) (⟨(y 2).val, h2⟩ : Fin 1024) := by
    funext a; match a with | ⟨0, _⟩ => exact Fin.ext (show (y 0).val = 0 from by omega) | ⟨1, _⟩ => rfl | ⟨2, _⟩ => rfl
  have e0 : (((win0_13.blk t).view.emb y) 0) = bT t := Fin.ext (by unfold bT; blk_simp [hi])
  have v1 : (((win0_13.blk t).view.emb y) 1).val = 512 * (t.val % 16) + (y 1).val := by blk_simp [hi]; omega
  have e1 : (((win0_13.blk t).view.emb y) 1) = sT t ⟨(y 1).val, h1⟩ := Fin.ext v1
  have e2 : (((win0_13.blk t).view.emb y) 2) = (⟨(y 2).val, h2⟩ : Fin 1024) := Fin.ext (by blk_simp [hi])
  show _ = (ops m c).x1 (((win0_13.blk t).view.emb y) 0) (((win0_13.blk t).view.emb y) 1) (((win0_13.blk t).view.emb y) 2)
  rw [e0, e1, e2, ← x_eq]
  exact (congrArg _ ey).trans (out13_ix (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _)

theorem result2 (c : Dev nD) : (dats m 0 c).arrAt 15 (cfgs 0).N = (ops m c).R2 := by
  refine (dats m 0 c).arrAt_eq_of_covers 15 _ (by decide +kernel) fun t hf y => ?_
  have hi := idx15 t
  blk_simp
  rw [after0_15]
  have h0 : (y 0).val < 1 := (y 0).isLt
  have h1 : (y 1).val < 512 := (y 1).isLt
  have h2 : (y 2).val < 2048 := (y 2).isLt
  have ey : y = ix3 0 (⟨(y 1).val, h1⟩ : Fin 512) (⟨(y 2).val, h2⟩ : Fin 2048) := by
    funext a; match a with | ⟨0, _⟩ => exact Fin.ext (show (y 0).val = 0 from by omega) | ⟨1, _⟩ => rfl | ⟨2, _⟩ => rfl
  have e0 : (((win0_15.blk t).view.emb y) 0) = bT t := Fin.ext (by unfold bT; blk_simp [hi])
  have v1 : (((win0_15.blk t).view.emb y) 1).val = 512 * (t.val % 16) + (y 1).val := by blk_simp [hi]; omega
  have e1 : (((win0_15.blk t).view.emb y) 1) = sT t ⟨(y 1).val, h1⟩ := Fin.ext v1
  have e2 : (((win0_15.blk t).view.emb y) 2) = (⟨(y 2).val, h2⟩ : Fin 2048) := Fin.ext (by blk_simp [hi])
  show _ = (ops m c).q (((win0_15.blk t).view.emb y) 0) (((win0_15.blk t).view.emb y) 1) (((win0_15.blk t).view.emb y) 2)
  rw [e0, e1, e2, ← q_eq]
  exact (congrArg _ ey).trans (out15_ix (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _)

theorem result1 (c : Dev nD) : (dats m 0 c).arrAt 14 (cfgs 0).N = (ops m c).R1 := by
  refine (dats m 0 c).arrAt_eq_of_covers 14 _ (by decide +kernel) fun t hf y => ?_
  have hi := idx14 t
  blk_simp
  rw [after0_14]
  have hN : t.val < 64 := N_0 ▸ t.isLt
  have h0 : (y 0).val < 1024 := (y 0).isLt
  have h1 : (y 1).val < 512 := (y 1).isLt
  have ey : y = ix2 (⟨(y 0).val, h0⟩ : Fin 1024) (⟨(y 1).val, h1⟩ : Fin 512) := by
    funext a; match a with | ⟨0, _⟩ => rfl | ⟨1, _⟩ => rfl
  have e0 : (((win0_14.blk t).view.emb y) 0) = (⟨(y 0).val, h0⟩ : Fin 1024) := Fin.ext (by blk_simp [hi])
  have e1 : (((win0_14.blk t).view.emb y) 1).val = 512 * (t.val / 16 % 4 * 16 + t.val % 16) + (y 1).val := by blk_simp [hi]; omega
  have eb : (((win0_14.blk t).view.emb y) 1).val / 8192 = t.val / 16 % 4 := by rw [e1]; omega
  have es : (((win0_14.blk t).view.emb y) 1).val % 8192 = 512 * (t.val % 16) + (y 1).val := by rw [e1]; omega
  have e2 : ∀ h, (⟨(((win0_14.blk t).view.emb y) 1).val / 8192, h⟩ : Fin 4) = bT t := fun h => Fin.ext eb
  have e3 : ∀ h, (⟨(((win0_14.blk t).view.emb y) 1).val % 8192, h⟩ : Fin 8192) = sT t ⟨(y 1).val, h1⟩ := fun h => Fin.ext es
  show _ = (ops m c).h2 ⟨(((win0_14.blk t).view.emb y) 1).val / 8192, _⟩ ⟨(((win0_14.blk t).view.emb y) 1).val % 8192, _⟩ (((win0_14.blk t).view.emb y) 0)
  rw [e0, e2, e3, ← h_eq]
  exact (congrArg _ ey).trans (out14_ix (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _)

/-- The run of the idealised output projection: its three results row by row, its arguments unchanged. -/
theorem kernel_value : θ_run defs (onTc (τ := τ) (main (F := Ideal))) ⟨m, fun _ => 0, ρ⟩ (fun r => ∀ c : Dev nD,
      r.2.mem ((c.tc : Thread nD τ).loc main_v0_0) = (ops m c).R0
      ∧ r.2.mem ((c.tc : Thread nD τ).loc main_v0_1) = (ops m c).R1
      ∧ r.2.mem ((c.tc : Thread nD τ).loc main_v0_2) = (ops m c).R2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (result0 m c), (h c).2.1.trans (result1 m c), (h c).2.2.1.trans (result2 m c), (h c).2.2.2⟩)
    (Value.run_blocks m ρ)
end Cert.Kernel3Ideal.Proj
end
-- ==== Proof.Ref3.lean ====
module
public import proofs.«01_k».proof.Proof.Gen.Reference3Ideal.Run
public import Idealize.ShloMosaic.Lib.Pointwise
public import proofs.«01_k».proof.Proof.Rows
/-!
# The output projection's reference, in stages

Each stage is a part of the reference's result, read at an index.
-/
@[expose] public section
set_option maxRecDepth 16384
noncomputable section
namespace Cert.Reference3Ideal.Proj
open Cert.Reference3Ideal Cert.Reference3Ideal.Gen Idealize.ShloMosaic Cert.Rows

/-- The mixed rows. -/
def rY (O : Out) : FVec Ideal S4x8192x1024 .f32 :=
  Host.dotGeneral dot_S4x8192x1024_S1024x1024_S4x8192x1024_2_0_01_1_n_n none (addf (mulf (extractStridedSlice S4x8192x1024 ![0, 0, 0] O.gate slices_S4x8192x2048_S4x8192x1024_0_0_0) (Host.dotGeneral dot_S4x8192x512_S512x1024_S4x8192x1024_2_0_01_1_n_n none (extf .f32 O.ya bitsLt_bf16_f32) (extf .f32 O.wa bitsLt_bf16_f32))) (mulf (extractStridedSlice S4x8192x1024 ![0, 0, 1024] O.gate slices_S4x8192x2048_S4x8192x1024_0_0_1024) (Host.dotGeneral dot_S4x8192x512_S512x1024_S4x8192x1024_2_0_01_1_n_n none (extf .f32 O.yb bitsLt_bf16_f32) (extf .f32 O.wb bitsLt_bf16_f32)))) (extf .f32 O.wo bitsLt_bf16_f32)

/-- The reciprocal root mean squares. -/
def rS (Y : FVec Ideal S4x8192x1024 .f32) : FVec Ideal S4x8192x1 .f32 :=
  Host.rsqrt (addf (Host.divf (broadcastInDim S4x8192x1 ![0, 1] bcast_S4x8192_S4x8192x1_0_1 (Host.reduceAdd (mulf Y Y) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))

/-- The rows normalised, times a gain. -/
def rN (Y : FVec Ideal S4x8192x1024 .f32) (g : FVec Ideal S1x1024 .f32) : FVec Ideal S4x8192x1024 .f32 :=
  mulf (mulf Y (broadcastInDim S4x8192x1024 ![0, 1, 2] bcast_S4x8192x1_S4x8192x1024_0_1_2 (rS Y))) (broadcastInDim S4x8192x1024 ![0, 1, 2] bcast_S1x1x1024_S4x8192x1024_0_1_2 (broadcastInDim S1x1x1024 ![1, 2] bcast_S1x1024_S1x1x1024_1_2 g))

/-- The new residual. -/
def rX (O : Out) : FVec Ideal S4x8192x1024 .f32 :=
  addf O.x (mulf (broadcastInDim S4x8192x1024 ![0, 1, 2] bcast_S4x1x1024_S4x8192x1024_0_1_2 O.gt) (rN (rY O) O.gm))

/-- The modulated rows. -/
def rH (O : Out) : FVec Ideal S4x8192x1024 .f32 :=
  addf (mulf (rN (rX O) O.gf) (broadcastInDim S4x8192x1024 ![0, 1, 2] bcast_S4x1x1024_S4x8192x1024_0_1_2 (addf (broadcastInDim S4x1x1024 ![] bcast_S_S4x1x1024 (constant S_ .f32 0x3F800000#32)) O.sc))) (broadcastInDim S4x8192x1024 ![0, 1, 2] bcast_S4x1x1024_S4x8192x1024_0_1_2 O.sh)

/-- The modulated rows, transposed. -/
def rT (O : Out) : FVec Ideal S1024x32768 .bf16 :=
  truncf .bf16 (transpose S1024x32768 [1, 0] (shapeCast _ (rH O) shapeCasts_S4x8192x1024_S32768x1024) transposes_S32768x1024_S1024x32768_1_0) bitsLt_bf16_f32

/-- The queries. -/
def rQ (O : Out) : FVec Ideal S4x8192x2048 .f32 :=
  Host.dotGeneral dot_S4x8192x1024_S1024x2048_S4x8192x2048_2_0_01_1_n_n none (rH O) (extf .f32 O.wq bitsLt_bf16_f32)

theorem rY_ix (O : Out) (b : Fin 4) (s : Fin 8192) (j : Fin 1024) : rY O (ix3 b s j) = O.y b s j := by
  pointwise [rY, Out.y, mix, vm]

theorem rN_ix (Y : FVec Ideal S4x8192x1024 .f32) (g : FVec Ideal S1x1024 .f32) (b : Fin 4) (s : Fin 8192) (j : Fin 1024) :
    rN Y g (ix3 b s j) = rms (fun j => Y (ix3 b s j)) (fun j => g (ix2 0 j)) j := by
  pointwise [rN, rS, rms, rs]

theorem rX_ix (O : Out) (b : Fin 4) (s : Fin 8192) (j : Fin 1024) : rX O (ix3 b s j) = O.x1 b s j := by
  have e : rX O (ix3 b s j) = O.x (ix3 b s j) + O.gt (ix3 b 0 j) * rN (rY O) O.gm (ix3 b s j) := by pointwise [rX]
  rw [e, rN_ix]
  simp only [rY_ix]
  rfl

theorem rH_ix (O : Out) (b : Fin 4) (s : Fin 8192) (j : Fin 1024) : rH O (ix3 b s j) = O.h2 b s j := by
  have e : rH O (ix3 b s j) = rN (rX O) O.gf (ix3 b s j) * (Ideal.ofBits FTy.f32 0x3F800000#32 + O.sc (ix3 b 0 j)) + O.sh (ix3 b 0 j) := by
    pointwise [rH]
  rw [e, rN_ix]
  simp only [rX_ix]
  rfl

theorem rT_ix (O : Out) (j : Fin 1024) (p : Fin 32768) :
    rT O (ix2 j p) = O.h2 (⟨p.val / 8192, by omega⟩ : Fin 4) (⟨p.val % 8192, by omega⟩ : Fin 8192) j := by
  rw [← rH_ix]
  pointwise [rT]

theorem rQ_ix (O : Out) (b : Fin 4) (s : Fin 8192) (j : Fin 2048) : rQ O (ix3 b s j) = O.q b s j := by
  unfold Out.q vm
  simp only [← rH_ix]
  pointwise [rQ]

theorem rX_eq (O : Out) : rX O = O.R0 := by
  funext i
  have e : i = ix3 (i 0 : Fin 4) (i 1 : Fin 8192) (i 2 : Fin 1024) := by
    funext a; match a with | ⟨0, _⟩ => rfl | ⟨1, _⟩ => rfl | ⟨2, _⟩ => rfl
  exact (congrArg _ e).trans (rX_ix O _ _ _)
theorem rT_eq (O : Out) : rT O = O.R1 := by
  funext i
  have e : i = ix2 (i 0 : Fin 1024) (i 1 : Fin 32768) := by
    funext a; match a with | ⟨0, _⟩ => rfl | ⟨1, _⟩ => rfl
  exact (congrArg _ e).trans (rT_ix O _ _)
theorem rQ_eq (O : Out) : rQ O = O.R2 := by
  funext i
  have e : i = ix3 (i 0 : Fin 4) (i 1 : Fin 8192) (i 2 : Fin 2048) := by
    funext a; match a with | ⟨0, _⟩ => rfl | ⟨1, _⟩ => rfl | ⟨2, _⟩ => rfl
  exact (congrArg _ e).trans (rQ_ix O _ _ _)

variable (m : (ℓ : Loc nD τ sig) → Buf (Elt Ideal) ℓ) (ρ : Dev nD → PrngReg)

/-- The arguments. -/
def ops (c : Dev nD) : Out :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12)⟩

theorem res1_eq (c : Dev nD) : Value.res_out1 m c = (ops m c).R1 := by
  refine Eq.trans ?_ (rT_eq (ops m c))
  unfold Value.res_out1 Value.res_main_v51
  rfl
theorem res2_eq (c : Dev nD) : Value.res_out2 m c = (ops m c).R2 := by
  refine Eq.trans ?_ (rQ_eq (ops m c))
  unfold Value.res_out2 Value.res_main_v52
  rfl

open Idealize.SL.Sem in
/-- The reference's run: its three results row by row, its arguments unchanged. -/
theorem ref_value : θ_run defs (onTc (τ := τ) (main (F := Ideal))) ⟨m, fun _ => 0, ρ⟩ (fun r => ∀ c : Dev nD,
      r.2.mem ((c.tc : Thread nD τ).loc main_v29) = (ops m c).R0
      ∧ r.2.mem ((c.tc : Thread nD τ).loc main_v51) = (ops m c).R1
      ∧ r.2.mem ((c.tc : Thread nD τ).loc main_v52) = (ops m c).R2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (rX_eq (ops m c)), (h c).2.1.trans (res1_eq m c), (h c).2.2.1.trans (res2_eq m c), (h c).2.2.2⟩)
    (Value.run m ρ)
end Cert.Reference3Ideal.Proj
end
-- ==== Proof.Ada.lean ====
module
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.Value
public import Idealize.ShloMosaic.Lib.Pointwise
public import proofs.«01_k».proof.Proof.Rows
/-!
# The modulation vectors

The point `j` of the grid works at the columns `1024 j` and on. The conditioning vectors go through `z * sg z`, then
through the weights.
-/
@[expose] public section
set_option maxRecDepth 16384
noncomputable section
namespace Cert.Ada
open Cert.Rows Idealize.ShloMosaic

/-- An entry of the result. -/
def ada (C : FVec Ideal ⟨2, ![8, 1024]⟩ .f32) (w : FVec Ideal ⟨2, ![1024, 6144]⟩ .f32) (b : FVec Ideal ⟨2, ![1, 6144]⟩ .f32)
    (i : Fin 8) (j : Fin 6144) : EReal :=
  vm (fun l => C (ix2 i l) * sg (C (ix2 i l))) (fun l j => w (ix2 l j)) j + b (ix2 0 j)

/-- The result. -/
def R (C : FVec Ideal ⟨2, ![8, 1024]⟩ .f32) (w : FVec Ideal ⟨2, ![1024, 6144]⟩ .f32) (b : FVec Ideal ⟨2, ![1, 6144]⟩ .f32) :
    FVec Ideal ⟨2, ![8, 6144]⟩ .f32 := fun i => ada C w b (i 0) (i 1)
end Cert.Ada

namespace Cert.Kernel4Ideal.Proj
open Idealize.ShloMosaic Idealize.ShloMosaic.TcCoe Idealize.SL.Sem Cert.Kernel4Ideal Cert.Kernel4Ideal.Gen Cert.Rows Cert.Ada

theorem neg0 (x : EReal) : 0 - x = -x := by rw [sub_eq_add_neg, zero_add]

/-- An entry of one tile of the result. -/
def tile (C : FVec Ideal S8x1024 .f32) (w : FVec Ideal S1024x1024 .f32) (b : FVec Ideal S1x1024 .f32) (i : Fin 8) (j : Fin 1024) : EReal :=
  vm (fun l => C (ix2 i l) * sg (C (ix2 i l))) (fun l j => w (ix2 l j)) j + b (ix2 0 j)

theorem pay1_ix (C : FVec Ideal S8x1024 .f32) (w : FVec Ideal S1024x1024 .f32) (b : FVec Ideal S1x1024 .f32) (i : Fin 8) (j : Fin 1024) :
    k0_pay1 (F := Ideal) C w b (ix2 i j) = tile C w b i j := by
  unfold tile vm sg
  simp only [← neg0]
  pointwise [k0_pay1]

theorem out3_ix (C : FVec Ideal S8x1024 .f32) (w : FVec Ideal S1024x1024 .f32) (b : FVec Ideal S1x1024 .f32) (i : Fin 8) (j : Fin 1024) :
    out0_3 (F := Ideal) C w b (ix2 i j) = tile C w b i j := by
  have e : out0_3 (F := Ideal) C w b = k0_pay1 (F := Ideal) C w b := by
    frame_out
  rw [e, pay1_ix]

variable (m : (ℓ : Loc nD τ sig) → Buf (Elt Ideal) ℓ) (ρ : Dev nD → PrngReg)

theorem idx0 (t : Fin cfg0.N) : win0_0.index t = ![0, 0] :=
  (by decide +kernel : ∀ t : Fin grid0.N, win0_0.index t = ![0, 0]) t
theorem idx1 (t : Fin cfg0.N) : win0_1.index t = ![0, t.val % 6] :=
  (by decide +kernel : ∀ t : Fin grid0.N, win0_1.index t = ![0, t.val % 6]) t
theorem idx2 (t : Fin cfg0.N) : win0_2.index t = ![0, t.val % 6] :=
  (by decide +kernel : ∀ t : Fin grid0.N, win0_2.index t = ![0, t.val % 6]) t
theorem idx3 (t : Fin cfg0.N) : win0_3.index t = ![0, t.val % 6] :=
  (by decide +kernel : ∀ t : Fin grid0.N, win0_3.index t = ![0, t.val % 6]) t

/-- The arguments. -/
abbrev aC (c : Dev nD) : FVec Ideal S8x1024 .f32 := m ((c : Thread nD τ).loc main_arg0)
abbrev aW (c : Dev nD) : FVec Ideal S1024x6144 .f32 := m ((c : Thread nD τ).loc main_arg1)
abbrev aB (c : Dev nD) : FVec Ideal S1x6144 .f32 := m ((c : Thread nD τ).loc main_arg2)

section Block
variable (c : Dev nD) (t : Fin cfg0.N)
/-- The column of a point. -/
def jT (j : Fin 1024) : Fin 6144 := ⟨1024 * (t.val % 6) + j.val, by omega⟩

theorem blk0 (i : Fin 8) (l : Fin 1024) : (iblk m c 0 t : FVec Ideal S8x1024 .f32) (ix2 i l) = aC m c (ix2 i l) := by
  have hi := idx0 t
  unfold aC
  blk_ext [iblk, V, hi]
theorem blk1 (l : Fin 1024) (j : Fin 1024) : (iblk m c 1 t : FVec Ideal S1024x1024 .f32) (ix2 l j) = aW m c (ix2 l (jT t j)) := by
  have hi := idx1 t
  unfold aW jT
  blk_ext [iblk, V, hi]
theorem blk2 (j : Fin 1024) : (iblk m c 2 t : FVec Ideal S1x1024 .f32) (ix2 0 j) = aB m c (ix2 0 (jT t j)) := by
  have hi := idx2 t
  unfold aB jT
  blk_ext [iblk, V, hi]

theorem tile_eq (i : Fin 8) (j : Fin 1024) :
    tile (iblk m c 0 t) (iblk m c 1 t) (iblk m c 2 t) i j = ada (aC m c) (aW m c) (aB m c) i (jT t j) := by
  have e0 : (fun l => (iblk m c 0 t : FVec Ideal S8x1024 .f32) (ix2 i l)) = fun l => aC m c (ix2 i l) := funext fun l => blk0 m c t i l
  have e1 : (fun l => (iblk m c 1 t : FVec Ideal S1024x1024 .f32) (ix2 l j)) = fun l => aW m c (ix2 l (jT t j)) :=
    funext fun l => blk1 m c t l j
  unfold ada tile vm
  exact congrArg₂ (· + ·) (congrArg₂ (fun (f g : Fin 1024 → EReal) => ∑ l, f l * sg (f l) * g l) e0 e1) (blk2 m c t j)
end Block

theorem result (c : Dev nD) : (dats m 0 c).arrAt 3 (cfgs 0).N = R (aC m c) (aW m c) (aB m c) := by
  refine (dats m 0 c).arrAt_eq_of_covers 3 _ (by decide +kernel) fun t hf y => ?_
  have hi := idx3 t
  blk_simp
  rw [after0_3]
  have h0 : (y 0).val < 8 := (y 0).isLt
  have h1 : (y 1).val < 1024 := (y 1).isLt
  have ey : y = ix2 (⟨(y 0).val, h0⟩ : Fin 8) (⟨(y 1).val, h1⟩ : Fin 1024) := by
    funext a; match a with | ⟨0, _⟩ => rfl | ⟨1, _⟩ => rfl
  have e0 : (((win0_3.blk t).view.emb y) 0) = (⟨(y 0).val, h0⟩ : Fin 8) := Fin.ext (by blk_simp [hi])
  have v1 : (((win0_3.blk t).view.emb y) 1).val = 1024 * (t.val % 6) + (y 1).val := by blk_simp [hi]; omega
  have e1 : (((win0_3.blk t).view.emb y) 1) = jT t ⟨(y 1).val, h1⟩ := Fin.ext v1
  show _ = ada (aC m c) (aW m c) (aB m c) (((win0_3.blk t).view.emb y) 0) (((win0_3.blk t).view.emb y) 1)
  rw [e0, e1, ← tile_eq]
  exact (congrArg _ ey).trans (out3_ix (iblk m c 0 t) (iblk m c 1 t) (iblk m c 2 t) _ _)

/-- The run of the modulation call: its result entry by entry, its arguments unchanged. -/
theorem kernel_value : θ_run defs (onTc (τ := τ) (main (F := Ideal))) ⟨m, fun _ => 0, ρ⟩ (fun r => ∀ c : Dev nD,
      r.2.mem ((c.tc : Thread nD τ).loc main_v0) = R (aC m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result m c), (h c).2⟩) (Value.run_blocks m ρ)
end Cert.Kernel4Ideal.Proj

namespace Cert.Reference4Ideal.Proj
open Cert.Reference4Ideal Cert.Reference4Ideal.Gen Idealize.ShloMosaic Cert.Rows Cert.Ada

/-- The reference's result. -/
def rA (C : FVec Ideal S8x1024 .f32) (w : FVec Ideal S1024x6144 .f32) (b : FVec Ideal S1x6144 .f32) : FVec Ideal S8x6144 .f32 :=
  addf (Host.dotGeneral dot_S8x1024_S1024x6144_S8x6144_1_0_0_1_n_n none (mulf C (Host.divf (broadcastInDim S8x1024 ![] bcast_S_S8x1024 (constant S_ .f32 0x3F800000#32)) (addf (broadcastInDim S8x1024 ![] bcast_S_S8x1024 (constant S_ .f32 0x3F800000#32)) (Host.exp (Host.negf C))))) w) (broadcastInDim S8x6144 ![0, 1] bcast_S1x6144_S8x6144_0_1 b)

theorem rA_eq (C : FVec Ideal S8x1024 .f32) (w : FVec Ideal S1024x6144 .f32) (b : FVec Ideal S1x6144 .f32) : rA C w b = R C w b := by
  have h : ∀ (i : Fin 8) (j : Fin 6144), rA C w b (ix2 i j) = ada C w b i j := by
    intro i j
    pointwise [rA, ada, vm, sg]
  funext i
  have e : i = ix2 (i 0 : Fin 8) (i 1 : Fin 6144) := by
    funext a; match a with | ⟨0, _⟩ => rfl | ⟨1, _⟩ => rfl
  exact (congrArg _ e).trans (h _ _)
end Cert.Reference4Ideal.Proj
end
-- ==== Proof.Cumsum.lean ====
module
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.Value
public import Idealize.ShloMosaic.Lib.Pipeline.ReadBack
public import Idealize.ShloMosaic.Lib.Pointwise
public import proofs.«01_k».proof.Proof.Words
/-!
# The running sums

The point `(b, i)` of the grid works at sequence `b`, rows `512 i` and on: a product with a triangle of ones sums the
rows of its block, and the sum of the rows before it is carried from point to point. The reference sums a window over the
padded rows. Both are the sum of the rows up to and including the row, at every extended real.
-/
@[expose] public section
set_option maxRecDepth 16384
noncomputable section
namespace Cert.Cumsum
open Idealize.ShloMosaic

/-- Row `s` of a sequence. -/
def row (X : FVec Ideal ⟨3, ![4, 8192, 128]⟩ .f32) (b : Fin 4) (l : Fin 128) (s : ℕ) : EReal :=
  if h : s < 8192 then X (ix3 b ⟨s, h⟩ l) else 0

theorem row_fin (X : FVec Ideal ⟨3, ![4, 8192, 128]⟩ .f32) (b : Fin 4) (l : Fin 128) (k : Fin 8192) : row X b l k.val = X (ix3 b k l) :=
  dif_pos k.isLt

/-- The sum of the first `n` rows. -/
def pre (X : FVec Ideal ⟨3, ![4, 8192, 128]⟩ .f32) (b : Fin 4) (l : Fin 128) (n : ℕ) : EReal := ∑ s ∈ Finset.range n, row X b l s

/-- The result. -/
def R (X : FVec Ideal ⟨3, ![4, 8192, 128]⟩ .f32) : FVec Ideal ⟨3, ![4, 8192, 128]⟩ .f32 := fun i => pre X (i 0) (i 2) ((i 1).val + 1)

/-! ## A window over padded rows -/

theorem foldl_add {ι : Type} (F : EReal → ι → EReal) (g : ι → EReal) (hF : ∀ r n, F r n = r + g n) (L : List ι) (r : EReal) :
    L.foldl F r = r + (L.map g).sum := by
  induction L generalizing r with
  | nil => simp
  | cons a L ih => rw [List.foldl_cons, ih, hF, List.map_cons, List.sum_cons, add_assoc]

theorem sum_window (G : ℕ → EReal) (M j : ℕ) (hj : j < M + 1) :
    ∑ n ∈ Finset.range (M + 1), (if M ≤ j + n then G (j + n - M) else 0) = ∑ i ∈ Finset.range (j + 1), G i := by
  obtain ⟨d, rfl⟩ : ∃ d, M = d + j := ⟨M - j, by omega⟩
  rw [show d + j + 1 = d + (j + 1) from by omega, Finset.sum_range_add,
    Finset.sum_eq_zero (s := Finset.range d) fun n hn => if_neg (by have := Finset.mem_range.1 hn; omega), zero_add]
  refine Finset.sum_congr rfl fun i _ => ?_
  rw [if_pos (by omega)]
  exact congrArg G (by omega)

theorem numel_mid (R : Nat) : (⟨3, ![1, R, 1]⟩ : Shape).numel = R := by
  simp [Shape.numel, Fin.prod_univ_three]

theorem symm_mid {R : Nat} (n : Fin (⟨3, ![1, R, 1]⟩ : Shape).numel) :
    (⟨3, ![1, R, 1]⟩ : Shape).rowMajor.symm n = ix3 (0 : Fin 1) (n.cast (numel_mid R)) (0 : Fin 1) :=
  ((⟨3, ![1, R, 1]⟩ : Shape).rowMajor.symm_apply_eq).2 (Fin.ext (by
    rw [Shape.rowMajor_val_three]
    show n.val = (0 * R + n.val) * 1 + 0
    omega))

/-- A window of the whole height, padded above by one row less, sums the rows up to and including its own. -/
theorem window_rows {A R M C : Nat} (hR : M + 1 = R) (x : (⟨3, ![A, R, C]⟩ : Shape).Idx → EReal) (a : Fin A) (c : Fin C) (g : ℕ → EReal)
    (hx : ∀ i : Fin R, x (ix3 a i c) = g i.val) (init : (⟨0, ![]⟩ : Shape).Idx → EReal) (hi : ∀ i, init i = 0)
    (h : (⟨3, ![A, R, C]⟩ : Shape).ReduceWindows (![1, R, 1] : Fin 3 → Nat) ![1, 1, 1] ![0, M, 0] ![0, 0, 0] ⟨3, ![A, R, C]⟩)
    (hu : 0 < (⟨0, ![]⟩ : Shape).numel) (j : Fin R) :
    Host.reduceWindow (· + ·) ![1, R, 1] ![1, 1, 1] ![0, M, 0] ![0, 0, 0] x init h hu (ix3 a j c) = ∑ i ∈ Finset.range (j.val + 1), g i := by
  subst hR
  have hj := j.isLt
  have ha := a.isLt
  have hc := c.isLt
  unfold Host.reduceWindow
  refine (foldl_add _ (fun n => if M ≤ j.val + n.val then g (j.val + n.val - M) else 0) (fun r n => ?_) _ _).trans ?_
  · have w0 : ((⟨3, ![1, M + 1, 1]⟩ : Shape).rowMajor.symm n 0).val = 0 := by rw [symm_mid]; rfl
    have w1 : ((⟨3, ![1, M + 1, 1]⟩ : Shape).rowMajor.symm n 1).val = n.val := by rw [symm_mid]; rfl
    have w2 : ((⟨3, ![1, M + 1, 1]⟩ : Shape).rowMajor.symm n 2).val = 0 := by rw [symm_mid]; rfl
    have hn : n.val < M + 1 := (n.cast (numel_mid _)).isLt
    dsimp only
    refine congrArg (r + ·) ?_
    split
    · next hin =>
      have h1 := hin 1
      change M ≤ j.val * 1 + ((⟨3, ![1, M + 1, 1]⟩ : Shape).rowMajor.symm n 1).val
        ∧ j.val * 1 + ((⟨3, ![1, M + 1, 1]⟩ : Shape).rowMajor.symm n 1).val - M < M + 1 at h1
      rw [w1] at h1
      rw [if_pos (by omega)]
      refine (congrArg x (funext fun q => Fin.ext ?_)).trans (hx ⟨j.val + n.val - M, by omega⟩)
      match q with
      | ⟨0, _⟩ =>
        show a.val * 1 + ((⟨3, ![1, M + 1, 1]⟩ : Shape).rowMajor.symm n 0).val - 0 = a.val
        rw [w0]; omega
      | ⟨1, _⟩ =>
        show j.val * 1 + ((⟨3, ![1, M + 1, 1]⟩ : Shape).rowMajor.symm n 1).val - M = j.val + n.val - M
        rw [w1, Nat.mul_one]
      | ⟨2, _⟩ =>
        show c.val * 1 + ((⟨3, ![1, M + 1, 1]⟩ : Shape).rowMajor.symm n 2).val - 0 = c.val
        rw [w2]; omega
    · next hin =>
      rw [if_neg fun hle => hin fun q => by
        match q with
        | ⟨0, _⟩ =>
          show 0 ≤ a.val * 1 + ((⟨3, ![1, M + 1, 1]⟩ : Shape).rowMajor.symm n 0).val
            ∧ a.val * 1 + ((⟨3, ![1, M + 1, 1]⟩ : Shape).rowMajor.symm n 0).val - 0 < A
          rw [w0]; omega
        | ⟨1, _⟩ =>
          show M ≤ j.val * 1 + ((⟨3, ![1, M + 1, 1]⟩ : Shape).rowMajor.symm n 1).val
            ∧ j.val * 1 + ((⟨3, ![1, M + 1, 1]⟩ : Shape).rowMajor.symm n 1).val - M < M + 1
          rw [w1]; omega
        | ⟨2, _⟩ =>
          show 0 ≤ c.val * 1 + ((⟨3, ![1, M + 1, 1]⟩ : Shape).rowMajor.symm n 2).val
            ∧ c.val * 1 + ((⟨3, ![1, M + 1, 1]⟩ : Shape).rowMajor.symm n 2).val - 0 < C
          rw [w2]; omega]
      exact hi _
  · rw [hi, zero_add, ← Fin.sum_univ_def, Fin.sum_univ_eq_sum_range (fun n => if M ≤ j.val + n then g (j.val + n - M) else 0)]
    exact (congrArg (fun N => ∑ n ∈ Finset.range N, (if M ≤ j.val + n then g (j.val + n - M) else 0)) (numel_mid (M + 1))).trans
      (sum_window g M j.val hj)

theorem add_rows {A R M C : Nat} (hR : M + 1 = R) (x : FVec Ideal ⟨3, ![A, R, C]⟩ .f32) (a : Fin A) (c : Fin C) (g : ℕ → EReal)
    (hx : ∀ i : Fin R, x (ix3 a i c) = g i.val) (init : FVec Ideal ⟨0, ![]⟩ .f32) (hi : ∀ i, init i = 0)
    (h : (⟨3, ![A, R, C]⟩ : Shape).ReduceWindows (![1, R, 1] : Fin 3 → Nat) ![1, 1, 1] ![0, M, 0] ![0, 0, 0] ⟨3, ![A, R, C]⟩)
    (hu : 0 < (⟨0, ![]⟩ : Shape).numel) (j : Fin R) :
    Host.reduceWindowAdd (F := Ideal) (φ := .f32) ![1, R, 1] ![1, 1, 1] ![0, M, 0] ![0, 0, 0] x init h hu (ix3 a j c)
      = ∑ i ∈ Finset.range (j.val + 1), g i :=
  window_rows hR x a c g hx (fun _ => init (Shape.Idx.first hu)) (fun _ => hi _) h (by decide) j

/-! ## The triangle -/

/-- A row of ones up to its own column sums a block's rows. -/
theorem tri_sum (v : ℕ → EReal) (r : Fin 512) :
    ∑ k : Fin 512, (if k.val ≤ r.val then (1 : EReal) else 0) * v k.val = ∑ k ∈ Finset.range (r.val + 1), v k := by
  have hr := r.isLt
  rw [Fin.sum_univ_eq_sum_range (fun k => (if k ≤ r.val then (1 : EReal) else 0) * v k) 512]
  obtain ⟨d, hd⟩ : ∃ d, 512 = (r.val + 1) + d := ⟨512 - (r.val + 1), by omega⟩
  rw [(congrArg (fun N => ∑ k ∈ Finset.range N, (if k ≤ r.val then (1 : EReal) else 0) * v k) hd), Finset.sum_range_add]
  rw [Finset.sum_eq_zero (s := Finset.range d) fun n hn => by rw [if_neg (by omega), zero_mul], add_zero]
  exact Finset.sum_congr rfl fun k hk => by rw [if_pos (by have := Finset.mem_range.1 hk; omega), one_mul]
end Cert.Cumsum

namespace Cert.Kernel5Ideal.Proj
open Idealize.ShloMosaic Idealize.ShloMosaic.TcCoe Idealize.SL.Sem Cert.Kernel5Ideal Cert.Kernel5Ideal.Gen Cert.Cumsum

theorem pay2_ix (v : FVec Ideal S1x512x128 .f32) (w : FVec Ideal S1x128 .f32) (r : Fin 512) (l : Fin 128) :
    k0_pay2 (F := Ideal) v w (ix2 r l) = (∑ k : Fin 512, (if k.val ≤ r.val then (1 : EReal) else 0) * v (ix3 0 k l)) + w (ix2 0 l) := by
  pointwise [k0_pay2]
  refine congrArg (· + w (ix2 0 l)) (Finset.sum_congr rfl fun k _ => ?_)
  rw [Cert.Fox.cmpi_sge_nat (by omega) (by omega), Cert.Fox.select_bool]
  by_cases h : k.val ≤ r.val
  · simp [h]
  · simp [h]

theorem pay3_ix (v : FVec Ideal S1x512x128 .f32) (w : FVec Ideal S1x128 .f32) (r : Fin 512) (l : Fin 128) :
    k0_pay3 (F := Ideal) v w (ix3 0 r l) = k0_pay2 (F := Ideal) v w (ix2 r l) := by
  pointwise [k0_pay3]
theorem pay4_ix (v : FVec Ideal S1x512x128 .f32) (w : FVec Ideal S1x128 .f32) (l : Fin 128) :
    k0_pay4 (F := Ideal) v w (ix2 0 l) = k0_pay2 (F := Ideal) v w (ix2 (511 : Fin 512) l) := by
  pointwise [k0_pay4]
theorem pay1_ix (l : Fin 128) : k0_pay1 (F := Ideal) (ix2 0 l) = 0 := by
  pointwise [k0_pay1]

/-- One block: the sums go on from the sum carried in. -/
theorem block_sum (X : FVec Ideal S4x8192x128 .f32) (b : Fin 4) (l : Fin 128) (q : ℕ) (v : FVec Ideal S1x512x128 .f32) (w : FVec Ideal S1x128 .f32)
    (hv : ∀ k : Fin 512, v (ix3 0 k l) = row X b l (q + k.val)) (hw : w (ix2 0 l) = pre X b l q) (r : Fin 512) :
    k0_pay2 (F := Ideal) v w (ix2 r l) = pre X b l (q + (r.val + 1)) := by
  rw [pay2_ix, hw, Finset.sum_congr rfl fun k _ => congrArg (_ * ·) (hv k), tri_sum (fun k => row X b l (q + k)) r]
  exact (add_comm _ _).trans (Finset.sum_range_add (fun s => row X b l s) q (r.val + 1)).symm

variable (m : (ℓ : Loc nD τ sig) → Buf (Elt Ideal) ℓ) (ρ : Dev nD → PrngReg)

theorem idx0 (t : Fin cfg0.N) : win0_0.index t = ![t.val / 16 % 4, t.val % 16, 0] :=
  (by decide +kernel : ∀ t : Fin grid0.N, win0_0.index t = ![t.val / 16 % 4, t.val % 16, 0]) t
theorem idx1 (t : Fin cfg0.N) : win0_1.index t = ![t.val / 16 % 4, t.val % 16, 0] :=
  (by decide +kernel : ∀ t : Fin grid0.N, win0_1.index t = ![t.val / 16 % 4, t.val % 16, 0]) t

theorem outA (c : Dev nD) (t : Fin cfg0.N) (h0 : t.val % 16 = 0) :
    outsAt0 m c t.val t.isLt = (k0_pay3 (F := Ideal) (iblk m c 0 t) (k0_pay1 (F := Ideal)), k0_pay4 (F := Ideal) (iblk m c 0 t) (k0_pay1 (F := Ideal))) := by
  rw [outsAt0_A m c t h0]
  refine Prod.ext ?_ ?_
  · dsimp only
    frame_out
  · dsimp only
    frame_out

theorem outB (c : Dev nD) (t : Fin cfg0.N) (h0 : ¬t.val % 16 = 0) :
    outsAt0 m c t.val t.isLt = (k0_pay3 (F := Ideal) (iblk m c 0 t) (outsAt0 m c (t.val - 1) (Nat.lt_of_le_of_lt (Nat.sub_le _ _) t.isLt)).2,
      k0_pay4 (F := Ideal) (iblk m c 0 t) (outsAt0 m c (t.val - 1) (Nat.lt_of_le_of_lt (Nat.sub_le _ _) t.isLt)).2) := by
  rw [outsAt0_B m c t h0]
  generalize (outsAt0 m c (t.val - 1) (Nat.lt_of_le_of_lt (Nat.sub_le _ _) t.isLt)).2 = w
  refine Prod.ext ?_ ?_
  · dsimp only
    frame_out
    exact congrArg (k0_pay3 (F := Ideal) (iblk m c 0 t)) (read_unread_whole (Val := Elt Ideal) cc0_scratch0 (Memref.isWhole_whole _) w)
  · dsimp only
    frame_out
    exact congrArg (k0_pay4 (F := Ideal) (iblk m c 0 t)) (read_unread_whole (Val := Elt Ideal) cc0_scratch0 (Memref.isWhole_whole _) w)

/-- The argument. -/
abbrev aX (c : Dev nD) : FVec Ideal S4x8192x128 .f32 := m ((c : Thread nD τ).loc main_arg0)
/-- The sequence of a point. -/
def bT (n : ℕ) : Fin 4 := ⟨n / 16 % 4, by omega⟩

theorem blk0 (c : Dev nD) (t : Fin cfg0.N) (k : Fin 512) (l : Fin 128) :
    (iblk m c 0 t : FVec Ideal S1x512x128 .f32) (ix3 0 k l) = row (aX m c) (bT t.val) l (512 * (t.val % 16) + k.val) := by
  have hi := idx0 t
  unfold row
  rw [dif_pos (by omega)]
  unfold aX bT
  blk_ext [iblk, V, hi]

/-- What the points before a point leave: the sum of the rows before its block. -/
theorem point (c : Dev nD) : ∀ (n : ℕ) (hn : n < cfg0.N), ∃ w : FVec Ideal S1x128 .f32,
    outsAt0 m c n hn = (k0_pay3 (F := Ideal) (iblk m c 0 ⟨n, hn⟩) w, k0_pay4 (F := Ideal) (iblk m c 0 ⟨n, hn⟩) w)
      ∧ ∀ l : Fin 128, w (ix2 0 l) = pre (aX m c) (bT n) l (512 * (n % 16)) := by
  have base : ∀ (n : ℕ) (hn : n < cfg0.N), n % 16 = 0 → ∃ w : FVec Ideal S1x128 .f32,
      outsAt0 m c n hn = (k0_pay3 (F := Ideal) (iblk m c 0 ⟨n, hn⟩) w, k0_pay4 (F := Ideal) (iblk m c 0 ⟨n, hn⟩) w)
        ∧ ∀ l : Fin 128, w (ix2 0 l) = pre (aX m c) (bT n) l (512 * (n % 16)) := fun n hn h0 =>
    ⟨k0_pay1 (F := Ideal), outA m c ⟨n, hn⟩ h0, fun l => by
      rw [pay1_ix, h0]; exact (Finset.sum_range_zero _).symm⟩
  intro n
  induction n with
  | zero => exact fun hn => base 0 hn rfl
  | succ n ih =>
    intro hn
    by_cases h0 : (n + 1) % 16 = 0
    · exact base _ hn h0
    · obtain ⟨w, ho, hw⟩ := ih (Nat.lt_of_succ_lt hn)
      refine ⟨_, outB m c ⟨n + 1, hn⟩ h0, fun l => ?_⟩
      show (outsAt0 m c n (Nat.lt_of_succ_lt hn)).2 (ix2 0 l) = _
      rw [ho]
      refine (pay4_ix _ w l).trans ((block_sum (aX m c) (bT n) l (512 * (n % 16)) _ w (fun k => blk0 m c ⟨n, _⟩ k l) (hw l) 511).trans ?_)
      have e : bT n = bT (n + 1) := Fin.ext (show n / 16 % 4 = (n + 1) / 16 % 4 from by omega)
      rw [e]
      exact congrArg (pre (aX m c) (bT (n + 1)) l) (show 512 * (n % 16) + (511 + 1) = 512 * ((n + 1) % 16) from by omega)

theorem result (c : Dev nD) : (dats m 0 c).arrAt 1 (cfgs 0).N = R (aX m c) := by
  refine (dats m 0 c).arrAt_eq_of_covers 1 _ (by decide +kernel) fun t hf y => ?_
  have hi := idx1 t
  obtain ⟨w, ho, hw⟩ := point m c t.val t.isLt
  blk_simp
  rw [after0_1, ho]
  have h0 : (y 0).val < 1 := (y 0).isLt
  have h1 : (y 1).val < 512 := (y 1).isLt
  have h2 : (y 2).val < 128 := (y 2).isLt
  have ey : y = ix3 (0 : Fin 1) (⟨(y 1).val, h1⟩ : Fin 512) (⟨(y 2).val, h2⟩ : Fin 128) := by
    funext a
    match a with
    | ⟨0, _⟩ => exact Fin.ext (show (y 0).val = 0 from by omega)
    | ⟨1, _⟩ => rfl
    | ⟨2, _⟩ => rfl
  have v0 : (((win0_1.blk t).view.emb y) 0).val = t.val / 16 % 4 := by blk_simp [hi]
  have v1 : (((win0_1.blk t).view.emb y) 1).val = 512 * (t.val % 16) + (y 1).val := by blk_simp [hi]; omega
  have v2 : (((win0_1.blk t).view.emb y) 2) = (⟨(y 2).val, h2⟩ : Fin 128) := Fin.ext (by blk_simp [hi])
  have e0 : (((win0_1.blk t).view.emb y) 0) = bT t.val := Fin.ext v0
  show _ = pre (aX m c) (((win0_1.blk t).view.emb y) 0) (((win0_1.blk t).view.emb y) 2) ((((win0_1.blk t).view.emb y) 1).val + 1)
  rw [e0, v1, v2]
  exact (congrArg _ ey).trans ((pay3_ix (iblk m c 0 t) w _ _).trans
    (block_sum (aX m c) (bT t.val) ⟨(y 2).val, h2⟩ (512 * (t.val % 16)) _ w (fun k => blk0 m c t k _) (hw _) ⟨(y 1).val, h1⟩))

/-- The run of the running sums' call: its result entry by entry, its argument unchanged. -/
theorem kernel_value : θ_run defs (onTc (τ := τ) (main (F := Ideal))) ⟨m, fun _ => 0, ρ⟩ (fun r => ∀ c : Dev nD,
      r.2.mem ((c.tc : Thread nD τ).loc main_v0) = R (aX m c)
      ∧ r.2.mem ((c.tc : Thread nD τ).loc main_arg0) = m ((c.tc : Thread nD τ).loc main_arg0)) :=
  (θ_run defs _ _).mono (fun _ h c => ⟨(h c).1.trans (result m c), (h c).2⟩) (Value.run_blocks m ρ)
end Cert.Kernel5Ideal.Proj

namespace Cert.Reference5Ideal.Proj
open Cert.Reference5Ideal Cert.Reference5Ideal.Gen Idealize.ShloMosaic Cert.Cumsum

/-- The reference's result. -/
theorem rX_eq (X : FVec Ideal S4x8192x128 .f32) :
    Host.reduceWindowAdd (F := Ideal) (φ := .f32) ![1, 8192, 1] ![1, 1, 1] ![0, 8191, 0] ![0, 0, 0] X (broadcastInDim S_ ![] bcast_S_S_ (constant S_ .f32 0x00000000#32)) reduceWindows_S4x8192x128_S4x8192x128_w1s1p0_0_w8192s1p8191_0_w1s1p0_0 h_S_ = R X := by
  funext i
  have e : i = ix3 (i 0 : Fin 4) (i 1 : Fin 8192) (i 2 : Fin 128) := by
    funext a; match a with | ⟨0, _⟩ => rfl | ⟨1, _⟩ => rfl | ⟨2, _⟩ => rfl
  have hz : ∀ j, (broadcastInDim S_ ![] bcast_S_S_ (constant S_ .f32 0x00000000#32) : FVec Ideal S_ .f32) j = 0 := fun j => by
    simp [broadcastInDim, constant, Scalar.ofBits, FloatOps.ofBits, Ideal.ofBits, Ideal.ieee]
  exact (congrArg _ e).trans (add_rows (by omega) X (i 0) (i 2) (row X (i 0) (i 2)) (fun k => (row_fin X _ _ k).symm) _ hz _ _ (i 1))
end Cert.Reference5Ideal.Proj
end
-- ==== Proof.Scores.lean ====
module
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.Value
public import Idealize.ShloMosaic.Lib.WritesUnit
public import Idealize.ShloMosaic.Lib.Pipeline.ReadBack
public import Idealize.ShloMosaic.Lib.Pointwise
/-!
# The scores of the second halves

The point `t` of the grid works at tokens `512 t` and on. At each of the eight heads it takes the products of the second
keys with the second half of the head's queries and stores them in four tiles of 128 tokens.
-/
@[expose] public section
set_option maxRecDepth 16384
noncomputable section
namespace Cert.Scores
open Idealize.ShloMosaic

/-- The score of key `k` for token `128 c + t` at head `h`. -/
def score (Q : FVec Ideal ⟨2, ![32768, 2048]⟩ .f32) (K : FVec Ideal ⟨2, ![128, 128]⟩ .f32) (h : Fin 8) (c : Fin 256) (k t : Fin 128) : EReal :=
  ∑ d : Fin 128, K (ix2 k d) * Q (ix2 (⟨128 * c.val + t.val, by omega⟩ : Fin 32768) (⟨256 * h.val + 128 + d.val, by omega⟩ : Fin 2048))

/-- The result. -/
def R (Q : FVec Ideal ⟨2, ![32768, 2048]⟩ .f32) (K : FVec Ideal ⟨2, ![128, 128]⟩ .f32) : FVec Ideal ⟨4, ![8, 256, 128, 128]⟩ .f32 :=
  fun i => score Q K (i 0) (i 1) (i 2) (i 3)
end Cert.Scores

namespace Cert.Kernel6Ideal.Proj
open Idealize.ShloMosaic Idealize.ShloMosaic.TcCoe Idealize.SL.Sem Cert.Kernel6Ideal Cert.Kernel6Ideal.Gen Cert.Scores

/-- The products of one head's queries with the keys, at one entry. -/
theorem pay3_ix (q : FVec Ideal S512x128 .f32) (w : FVec Ideal S128x128 .f32) (k : Fin 128) (t : Fin 512) :
    k0_pay3 (F := Ideal) q w (ix2 k t) = ∑ d : Fin 128, w (ix2 k d) * q (ix2 t d) := by
  pointwise [k0_pay3]

theorem pay4_ix (q : FVec Ideal S512x128 .f32) (w : FVec Ideal S128x128 .f32) (k t : Fin 128) :
    k0_pay4 (F := Ideal) q w (ix4 0 0 k t) = k0_pay3 (F := Ideal) q w (ix2 k (⟨128 * 0 + t.val, by omega⟩ : Fin 512)) := by
  pointwise [k0_pay4]
theorem pay1347_ix (v : FVec Ideal S128x512 .f32) (k t : Fin 128) :
    k0_pay1347 (F := Ideal) v (ix4 0 0 k t) = v (ix2 k (⟨128 * 1 + t.val, by omega⟩ : Fin 512)) := by
  pointwise [k0_pay1347]
theorem pay2693_ix (v : FVec Ideal S128x512 .f32) (k t : Fin 128) :
    k0_pay2693 (F := Ideal) v (ix4 0 0 k t) = v (ix2 k (⟨128 * 2 + t.val, by omega⟩ : Fin 512)) := by
  pointwise [k0_pay2693]
theorem pay4043_ix (v : FVec Ideal S128x512 .f32) (k t : Fin 128) :
    k0_pay4043 (F := Ideal) v (ix4 0 0 k t) = v (ix2 k (⟨128 * 3 + t.val, by omega⟩ : Fin 512)) := by
  pointwise [k0_pay4043]

/-- The score of key `k` for the block's token `128 c + t` at head `h`. -/
def tile (Q : FVec Ideal S512x2048 .f32) (K : FVec Ideal S128x128 .f32) (h c k t : ℕ) : EReal :=
  if hb : h < 8 ∧ c < 4 ∧ k < 128 ∧ t < 128 then
    ∑ d : Fin 128, K (ix2 (⟨k, hb.2.2.1⟩ : Fin 128) d) * Q (ix2 (⟨128 * c + t, by omega⟩ : Fin 512) (⟨256 * h + 128 + d.val, by omega⟩ : Fin 2048))
  else 0

/-- The heads before `n` are stored. -/
def DoneTo {κ : Kind} {sp : Space} (v : View sig κ sp S8x4x128x128 .f32) (f : ℕ → ℕ → ℕ → ℕ → EReal) (n : ℕ)
    (X : BufTy.Contents (Elt Ideal) v.ty) : Prop :=
  ∀ (h : Fin 8) (c : Fin 4) (k t : Fin 128), h.val < n → v.read (Elt Ideal) X (ix4 h c k t) = f h c k t

/-- Four tiles stored at one head. -/
theorem done_step {κ : Kind} {sp : Space} (v : View sig κ sp S8x4x128x128 .f32) (f : ℕ → ℕ → ℕ → ℕ → EReal) (n : ℕ)
    (X : BufTy.Contents (Elt Ideal) v.ty) (o0 o1 o2 o3 : Fin 4 → ℕ)
    (inb0 : ∀ a, o0 a + S1x1x128x128.size a ≤ S8x4x128x128.size a) (inb1 : ∀ a, o1 a + S1x1x128x128.size a ≤ S8x4x128x128.size a)
    (inb2 : ∀ a, o2 a + S1x1x128x128.size a ≤ S8x4x128x128.size a) (inb3 : ∀ a, o3 a + S1x1x128x128.size a ≤ S8x4x128x128.size a)
    (e0 : o0 = ![n, 0, 0, 0]) (e1 : o1 = ![n, 1, 0, 0]) (e2 : o2 = ![n, 2, 0, 0]) (e3 : o3 = ![n, 3, 0, 0])
    (p0 p1 p2 p3 : Vec Ideal S1x1x128x128 .f32)
    (h0 : ∀ k t : Fin 128, p0 (ix4 0 0 k t) = f n 0 k t) (h1 : ∀ k t : Fin 128, p1 (ix4 0 0 k t) = f n 1 k t)
    (h2 : ∀ k t : Fin 128, p2 (ix4 0 0 k t) = f n 2 k t) (h3 : ∀ k t : Fin 128, p3 (ix4 0 0 k t) = f n 3 k t)
    (hX : DoneTo v f n X) :
    DoneTo v f (n + 1) (v.writes (Elt Ideal) X
      [⟨Rect.unit (s := S8x4x128x128) o3 S1x1x128x128.size inb3, p3⟩, ⟨Rect.unit (s := S8x4x128x128) o2 S1x1x128x128.size inb2, p2⟩,
       ⟨Rect.unit (s := S8x4x128x128) o1 S1x1x128x128.size inb1, p1⟩, ⟨Rect.unit (s := S8x4x128x128) o0 S1x1x128x128.size inb0, p0⟩]) := by
  intro h c k t hn
  by_cases hh : h.val < n
  · rw [View.read_writes_cons_unit_of_not_mem v X inb3 p3 _ (ix4 h c k t) e3 0 (Or.inl hh),
      View.read_writes_cons_unit_of_not_mem v X inb2 p2 _ (ix4 h c k t) e2 0 (Or.inl hh),
      View.read_writes_cons_unit_of_not_mem v X inb1 p1 _ (ix4 h c k t) e1 0 (Or.inl hh),
      View.read_writes_cons_unit_of_not_mem v X inb0 p0 _ (ix4 h c k t) e0 0 (Or.inl hh)]
    exact hX h c k t hh
  · have hnn : h.val = n := by omega
    have hc := c.isLt
    by_cases c3 : c.val = 3
    · rw [View.read_writes_cons_unit_of_mem v X inb3 p3 _ (ix4 h c k t) (ix4 0 0 k t) e3
        (by intro a; fin_cases a <;> simp [ix4, hnn, c3])]
      exact (h3 k t).trans (by rw [hnn, c3])
    · rw [View.read_writes_cons_unit_of_not_mem v X inb3 p3 _ (ix4 h c k t) e3 1 (Or.inl (show c.val < 3 by omega))]
      by_cases c2 : c.val = 2
      · rw [View.read_writes_cons_unit_of_mem v X inb2 p2 _ (ix4 h c k t) (ix4 0 0 k t) e2
          (by intro a; fin_cases a <;> simp [ix4, hnn, c2])]
        exact (h2 k t).trans (by rw [hnn, c2])
      · rw [View.read_writes_cons_unit_of_not_mem v X inb2 p2 _ (ix4 h c k t) e2 1 (Or.inl (show c.val < 2 by omega))]
        by_cases c1 : c.val = 1
        · rw [View.read_writes_cons_unit_of_mem v X inb1 p1 _ (ix4 h c k t) (ix4 0 0 k t) e1
            (by intro a; fin_cases a <;> simp [ix4, hnn, c1])]
          exact (h1 k t).trans (by rw [hnn, c1])
        · have c0 : c.val = 0 := by omega
          rw [View.read_writes_cons_unit_of_not_mem v X inb1 p1 _ (ix4 h c k t) e1 1 (Or.inl (show c.val < 1 by omega)),
            View.read_writes_cons_unit_of_mem v X inb0 p0 _ (ix4 h c k t) (ix4 0 0 k t) e0
            (by intro a; fin_cases a <;> simp [ix4, hnn, c0])]
          exact (h0 k t).trans (by rw [hnn, c0])

section Heads
variable (𝒱 : Variants) (c : Dev nD) (bd : Option 𝒱.V) (i : grid0.Coords)
  (arg1 : Memref sig .tc .vmem S512x2048 .f32) (harg1 : arg1.IsWhole)
  (arg2 : Memref sig .tc .vmem S128x128 .f32) (harg2 : arg2.IsWhole)
  (arg3 : Memref sig .tc .vmem S128x128 .f32) (harg3 : arg3.IsWhole)
  (arg4 : Memref sig .tc .vmem S8x4x128x128 .f32) (harg4 : arg4.IsWhole)
  (arg5 : Memref sig .tc .vmem S8x4x128x128 .f32) (harg5 : arg5.IsWhole)
  (arg6 : Memref sig .tc .vmem S8x4x128x128 .f32) (harg6 : arg6.IsWhole)
  (arg7 : Memref sig .tc .vmem S8x1x512 .f32) (harg7 : arg7.IsWhole) (v0 : IVec S8x128 32)
  (X1 : BufTy.Contents (Elt Ideal) arg1.view.ty) (X2 : BufTy.Contents (Elt Ideal) arg2.view.ty)
  (X3 : BufTy.Contents (Elt Ideal) arg3.view.ty) {κ : Kind} {sp : Space} (v6 : View sig κ sp S8x4x128x128 .f32) (G6 : BufTy.Contents (Elt Ideal) v6.ty)

/-- One head's queries, their second half. -/
abbrev qAt (k : Fin k0_t1_loop.trips) : Vec Ideal S512x128 .f32 :=
  arg1.view.readAt (Elt Ideal) (Rect.unit (s := S512x2048) (k0_off2 k) S512x128.size (k0_off2_inb k)).toLoadRect X1
/-- The keys. -/
abbrev kAt : Vec Ideal S128x128 .f32 :=
  arg3.view.readAt (Elt Ideal) (Rect.unit (s := S128x128) ![0, 0] S128x128.size inb_S128x128_S128x128_0_0).toLoadRect X3

theorem qAt_ix (k : Fin k0_t1_loop.trips) (t : Fin 512) (d : Fin 128) (hs : 256 * k.val + 128 + d.val < 2048) :
    qAt arg1 X1 k (ix2 t d) = arg1.view.read (Elt Ideal) X1 (ix2 t (⟨256 * k.val + 128 + d.val, hs⟩ : Fin 2048)) := by
  show View.ld (arg1.view.read (Elt Ideal) X1) (Rect.unit (s := S512x2048) (k0_off2 k) S512x128.size (k0_off2_inb k)) (ix2 t d) = _
  exact View.ld_unit_apply_of _ _ _ _ _ _ (fun a => by
    show _ = k0_off2 k a + _
    have e := congrFun (k0_off2_eq k) a
    rw [e]; fin_cases a <;> simp [ix2])

theorem kAt_ix (k d : Fin 128) : kAt arg3 X3 (ix2 k d) = arg3.view.read (Elt Ideal) X3 (ix2 k d) := by
  show View.ld (arg3.view.read (Elt Ideal) X3) (Rect.unit (s := S128x128) ![0, 0] S128x128.size inb_S128x128_S128x128_0_0) (ix2 k d) = _
  exact View.ld_unit_apply_of _ _ _ _ _ _ (by intro a; fin_cases a <;> simp [ix2])

theorem prod_ix (n : Fin k0_t1_loop.trips) (c : ℕ) (hc : c < 4) (k t : Fin 128) (hct : 128 * c + t.val < 512) :
    k0_pay3 (F := Ideal) (qAt arg1 X1 n) (kAt arg3 X3) (ix2 k (⟨128 * c + t.val, hct⟩ : Fin 512))
      = tile (arg1.view.read (Elt Ideal) X1) (arg3.view.read (Elt Ideal) X3) n.val c k t := by
  have hn : n.val < 8 := n.isLt
  rw [pay3_ix]
  unfold tile
  rw [dif_pos ⟨hn, hc, k.isLt, t.isLt⟩]
  exact Finset.sum_congr rfl fun d _ => by rw [qAt_ix arg1 X1 n _ d (by omega), kAt_ix]

/-- What one head stores of the scores. -/
theorem trip_scores (k : Fin k0_t1_loop.trips) :
    (trip_k0_t1 (F := Ideal) 𝒱 c bd i arg1 harg1 arg2 harg2 arg3 harg3 arg4 harg4 arg5 harg5 arg6 harg6 arg7 harg7 v0 X1 X2 X3 k).2.2.1
      = [⟨Rect.unit (s := S8x4x128x128) (k0_off57 k) S1x1x128x128.size (k0_off57_inb k), k0_pay4043 (k0_pay3 (qAt arg1 X1 k) (kAt arg3 X3))⟩,
         ⟨Rect.unit (s := S8x4x128x128) (k0_off39 k) S1x1x128x128.size (k0_off39_inb k), k0_pay2693 (k0_pay3 (qAt arg1 X1 k) (kAt arg3 X3))⟩,
         ⟨Rect.unit (s := S8x4x128x128) (k0_off21 k) S1x1x128x128.size (k0_off21_inb k), k0_pay1347 (k0_pay3 (qAt arg1 X1 k) (kAt arg3 X3))⟩,
         ⟨Rect.unit (s := S8x4x128x128) (k0_off3 k) S1x1x128x128.size (k0_off3_inb k), k0_pay4 (qAt arg1 X1 k) (kAt arg3 X3)⟩] := by
  unfold trip_k0_t1
  rfl

theorem heads_done : ∀ n, n ≤ k0_t1_loop.trips →
    DoneTo v6 (tile (arg1.view.read (Elt Ideal) X1) (arg3.view.read (Elt Ideal) X3)) n (v6.writes (Elt Ideal) G6
      (pb_k0_t1 (F := Ideal) 𝒱 c bd i arg1 harg1 arg2 harg2 arg3 harg3 arg4 harg4 arg5 harg5 arg6 harg6 arg7 harg7 v0 X1 X2 X3 n).2.2.1)
  | 0, _ => fun h _ _ _ hs => by omega
  | n + 1, hn => by
    have ih := heads_done n (by omega)
    rw [pb_k0_t1_succ (F := Ideal) 𝒱 c bd i arg1 harg1 arg2 harg2 arg3 harg3 arg4 harg4 arg5 harg5 arg6 harg6 arg7 harg7 v0 X1 X2 X3 ⟨n, hn⟩]
    dsimp only
    rw [View.writes_append, trip_scores]
    refine done_step v6 _ n _ _ _ _ _ _ _ _ _ (k0_off3_eq ⟨n, hn⟩) (k0_off21_eq ⟨n, hn⟩) (k0_off39_eq ⟨n, hn⟩) (k0_off57_eq ⟨n, hn⟩) _ _ _ _
      (fun k t => ?_) (fun k t => ?_) (fun k t => ?_) (fun k t => ?_) ih
    · exact (pay4_ix _ _ k t).trans (prod_ix arg1 arg3 X1 X3 ⟨n, hn⟩ 0 (by omega) k t _)
    · exact (pay1347_ix _ k t).trans (prod_ix arg1 arg3 X1 X3 ⟨n, hn⟩ 1 (by omega) k t _)
    · exact (pay2693_ix _ k t).trans (prod_ix arg1 arg3 X1 X3 ⟨n, hn⟩ 2 (by omega) k t _)
    · exact (pay4043_ix _ k t).trans (prod_ix arg1 arg3 X1 X3 ⟨n, hn⟩ 3 (by omega) k t _)

theorem out5_ix (x0 : FVec Ideal S512x2048 .f32) (x1 x2 : FVec Ideal S128x128 .f32) (h : Fin 8) (cc : Fin 4) (k t : Fin 128) :
    out0_A_5 (F := Ideal) c i arg1 harg1 arg2 harg2 arg3 harg3 arg4 harg4 arg5 harg5 arg6 harg6 arg7 harg7 x0 x1 x2 (ix4 h cc k t)
      = tile x0 x2 h cc k t := by
  unfold out0_A_5
  have e := heads_done Variants.none c none i arg1 harg1 arg2 harg2 arg3 harg3 arg4 harg4 arg5 harg5 arg6 harg6 arg7 harg7
    (iota .tc S8x128 32 [0] iota_S8x128_d0_w32) (harg1.unread x0) (harg2.unread x1) (harg3.unread x2) VO0_5 VO0_5.junk
    k0_t1_loop.trips le_rfl h cc k t h.isLt
  rw [harg1.read_unread, harg3.read_unread] at e
  exact e
end Heads

variable (m : (ℓ : Loc nD τ sig) → Buf (Elt Ideal) ℓ) (ρ : Dev nD → PrngReg)

theorem idx0 (t : Fin cfg0.N) : win0_0.index t = ![t.val % 64, 0] :=
  (by decide +kernel : ∀ t : Fin grid0.N, win0_0.index t = ![t.val % 64, 0]) t
theorem idx2 (t : Fin cfg0.N) : win0_2.index t = ![0, 0] :=
  (by decide +kernel : ∀ t : Fin grid0.N, win0_2.index t = ![0, 0]) t
theorem idx5 (t : Fin cfg0.N) : win0_5.index t = ![0, t.val % 64, 0, 0] :=
  (by decide +kernel : ∀ t : Fin grid0.N, win0_5.index t = ![0, t.val % 64, 0, 0]) t

/-- The queries. -/
abbrev aQ (c : Dev nD) : FVec Ideal S32768x2048 .f32 := m ((c : Thread nD τ).loc main_arg0)
/-- The second keys. -/
abbrev aK (c : Dev nD) : FVec Ideal S128x128 .f32 := m ((c : Thread nD τ).loc main_arg2)

section Block
variable (c : Dev nD) (t : Fin cfg0.N)

theorem blk0 (r : Fin 512) (l : Fin 2048) :
    (iblk m c 0 t : FVec Ideal S512x2048 .f32) (ix2 r l) = aQ m c (ix2 (⟨512 * (t.val % 64) + r.val, by omega⟩ : Fin 32768) l) := by
  have hi := idx0 t
  unfold aQ
  blk_ext [iblk, V, hi]
theorem blk2 (k d : Fin 128) : (iblk m c 2 t : FVec Ideal S128x128 .f32) (ix2 k d) = aK m c (ix2 k d) := by
  have hi := idx2 t
  unfold aK
  blk_ext [iblk, V, hi]

/-- The tile of tokens of a point. -/
def cT (cc : Fin 4) : Fin 256 := ⟨4 * (t.val % 64) + cc.val, by omega⟩

theorem tile_eq (h : Fin 8) (cc : Fin 4) (k r : Fin 128) :
    tile (iblk m c 0 t) (iblk m c 2 t) h cc k r = score (aQ m c) (aK m c) h (cT t cc) k r := by
  unfold tile score
  rw [dif_pos ⟨h.isLt, cc.isLt, k.isLt, r.isLt⟩]
  refine Finset.sum_congr rfl fun d _ => ?_
  refine congrArg₂ (· * ·) (blk2 m c t k d) ((blk0 m c t _ _).trans ?_)
  exact congrArg (fun n => aQ m c (ix2 n _)) (Fin.ext (by
    show 512 * (t.val % 64) + (128 * cc.val + r.val) = 128 * (4 * (t.val % 64) + cc.val) + r.val
    omega))
end Block

theorem result (c : Dev nD) : (dats m 0 c).arrAt 5 (cfgs 0).N = R (aQ m c) (aK m c) := by
  refine (dats m 0 c).arrAt_eq_of_covers 5 _ (by decide +kernel) fun t hf y => ?_
  have hi := idx5 t
  blk_simp
  rw [after0_5]
  unfold outsAt0
  dsimp only
  have h0 : (y 0).val < 8 := (y 0).isLt
  have h1 : (y 1).val < 4 := (y 1).isLt
  have h2 : (y 2).val < 128 := (y 2).isLt
  have h3 : (y 3).val < 128 := (y 3).isLt
  have ey : y = ix4 (⟨(y 0).val, h0⟩ : Fin 8) (⟨(y 1).val, h1⟩ : Fin 4) (⟨(y 2).val, h2⟩ : Fin 128) (⟨(y 3).val, h3⟩ : Fin 128) := by
    funext a; match a with | ⟨0, _⟩ => rfl | ⟨1, _⟩ => rfl | ⟨2, _⟩ => rfl | ⟨3, _⟩ => rfl
  have e0 : (((win0_5.blk t).view.emb y) 0) = (⟨(y 0).val, h0⟩ : Fin 8) := Fin.ext (by blk_simp [hi])
  have v1 : (((win0_5.blk t).view.emb y) 1).val = 4 * (t.val % 64) + (y 1).val := by blk_simp [hi]; omega
  have e1 : (((win0_5.blk t).view.emb y) 1) = cT t ⟨(y 1).val, h1⟩ := Fin.ext v1
  have e2 : (((win0_5.blk t).view.emb y) 2) = (⟨(y 2).val, h2⟩ : Fin 128) := Fin.ext (by blk_simp [hi])
  have e3 : (((win0_5.blk t).view.emb y) 3) = (⟨(y 3).val, h3⟩ : Fin 128) := Fin.ext (by blk_simp [hi])
  show _ = score (aQ m c) (aK m c) (((win0_5.blk t).view.emb y) 0) (((win0_5.blk t).view.emb y) 1) (((win0_5.blk t).view.emb y) 2) (((win0_5.blk t).view.emb y) 3)
  rw [e0, e1, e2, e3, ← tile_eq]
  exact (congrArg _ ey).trans (out5_ix _ _ _ _ _ _ _ _ _ _ _ _ _ _ _ _ (iblk m c 0 t) (iblk m c 1 t) (iblk m c 2 t) _ _ _ _)

/-- The run of the call: the scores entry by entry, the arguments unchanged. -/
theorem kernel_value : θ_run defs (onTc (τ := τ) (main (F := Ideal))) ⟨m, fun _ => 0, ρ⟩ (fun r => ∀ c : Dev nD,
      r.2.mem ((c.tc : Thread nD τ).loc main_v0_2) = R (aQ m c) (aK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2.2.1.trans (result m c), (h c).2.2.2.2⟩) (Value.run_blocks m ρ)
end Cert.Kernel6Ideal.Proj

namespace Cert.Reference6Ideal.Proj
open Cert.Reference6Ideal Cert.Reference6Ideal.Gen Idealize.ShloMosaic Cert.Scores

/-- The reference's result. -/
def rS (Q : FVec Ideal S32768x2048 .f32) (K : FVec Ideal S128x128 .f32) : FVec Ideal S8x256x128x128 .f32 :=
  transpose S8x256x128x128 [3, 1, 0, 2] (Host.dotGeneral dot_S128x128_S256x128x8x128_S128x256x128x8_1_3_0_012_n_n none K
    (shapeCast S256x128x8x128 (extractStridedSlice S256x128x8x1x128 ![0, 0, 0, 1, 0]
      (shapeCast S256x128x8x2x128 Q shapeCasts_S32768x2048_S256x128x8x2x128) slices_S256x128x8x2x128_S256x128x8x1x128_0_0_0_1_0)
      shapeCasts_S256x128x8x1x128_S256x128x8x128)) transposes_S128x256x128x8_S8x256x128x128_3_1_0_2

theorem rS_eq (Q : FVec Ideal S32768x2048 .f32) (K : FVec Ideal S128x128 .f32) : rS Q K = R Q K := by
  have h : ∀ (h : Fin 8) (c : Fin 256) (k t : Fin 128), rS Q K (ix4 h c k t) = score Q K h c k t := by
    intro h c k t
    pointwise [rS, score]
    refine Finset.sum_congr rfl fun d _ => congrArg (K (ix2 k d) * ·) (congrArg₂ (fun a b => Q (ix2 a b)) (Fin.ext ?_) (Fin.ext ?_))
    · show c.val * 128 + t.val = 128 * c.val + t.val
      omega
    · show h.val * 256 + 128 + d.val = 256 * h.val + 128 + d.val
      omega
  funext i
  have e : i = ix4 (i 0 : Fin 8) (i 1 : Fin 256) (i 2 : Fin 128) (i 3 : Fin 128) := by
    funext a; match a with | ⟨0, _⟩ => rfl | ⟨1, _⟩ => rfl | ⟨2, _⟩ => rfl | ⟨3, _⟩ => rfl
  exact (congrArg _ e).trans (h _ _ _ _)
end Cert.Reference6Ideal.Proj
end
-- ==== Proof.lean ====
/-
The certificate: every claim of the problem, assembled from its modules.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.IdealFrame
public import proofs.«01_k».proof.Proof.KernelFrame
public import proofs.«01_k».proof.Proof.Gen.Pre_finite
public import proofs.«01_k».proof.Proof.LaunchV
public import proofs.«01_k».proof.Proof.RefValue
public import proofs.«01_k».proof.Proof.Finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Val2
public import proofs.«01_k».proof.Proof.Ref2
public import proofs.«01_k».proof.Proof.Val3
public import proofs.«01_k».proof.Proof.Ref3
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Ada
public import proofs.«01_k».proof.Proof.Cumsum
public import proofs.«01_k».proof.Proof.Scores
public import Idealize.ShloMosaic.Adequacy
public import Idealize.ShloMosaic.Init

@[expose] public section

noncomputable section

namespace Cert.Proof

open Idealize.ShloMosaic Idealize.SL.Sem Cert.Kernel

/-- The reference's frame: a host program with no semaphores. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The attention's two named constants. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

/-- The reference's frame, under the precondition of the value claim. -/
theorem frame_ri_finite : Cert.quiescent_ReferenceIdeal_pre_finite := fun m ρ _ => frame_ri m ρ trivial

/-- The two runs leave the same result: both leave the attention's. -/
theorem algebraic : Cert.algebraic_KernelIdeal_ReferenceIdeal_pre_finite := by
  intro m g m' g' hpre hagree
  have hr : ∀ c : Dev Cert.KernelIdeal.nD, Cert.KernelIdeal.Fox.RealArgs (Cert.KernelIdeal.Fox.argA m c) (Cert.KernelIdeal.Fox.argC m c) :=
    fun c => Cert.KernelIdeal.Fox.real_args _ _ (hpre c)
  refine ⟨fun c => Cert.KernelIdeal.Fox.foxV (Cert.KernelIdeal.Fox.argA m c) (Cert.KernelIdeal.Fox.argC m c),
    Cert.KernelIdeal.Fox.kernel_value m g hr, ?_⟩
  refine (θ_run Cert.ReferenceIdeal.defs _ _).mono (fun r h c => ⟨(h c).1.trans ?_, (h c).2⟩)
    (Cert.ReferenceIdeal.Value.run (F := Ideal) m' g')
  rw [Cert.ReferenceIdeal.Fox.res_eq, (hagree c).1, (hagree c).2]
  exact Cert.ReferenceIdeal.Fox.ref_value (hr c)

/-- The frame of the input projection's reference. -/
theorem frame_ri2 : Cert.quiescent_Reference2Ideal := fun m ρ _ =>
  (θ_run Cert.Reference2Ideal.defs _ _).mono (fun r h => ⟨fun c => (h c).2.2.2.2.2,
      Idealize.ShloMosaic.sem_eq_zero_of_no_sems (by decide) r.2⟩)
    (Cert.Reference2Ideal.Value.run (F := Ideal) m ρ)

/-- The input projection and its reference leave the same results. -/
theorem algebraic2 : Cert.algebraic_Kernel2Ideal_Reference2Ideal := by
  intro m g m' g' _ hagree
  have ho : ∀ c : Dev Cert.Kernel2Ideal.nD, Cert.Reference2Ideal.Proj.ops m' c = Cert.Kernel2Ideal.Proj.ops m c := by
    intro c
    unfold Cert.Reference2Ideal.Proj.ops Cert.Kernel2Ideal.Proj.ops
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  refine ⟨fun c => (Cert.Kernel2Ideal.Proj.ops m c).R0, fun c => (Cert.Kernel2Ideal.Proj.ops m c).R1, fun c => (Cert.Kernel2Ideal.Proj.ops m c).R2, fun c => (Cert.Kernel2Ideal.Proj.ops m c).R3, fun c => (Cert.Kernel2Ideal.Proj.ops m c).R4, Cert.Kernel2Ideal.Proj.kernel_value m g, ?_⟩
  exact (θ_run Cert.Reference2Ideal.defs _ _).mono (fun r h c => ⟨(h c).1.trans (by rw [ho c]), (h c).2.1.trans (by rw [ho c]), (h c).2.2.1.trans (by rw [ho c]), (h c).2.2.2.1.trans (by rw [ho c]), (h c).2.2.2.2.1.trans (by rw [ho c]), (h c).2.2.2.2.2⟩)
    (Cert.Reference2Ideal.Proj.ref_value m' g')

/-- The input projection's one named constant. -/
theorem preserves2 : Cert.preserves_Kernel2_Kernel2Ideal :=
  IdealRules.named_const.statement Cert.Kernel2Ideal.κ "qscale" .f32 0x3E38AA3B#32 (((8 * (Real.log 2))⁻¹ : ℝ) : EReal) rfl

/-- The frame of the output projection's reference. -/
theorem frame_ri3 : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- The output projection and its reference leave the same results. -/
theorem algebraic3 : Cert.algebraic_Kernel3Ideal_Reference3Ideal := by
  intro m g m' g' _ hagree
  have ho : ∀ c : Dev Cert.Kernel3Ideal.nD, Cert.Reference3Ideal.Proj.ops m' c = Cert.Kernel3Ideal.Proj.ops m c := by
    intro c
    unfold Cert.Reference3Ideal.Proj.ops Cert.Kernel3Ideal.Proj.ops
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  refine ⟨fun c => (Cert.Kernel3Ideal.Proj.ops m c).R0, fun c => (Cert.Kernel3Ideal.Proj.ops m c).R1, fun c => (Cert.Kernel3Ideal.Proj.ops m c).R2, Cert.Kernel3Ideal.Proj.kernel_value m g, ?_⟩
  exact (θ_run Cert.Reference3Ideal.defs _ _).mono (fun r h c => ⟨(h c).1.trans (by rw [ho c]), (h c).2.1.trans (by rw [ho c]), (h c).2.2.1.trans (by rw [ho c]), (h c).2.2.2⟩)
    (Cert.Reference3Ideal.Proj.ref_value m' g')

/-- The frame of the modulation vectors' reference. -/
theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The modulation vectors' call and its reference leave the same result. -/
theorem algebraic4 : Cert.algebraic_Kernel4Ideal_Reference4Ideal := by
  intro m g m' g' _ hagree
  refine ⟨fun c => Cert.Ada.R (Cert.Kernel4Ideal.Proj.aC m c) (Cert.Kernel4Ideal.Proj.aW m c) (Cert.Kernel4Ideal.Proj.aB m c),
    Cert.Kernel4Ideal.Proj.kernel_value m g, ?_⟩
  refine (θ_run Cert.Reference4Ideal.defs _ _).mono (fun r h c => ⟨(h c).1.trans ?_, (h c).2⟩)
    (Cert.Reference4Ideal.Value.run (F := Ideal) m' g')
  rw [(hagree c).1, (hagree c).2.1, (hagree c).2.2]
  exact Cert.Reference4Ideal.Proj.rA_eq _ _ _

/-- The frame of the running sums' reference. -/
theorem frame_ri5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The running sums' call and its reference leave the same result. -/
theorem algebraic5 : Cert.algebraic_Kernel5Ideal_Reference5Ideal := by
  intro m g m' g' _ hagree
  refine ⟨fun c => Cert.Cumsum.R (Cert.Kernel5Ideal.Proj.aX m c), Cert.Kernel5Ideal.Proj.kernel_value m g, ?_⟩
  refine (θ_run Cert.Reference5Ideal.defs _ _).mono (fun r h c => ⟨(h c).1.trans ?_, (h c).2⟩)
    (Cert.Reference5Ideal.Value.run (F := Ideal) m' g')
  rw [hagree c]
  exact Cert.Reference5Ideal.Proj.rX_eq _

/-- The frame of the scores' reference. -/
theorem frame_ri6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The scores' call and its reference leave the same result. -/
theorem algebraic6 : Cert.algebraic_Kernel6Ideal_Reference6Ideal := by
  intro m g m' g' _ hagree
  refine ⟨fun c => Cert.Scores.R (Cert.Kernel6Ideal.Proj.aQ m c) (Cert.Kernel6Ideal.Proj.aK m c), Cert.Kernel6Ideal.Proj.kernel_value m g, ?_⟩
  refine (θ_run Cert.Reference6Ideal.defs _ _).mono (fun r h c => ⟨(h c).1.trans ?_, (h c).2⟩)
    (Cert.Reference6Ideal.Value.run (F := Ideal) m' g')
  rw [(hagree c).1, (hagree c).2.2]
  exact Cert.Reference6Ideal.Proj.rS_eq _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts,
  fun m ρ _ => Cert.Kernel.Launch.frame m ρ,
  fun m ρ _ => Cert.KernelIdeal.Launch.frame m ρ,
  fun m ρ _ => Cert.KernelIdeal.Launch.frame m ρ,
  frame_ri,
  frame_ri_finite,
  fun m ρ _ => Cert.Kernel2.Gen.frame m ρ,
  fun m ρ _ => Cert.Kernel2Ideal.Gen.frame m ρ,
  frame_ri2,
  fun m ρ _ => Cert.Kernel3.Gen.frame m ρ,
  fun m ρ _ => Cert.Kernel3Ideal.Gen.frame m ρ,
  frame_ri3,
  fun m ρ _ => Cert.Kernel4.Gen.frame m ρ,
  fun m ρ _ => Cert.Kernel4Ideal.Gen.frame m ρ,
  frame_ri4,
  fun m ρ _ => Cert.Kernel5.Gen.frame m ρ,
  fun m ρ _ => Cert.Kernel5Ideal.Gen.frame m ρ,
  frame_ri5,
  fun m ρ _ => Cert.Kernel6.Gen.frame m ρ,
  fun m ρ _ => Cert.Kernel6Ideal.Gen.frame m ρ,
  frame_ri6,
  preserves,
  algebraic,
  preserves2,
  algebraic2,
  trivial,
  algebraic3,
  trivial,
  algebraic4,
  trivial,
  algebraic5,
  trivial,
  algebraic6⟩

end Cert.Proof

end
